-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_bounded [hPre_bounded : Cert.Pre_bounded.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_bounded.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_bounded [hPre_bounded : Cert.Pre_bounded.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_bounded.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_bounded [hKernel6Ideal : Cert.Kernel6Ideal.Facts] [hPre_bounded : Cert.Pre_bounded.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_bounded m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_bounded [hReference6Ideal : Cert.Reference6Ideal.Facts] [hPre_bounded : Cert.Pre_bounded.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_bounded m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)) (v2 : (c : Dev Cert.KernelIdeal.nD) → Buf (Elt Ideal) ((c.tc : Thread Cert.KernelIdeal.nD Cert.KernelIdeal.τ).loc Cert.KernelIdeal.main_v63_2)) (v3 : (c : Dev Cert.KernelIdeal.nD) → Buf (Elt Ideal) ((c.tc : Thread Cert.KernelIdeal.nD Cert.KernelIdeal.τ).loc Cert.KernelIdeal.main_v63_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_v63_2) = v2 c
          ∧ r.2.mem ((c.tc : Thread Cert.KernelIdeal.nD Cert.KernelIdeal.τ).loc Cert.KernelIdeal.main_v63_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_bounded [hKernel6Ideal : Cert.Kernel6Ideal.Facts] [hReference6Ideal : Cert.Reference6Ideal.Facts] [hPre_bounded : Cert.Pre_bounded.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_bounded m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_v9) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_bounded : Cert.Pre_bounded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_bounded (hKernel6Ideal := hKernel6Ideal) (hPre_bounded := hPre_bounded)
    ∧ quiescent_Reference6Ideal (hReference6Ideal := hReference6Ideal)
    ∧ quiescent_Reference6Ideal_pre_bounded (hReference6Ideal := hReference6Ideal) (hPre_bounded := hPre_bounded)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_bounded (hKernel6Ideal := hKernel6Ideal) (hReference6Ideal := hReference6Ideal) (hPre_bounded := hPre_bounded)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_bounded.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .bf16) (main_arg1 : FVec F S2816x1024 .bf16) (main_arg2 : FVec F S4096x2816 .f32) (main_arg3 : FVec F S4096x2816 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S4096x2816 .f32 := Host.absf main_arg3
  let main_cst_2 : FVec F S_ .f32 := constant S_ .f32 0x7F800000#32
  let main_v12 : FVec F S4096x2816 .f32 := broadcastInDim S4096x2816 ![] bcast_S_S4096x2816 main_cst_2
  let main_v13 : IVec S4096x2816 1 := cmpf .olt main_v11 main_v12
  let main_c_3 : IVec S_ 1 := constantI S_ 1 1#1
  let main_v14 : IVec S_ 1 := (fun x v => Host.reduce IntOp.andi x v reducesTo_S4096x2816_S_d0_1 h_S_) main_v13 main_c_3
  let main_v15 : IVec S_ 1 := andi main_v10 main_v14
  main_v15
-- ==== Pre_finite.lean ====
abbrev S4096x1536 : Shape := ⟨2, ![4096, 1536]⟩
abbrev S4096x6144 : Shape := ⟨2, ![4096, 6144]⟩
abbrev S1x16 : Shape := ⟨2, ![1, 16]⟩
abbrev S4096x1024 : Shape := ⟨2, ![4096, 1024]⟩
abbrev S_ : Shape := ⟨0, ![]⟩
abbrev S4096x16 : Shape := ⟨2, ![4096, 16]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  slices_S4096x6144_S4096x16_0_1536 : S4096x6144.Slices ![0, 1536] S4096x16
  bcast_S_S4096x16 : S_.BroadcastsInDim S4096x16 (![] : Fin 0 → Fin S4096x16.rank)
  reducesTo_S4096x16_S_d0_1 : S4096x16.ReducesTo [0, 1] S_
  bcast_S_S1x16 : S_.BroadcastsInDim S1x16 (![] : Fin 0 → Fin S1x16.rank)
  reducesTo_S1x16_S_d0_1 : S1x16.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v14 : IVec S_ 1) (main_v15 : FVec F S1x16 .f32) (main_v16 : FVec F S1x16 .f32) : IVec S_ 1 :=
  let main_v17 : IVec S1x16 1 := cmpf .olt main_v15 main_v16
  let main_c_5 : IVec S_ 1 := constantI S_ 1 1#1
  let main_v18 : IVec S_ 1 := (fun x v => Host.reduce IntOp.andi x v reducesTo_S1x16_S_d0_1 h_S_) main_v17 main_c_5
  let main_v19 : IVec S_ 1 := andi main_v14 main_v18
  let main_v20 : FVec F S4096x1024 .f32 := Host.absf main_arg4
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v19 main_v23
  main_v24

def fn {F : FTy → Type} [FloatOps F] (main_arg0 : FVec F S4096x1536 .f32) (main_arg1 : FVec F S4096x6144 .f32) (main_arg2 : FVec F S1x16 .f32) (main_arg3 : FVec F S1x16 .f32) (main_arg4 : FVec F S4096x1024 .f32) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S4096x16 .f32 := (extractStridedSlice S4096x16 ![0, 1536] · slices_S4096x6144_S4096x16_0_1536) main_arg1
  let main_v5 : FVec F S4096x16 .f32 := Host.absf main_v4
  let main_cst_0 : FVec F S_ .f32 := constant S_ .f32 0x7F800000#32
  let main_v6 : FVec F S4096x16 .f32 := broadcastInDim S4096x16 ![] bcast_S_S4096x16 main_cst_0
  let main_v7 : IVec S4096x16 1 := cmpf .olt main_v5 main_v6
  let main_c_1 : IVec S_ 1 := constantI S_ 1 1#1
  let main_v8 : IVec S_ 1 := (fun x v => Host.reduce IntOp.andi x v reducesTo_S4096x16_S_d0_1 h_S_) main_v7 main_c_1
  let main_v9 : IVec S_ 1 := andi main_v3 main_v8
  let main_v10 : FVec F S1x16 .f32 := Host.absf main_arg2
  let main_cst_2 : FVec F S_ .f32 := constant S_ .f32 0x7F800000#32
  let main_v11 : FVec F S1x16 .f32 := broadcastInDim S1x16 ![] bcast_S_S1x16 main_cst_2
  let main_v12 : IVec S1x16 1 := cmpf .olt main_v10 main_v11
  let main_c_3 : IVec S_ 1 := constantI S_ 1 1#1
  let main_v13 : IVec S_ 1 := (fun x v => Host.reduce IntOp.andi x v reducesTo_S1x16_S_d0_1 h_S_) main_v12 main_c_3
  let main_v14 : IVec S_ 1 := andi main_v9 main_v13
  let main_v15 : FVec F S1x16 .f32 := Host.absf main_arg3
  let main_cst_4 : FVec F S_ .f32 := constant S_ .f32 0x7F800000#32
  let main_v16 : FVec F S1x16 .f32 := broadcastInDim S1x16 ![] bcast_S_S1x16 main_cst_4
  fn_part1 (F := F) main_arg4 main_v14 main_v15 main_v16
-- ==== Kernel.lean ====
abbrev S4096x1536 : Shape := ⟨2, ![4096, 1536]⟩
abbrev S4096x6144 : Shape := ⟨2, ![4096, 6144]⟩
abbrev S1x16 : Shape := ⟨2, ![1, 16]⟩
abbrev S4096x1024 : Shape := ⟨2, ![4096, 1024]⟩
abbrev S1x16x64 : Shape := ⟨3, ![1, 16, 64]⟩
abbrev S1x1024 : Shape := ⟨2, ![1, 1024]⟩
abbrev S128 : Shape := ⟨1, ![128]⟩
abbrev S128x1 : Shape := ⟨2, ![128, 1]⟩
abbrev S1024 : Shape := ⟨1, ![1024]⟩
abbrev S_ : Shape := ⟨0, ![]⟩
abbrev S128x1024 : Shape := ⟨2, ![128, 1024]⟩
abbrev S4096x128 : Shape := ⟨2, ![4096, 128]⟩
abbrev S4096x2x8x64 : Shape := ⟨4, ![4096, 2, 8, 64]⟩
abbrev S4096x256 : Shape := ⟨2, ![4096, 256]⟩
abbrev S4096x2x128 : Shape := ⟨3, ![4096, 2, 128]⟩
abbrev S4096x16 : Shape := ⟨2, ![4096, 16]⟩
abbrev S4096x2x8 : Shape := ⟨3, ![4096, 2, 8]⟩
abbrev S4096x2x8x1 : Shape := ⟨4, ![4096, 2, 8, 1]⟩
abbrev S1x2x8 : Shape := ⟨3, ![1, 2, 8]⟩
abbrev S31x2x8 : Shape := ⟨3, ![31, 2, 8]⟩
abbrev S32x2x8 : Shape := ⟨3, ![32, 2, 8]⟩
abbrev S4096 : Shape := ⟨1, ![4096]⟩
abbrev S1x4096 : Shape := ⟨2, ![1, 4096]⟩
abbrev S32 : Shape := ⟨1, ![32]⟩
abbrev S32x1 : Shape := ⟨2, ![32, 1]⟩
abbrev S32x4096 : Shape := ⟨2, ![32, 4096]⟩
abbrev S32x4096x1x1 : Shape := ⟨4, ![32, 4096, 1, 1]⟩
abbrev S32x1x2x8 : Shape := ⟨4, ![32, 1, 2, 8]⟩
abbrev S1x4096x2x8 : Shape := ⟨4, ![1, 4096, 2, 8]⟩
abbrev S32x4096x2x8 : Shape := ⟨4, ![32, 4096, 2, 8]⟩
abbrev S32x4096x2x8x1 : Shape := ⟨5, ![32, 4096, 2, 8, 1]⟩
abbrev S1x4096x2x8x64 : Shape := ⟨5, ![1, 4096, 2, 8, 64]⟩
abbrev S32x4096x2x8x64 : Shape := ⟨5, ![32, 4096, 2, 8, 64]⟩
abbrev S2x32x8x64x128 : Shape := ⟨5, ![2, 32, 8, 64, 128]⟩
abbrev S32x128x2x8x64 : Shape := ⟨5, ![32, 128, 2, 8, 64]⟩
abbrev S32x128x1024 : Shape := ⟨3, ![32, 128, 1024]⟩
abbrev S8x1024 : Shape := ⟨2, ![8, 1024]⟩
abbrev S128x1536 : Shape := ⟨2, ![128, 1536]⟩
abbrev S128x128 : Shape := ⟨2, ![128, 128]⟩
abbrev S1x128x1024 : Shape := ⟨3, ![1, 128, 1024]⟩
abbrev S128x256 : Shape := ⟨2, ![128, 256]⟩
abbrev S128x512 : Shape := ⟨2, ![128, 512]⟩
abbrev S256x128 : Shape := ⟨2, ![256, 128]⟩
abbrev S1x512 : Shape := ⟨2, ![1, 512]⟩
abbrev S8x128 : Shape := ⟨2, ![8, 128]⟩

abbrev nBuf : Space → Nat
  | .hbm => 110
  | .vmem => 18
  | .smem => 0
  | _ => 0

abbrev bufTy : (tb : Table) → Fin (tcTables nBuf tb) → BufTy
  | .hbm, ⟨0, _⟩ => ⟨S4096x1536, .f32⟩
  | .hbm, ⟨1, _⟩ => ⟨S4096x6144, .f32⟩
  | .hbm, ⟨2, _⟩ => ⟨S1x16, .f32⟩
  | .hbm, ⟨3, _⟩ => ⟨S1x16, .f32⟩
  | .hbm, ⟨4, _⟩ => ⟨S4096x1024, .f32⟩
  | .hbm, ⟨5, _⟩ => ⟨S1x16x64, .f32⟩
  | .hbm, ⟨6, _⟩ => ⟨S1x1024, .f32⟩
  | .hbm, ⟨7, _⟩ => ⟨S1x16x64, .f32⟩
  | .hbm, ⟨8, _⟩ => ⟨S1x1024, .f32⟩
  | .hbm, ⟨9, _⟩ => ⟨S128, .i32⟩
  | .hbm, ⟨10, _⟩ => ⟨S128x1, .i32⟩
  | .hbm, ⟨11, _⟩ => ⟨S1024, .i32⟩
  | .hbm, ⟨12, _⟩ => ⟨S1x1024, .i32⟩
  | .hbm, ⟨13, _⟩ => ⟨S_, .i32⟩
  | .hbm, ⟨14, _⟩ => ⟨S_, .i32⟩
  | .hbm, ⟨15, _⟩ => ⟨S1x1024, .i32⟩
  | .hbm, ⟨16, _⟩ => ⟨S1x1024, .i32⟩
  | .hbm, ⟨17, _⟩ => ⟨S1x1024, .i32⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S1x1024, .i32⟩
  | .hbm, ⟨22, _⟩ => ⟨S1x1024, .i32⟩
  | .hbm, ⟨23, _⟩ => ⟨S_, .i32⟩
  | .hbm, ⟨24, _⟩ => ⟨S1x1024, .i32⟩
  | .hbm, ⟨25, _⟩ => ⟨S1x1024, .i1⟩
  | .hbm, ⟨26, _⟩ => ⟨S1x1024, .i1⟩
  | .hbm, ⟨27, _⟩ => ⟨S_, .i32⟩
  | .hbm, ⟨28, _⟩ => ⟨S1x1024, .i32⟩
  | .hbm, ⟨29, _⟩ => ⟨S1x1024, .i32⟩
  | .hbm, ⟨30, _⟩ => ⟨S1x1024, .i32⟩
  | .hbm, ⟨31, _⟩ => ⟨S128x1024, .i32⟩
  | .hbm, ⟨32, _⟩ => ⟨S128x1024, .i32⟩
  | .hbm, ⟨33, _⟩ => ⟨S128x1024, .i1⟩
  | .hbm, ⟨34, _⟩ => ⟨S128x1024, .bf16⟩
  | .hbm, ⟨35, _⟩ => ⟨S4096x128, .f32⟩
  | .hbm, ⟨36, _⟩ => ⟨S4096x1024, .f32⟩
  | .hbm, ⟨37, _⟩ => ⟨S4096x2x8x64, .f32⟩
  | .hbm, ⟨38, _⟩ => ⟨S4096x256, .f32⟩
  | .hbm, ⟨39, _⟩ => ⟨S4096x2x128, .f32⟩
  | .hbm, ⟨40, _⟩ => ⟨S4096x256, .f32⟩
  | .hbm, ⟨41, _⟩ => ⟨S4096x2x128, .f32⟩
  | .hbm, ⟨42, _⟩ => ⟨S4096x16, .f32⟩
  | .hbm, ⟨43, _⟩ => ⟨S4096x16, .f32⟩
  | .hbm, ⟨44, _⟩ => ⟨S4096x16, .f32⟩
  | .hbm, ⟨45, _⟩ => ⟨S_, .f32⟩
  | .hbm, ⟨46, _⟩ => ⟨S4096x16, .f32⟩
  | .hbm, ⟨47, _⟩ => ⟨S4096x16, .f32⟩
  | .hbm, ⟨48, _⟩ => ⟨S4096x16, .f32⟩
  | .hbm, ⟨49, _⟩ => ⟨S4096x16, .f32⟩
  | .hbm, ⟨50, _⟩ => ⟨S4096x16, .i1⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S4096x16, .f32⟩
  | .hbm, ⟨55, _⟩ => ⟨S4096x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S1x16, .f32⟩
  | .hbm, ⟨60, _⟩ => ⟨S1x16, .f32⟩
  | .hbm, ⟨61, _⟩ => ⟨S4096x2x8, .f32⟩
  | .hbm, ⟨62, _⟩ => ⟨S4096x2x8x1, .f32⟩
  | .hbm, ⟨63, _⟩ => ⟨S4096x2x8x64, .f32⟩
  | .hbm, ⟨64, _⟩ => ⟨S4096x2x8x64, .f32⟩
  | .hbm, ⟨65, _⟩ => ⟨S4096x16, .f32⟩
  | .hbm, ⟨66, _⟩ => ⟨S4096x16, .f32⟩
  | .hbm, ⟨67, _⟩ => ⟨S_, .f32⟩
  | .hbm, ⟨68, _⟩ => ⟨S_, .f32⟩
  | .hbm, ⟨69, _⟩ => ⟨S4096x16, .f32⟩
  | .hbm, ⟨70, _⟩ => ⟨S4096x2x8, .f32⟩
  | .hbm, ⟨71, _⟩ => ⟨S1x2x8, .f32⟩
  | .hbm, ⟨72, _⟩ => ⟨S_, .f32⟩
  | .hbm, ⟨73, _⟩ => ⟨S1x2x8, .f32⟩
  | .hbm, ⟨74, _⟩ => ⟨S31x2x8, .f32⟩
  | .hbm, ⟨75, _⟩ => ⟨S32x2x8, .f32⟩
  | .hbm, ⟨76, _⟩ => ⟨S4096, .i32⟩
  | .hbm, ⟨77, _⟩ => ⟨S1x4096, .i32⟩
  | .hbm, ⟨78, _⟩ => ⟨S32, .i32⟩
  | .hbm, ⟨79, _⟩ => ⟨S32x1, .i32⟩
  | .hbm, ⟨80, _⟩ => ⟨S_, .i32⟩
  | .hbm, ⟨81, _⟩ => ⟨S32x1, .i32⟩
  | .hbm, ⟨82, _⟩ => ⟨S32x1, .i32⟩
  | .hbm, ⟨83, _⟩ => ⟨S32x4096, .i32⟩
  | .hbm, ⟨84, _⟩ => ⟨S32x4096, .i32⟩
  | .hbm, ⟨85, _⟩ => ⟨S32x4096, .i1⟩
  | .hbm, ⟨86, _⟩ => ⟨S32x4096x1x1, .i1⟩
  | .hbm, ⟨87, _⟩ => ⟨S32x1x2x8, .f32⟩
  | .hbm, ⟨88, _⟩ => ⟨S1x4096x2x8, .f32⟩
  | .hbm, ⟨89, _⟩ => ⟨S32x4096x2x8, .f32⟩
  | .hbm, ⟨90, _⟩ => ⟨S32x4096x2x8, .f32⟩
  | .hbm, ⟨91, _⟩ => ⟨S32x4096x2x8, .f32⟩
  | .hbm, ⟨92, _⟩ => ⟨S_, .f32⟩
  | .hbm, ⟨93, _⟩ => ⟨S_, .f32⟩
  | .hbm, ⟨94, _⟩ => ⟨S32x4096x2x8, .i1⟩
  | .hbm, ⟨95, _⟩ => ⟨S32x4096x2x8, .f32⟩
  | .hbm, ⟨96, _⟩ => ⟨S32x4096x2x8, .f32⟩
  | .hbm, ⟨97, _⟩ => ⟨S32x4096x2x8, .f32⟩
  | .hbm, ⟨98, _⟩ => ⟨S32x4096x2x8x1, .f32⟩
  | .hbm, ⟨99, _⟩ => ⟨S1x4096x2x8x64, .f32⟩
  | .hbm, ⟨100, _⟩ => ⟨S32x4096x2x8x64, .f32⟩
  | .hbm, ⟨101, _⟩ => ⟨S32x4096x2x8x64, .f32⟩
  | .hbm, ⟨102, _⟩ => ⟨S32x4096x2x8x64, .f32⟩
  | .hbm, ⟨103, _⟩ => ⟨S2x32x8x64x128, .f32⟩
  | .hbm, ⟨104, _⟩ => ⟨S32x128x2x8x64, .f32⟩
  | .hbm, ⟨105, _⟩ => ⟨S32x128x1024, .f32⟩
  | .hbm, ⟨106, _⟩ => ⟨S4096x1536, .f32⟩
  | .hbm, ⟨107, _⟩ => ⟨S4096x128, .f32⟩
  | .hbm, ⟨108, _⟩ => ⟨S8x1024, .f32⟩
  | .hbm, ⟨109, _⟩ => ⟨S8x1024, .f32⟩
  | .local _ .vmem, ⟨0, _⟩ => ⟨S128x1536, .f32⟩
  | .local _ .vmem, ⟨1, _⟩ => ⟨S128x1536, .f32⟩
  | .local _ .vmem, ⟨2, _⟩ => ⟨S128x128, .f32⟩
  | .local _ .vmem, ⟨3, _⟩ => ⟨S128x128, .f32⟩
  | .local _ .vmem, ⟨4, _⟩ => ⟨S128x1024, .bf16⟩
  | .local _ .vmem, ⟨5, _⟩ => ⟨S1x1024, .f32⟩
  | .local _ .vmem, ⟨6, _⟩ => ⟨S1x1024, .f32⟩
  | .local _ .vmem, ⟨7, _⟩ => ⟨S128x1024, .f32⟩
  | .local _ .vmem, ⟨8, _⟩ => ⟨S128x1024, .f32⟩
  | .local _ .vmem, ⟨9, _⟩ => ⟨S1x128x1024, .f32⟩
  | .local _ .vmem, ⟨10, _⟩ => ⟨S1x128x1024, .f32⟩
  | .local _ .vmem, ⟨11, _⟩ => ⟨S128x1536, .f32⟩
  | .local _ .vmem, ⟨12, _⟩ => ⟨S128x1536, .f32⟩
  | .local _ .vmem, ⟨13, _⟩ => ⟨S128x128, .f32⟩
  | .local _ .vmem, ⟨14, _⟩ => ⟨S128x128, .f32⟩
  | .local _ .vmem, ⟨15, _⟩ => ⟨S8x1024, .f32⟩
  | .local _ .vmem, ⟨16, _⟩ => ⟨S8x1024, .f32⟩
  | .local _ .vmem, ⟨17, _⟩ => ⟨S128x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call2_call0_cst : Ref sig .tc := ⟨.hbm, 67, rfl⟩
abbrev main_call2_call0_v0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_0 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_1 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63_0 : Ref sig .tc := ⟨.hbm, 106, rfl⟩
abbrev main_v63_1 : Ref sig .tc := ⟨.hbm, 107, rfl⟩
abbrev main_v63_2 : Ref sig .tc := ⟨.hbm, 108, rfl⟩
abbrev main_v63_3 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v972 : BitVec 1 := Scalar.cmpi .eq arg0 c31_i32
  let v973 : BitVec 32 := Scalar.extui v972
  let c0_i32_261 : BitVec 32 := 0#32
  let v974 : BitVec 1 := Scalar.cmpi .ne v973 c0_i32_261
  v974

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c12_i32 : BitVec 32 := 12#32
  let c0_i32 : BitVec 32 := 0#32
  ![v0.toNat, c12_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x1536 : Shape := ⟨2, ![4096, 1536]⟩
abbrev S4096x6144 : Shape := ⟨2, ![4096, 6144]⟩
abbrev S1x16 : Shape := ⟨2, ![1, 16]⟩
abbrev S4096x1024 : Shape := ⟨2, ![4096, 1024]⟩
abbrev S4096x128 : Shape := ⟨2, ![4096, 128]⟩
abbrev S4096x2x8x64 : Shape := ⟨4, ![4096, 2, 8, 64]⟩
abbrev S4096x256 : Shape := ⟨2, ![4096, 256]⟩
abbrev S4096x2x128 : Shape := ⟨3, ![4096, 2, 128]⟩
abbrev S4096x16 : Shape := ⟨2, ![4096, 16]⟩
abbrev S_ : Shape := ⟨0, ![]⟩
abbrev S4096x2x8 : Shape := ⟨3, ![4096, 2, 8]⟩
abbrev S4096x2x8x1 : Shape := ⟨4, ![4096, 2, 8, 1]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x1x2x8 : Shape := ⟨4, ![4096, 1, 2, 8]⟩
abbrev S1x4096x2x8 : Shape := ⟨4, ![1, 4096, 2, 8]⟩
abbrev S4096x4096x2x8 : Shape := ⟨4, ![4096, 4096, 2, 8]⟩
abbrev S4096x4096x1x1 : Shape := ⟨4, ![4096, 4096, 1, 1]⟩
abbrev S2x4096x4096 : Shape := ⟨3, ![2, 4096, 4096]⟩
abbrev S4096x4096x2 : Shape := ⟨3, ![4096, 4096, 2]⟩
abbrev S4096x4096x2x1 : Shape := ⟨4, ![4096, 4096, 2, 1]⟩
abbrev S2x8x64x4096 : Shape := ⟨4, ![2, 8, 64, 4096]⟩
abbrev S2x8x4096x4096 : Shape := ⟨4, ![2, 8, 4096, 4096]⟩
abbrev S2x4096x128 : Shape := ⟨3, ![2, 4096, 128]⟩
abbrev S16 : Shape := ⟨1, ![16]⟩
abbrev S1x1024 : Shape := ⟨2, ![1, 1024]⟩
abbrev S1024 : Shape := ⟨1, ![1024]⟩
abbrev S1x16x64 : Shape := ⟨3, ![1, 16, 64]⟩
abbrev S3x1024 : Shape := ⟨2, ![3, 1024]⟩
abbrev S8x1024 : Shape := ⟨2, ![8, 1024]⟩
abbrev S8x16x64 : Shape := ⟨3, ![8, 16, 64]⟩
abbrev S8x16 : Shape := ⟨2, ![8, 16]⟩

abbrev nBuf : Space → Nat
  | .hbm => 197
  | .vmem => 0
  | .smem => 0
  | _ => 0

abbrev hbmTy0_0 (i : Nat) : BufTy := match i % 128 with
  | 0 => ⟨S4096x1536, .f32⟩
  | 1 => ⟨S4096x6144, .f32⟩
  | 2 => ⟨S1x16, .f32⟩
  | 3 => ⟨S1x16, .f32⟩
  | 4 => ⟨S4096x1024, .f32⟩
  | 5 => ⟨S4096x128, .f32⟩
  | 6 => ⟨S4096x1024, .f32⟩
  | 7 => ⟨S4096x2x8x64, .f32⟩
  | 8 => ⟨S4096x256, .f32⟩
  | 9 => ⟨S4096x2x128, .f32⟩
  | 10 => ⟨S4096x256, .f32⟩
  | 11 => ⟨S4096x2x128, .f32⟩
  | 12 => ⟨S4096x16, .f32⟩
  | 13 => ⟨S4096x16, .f32⟩
  | 14 => ⟨S4096x16, .f32⟩
  | 15 => ⟨S_, .f32⟩
  | 16 => ⟨S4096x16, .f32⟩
  | 17 => ⟨S4096x16, .f32⟩
  | 18 => ⟨S4096x16, .f32⟩
  | 19 => ⟨S4096x16, .f32⟩
  | 20 => ⟨S4096x16, .i1⟩
  | 21 => ⟨S4096x16, .f32⟩
  | 22 => ⟨S4096x16, .f32⟩
  | 23 => ⟨S4096x16, .f32⟩
  | 24 => ⟨S4096x16, .f32⟩
  | 25 => ⟨S4096x16, .f32⟩
  | 26 => ⟨S4096x16, .f32⟩
  | 27 => ⟨S4096x16, .f32⟩
  | 28 => ⟨S4096x16, .f32⟩
  | 29 => ⟨S_, .f32⟩
  | 30 => ⟨S4096x16, .f32⟩
  | 31 => ⟨S4096x16, .i1⟩
  | 32 => ⟨S_, .f32⟩
  | 33 => ⟨S4096x16, .f32⟩
  | 34 => ⟨S4096x16, .f32⟩
  | 35 => ⟨S_, .f32⟩
  | 36 => ⟨S4096x16, .f32⟩
  | 37 => ⟨S4096x16, .i1⟩
  | 38 => ⟨S_, .f32⟩
  | 39 => ⟨S4096x16, .f32⟩
  | 40 => ⟨S4096x16, .f32⟩
  | 41 => ⟨S4096x16, .f32⟩
  | 42 => ⟨S4096x16, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S4096x16, .f32⟩
  | 51 => ⟨S4096x16, .i1⟩
  | 52 => ⟨S_, .f32⟩
  | 53 => ⟨S4096x16, .f32⟩
  | 54 => ⟨S4096x16, .f32⟩
  | 55 => ⟨S4096x16, .f32⟩
  | 56 => ⟨S4096x16, .f32⟩
  | 57 => ⟨S4096x16, .f32⟩
  | 58 => ⟨S_, .f32⟩
  | 59 => ⟨S4096x16, .f32⟩
  | 60 => ⟨S4096x16, .f32⟩
  | 61 => ⟨S1x16, .f32⟩
  | 62 => ⟨S1x16, .f32⟩
  | 63 => ⟨S4096x2x8, .f32⟩
  | 64 => ⟨S4096x2x8x1, .f32⟩
  | 65 => ⟨S4096x2x8x64, .f32⟩
  | 66 => ⟨S4096x2x8x64, .f32⟩
  | 67 => ⟨S4096x16, .f32⟩
  | 68 => ⟨S4096x16, .f32⟩
  | 69 => ⟨S_, .f32⟩
  | 70 => ⟨S_, .f32⟩
  | 71 => ⟨S4096x16, .f32⟩
  | 72 => ⟨S4096x2x8, .f32⟩
  | 73 => ⟨S4096, .i32⟩
  | 74 => ⟨S4096x1, .i32⟩
  | 75 => ⟨S1x4096, .i32⟩
  | 76 => ⟨S4096x4096, .i32⟩
  | 77 => ⟨S4096x4096, .i32⟩
  | 78 => ⟨S4096x4096, .i1⟩
  | 79 => ⟨S4096x1x2x8, .f32⟩
  | 80 => ⟨S1x4096x2x8, .f32⟩
  | 81 => ⟨S4096x4096x2x8, .f32⟩
  | 82 => ⟨S4096x4096x2x8, .f32⟩
  | 83 => ⟨S4096x4096x2x8, .f32⟩
  | 84 => ⟨S4096x4096x1x1, .i1⟩
  | 85 => ⟨S_, .f32⟩
  | 86 => ⟨S_, .f32⟩
  | 87 => ⟨S4096x4096x2x8, .i1⟩
  | 88 => ⟨S4096x4096x2x8, .f32⟩
  | 89 => ⟨S4096x4096x2x8, .f32⟩
  | 90 => ⟨S_, .f32⟩
  | 91 => ⟨S4096x4096x2x8, .f32⟩
  | 92 => ⟨S4096x4096x2x8, .f32⟩
  | 93 => ⟨S2x4096x4096, .f32⟩
  | 94 => ⟨S4096x4096x2, .f32⟩
  | 95 => ⟨S4096x4096x2x1, .f32⟩
  | 96 => ⟨S4096x4096x2x8, .f32⟩
  | 97 => ⟨S4096x4096x2x8, .f32⟩
  | 98 => ⟨S2x8x64x4096, .f32⟩
  | 99 => ⟨S4096x2x8x64, .f32⟩
  | 100 => ⟨S4096x1024, .f32⟩
  | 101 => ⟨S4096x2x8x64, .f32⟩
  | 102 => ⟨S2x8x64x4096, .f32⟩
  | 103 => ⟨S2x8x4096x4096, .f32⟩
  | 104 => ⟨S4096x4096x2x8, .f32⟩
  | 105 => ⟨S2x8x64x4096, .f32⟩
  | 106 => ⟨S4096x2x8x64, .f32⟩
  | 107 => ⟨S4096x4096x2x8, .f32⟩
  | 108 => ⟨S4096x4096x2x8, .f32⟩
  | 109 => ⟨S4096x4096x2x8, .f32⟩
  | 110 => ⟨S_, .f32⟩
  | 111 => ⟨S4096x4096x2, .f32⟩
  | 112 => ⟨S4096x4096x2x1, .f32⟩
  | 113 => ⟨S_, .f32⟩
  | 114 => ⟨S4096x4096x2, .f32⟩
  | 115 => ⟨S2x4096x4096, .f32⟩
  | 116 => ⟨S2x4096x128, .f32⟩
  | 117 => ⟨S4096x2x128, .f32⟩
  | 118 => ⟨S2x4096x128, .f32⟩
  | 119 => ⟨S4096x2x128, .f32⟩
  | 120 => ⟨S4096x4096x2x8, .f32⟩
  | 121 => ⟨S_, .f32⟩
  | 122 => ⟨S4096x4096x2x8, .f32⟩
  | 123 => ⟨S4096x4096x2x8, .f32⟩
  | 124 => ⟨S_, .f32⟩
  | 125 => ⟨S4096x2x8, .f32⟩
  | 126 => ⟨S4096x1x2x8, .f32⟩
  | 127 => ⟨S4096x4096x2x8, .f32⟩
  | _ => ⟨S4096x1536, .f32⟩

abbrev hbmTy0_1 (i : Nat) : BufTy := match i % 128 with
  | 0 => ⟨S_, .f32⟩
  | 1 => ⟨S4096x2x8, .f32⟩
  | 2 => ⟨S1x4096x2x8, .f32⟩
  | 3 => ⟨S_, .f32⟩
  | 4 => ⟨S4096x2x8, .f32⟩
  | 5 => ⟨S_, .f32⟩
  | 6 => ⟨S4096x2x8, .f32⟩
  | 7 => ⟨S4096x2x8, .f32⟩
  | 8 => ⟨S4096x16, .f32⟩
  | 9 => ⟨S_, .f32⟩
  | 10 => ⟨S_, .f32⟩
  | 11 => ⟨S4096x16, .f32⟩
  | 12 => ⟨S4096x16, .f32⟩
  | 13 => ⟨S4096x16, .f32⟩
  | 14 => ⟨S4096x16, .f32⟩
  | 15 => ⟨S_, .f32⟩
  | 16 => ⟨S16, .f32⟩
  | 17 => ⟨S1x16, .f32⟩
  | 18 => ⟨S4096x2x8x64, .f32⟩
  | 19 => ⟨S_, .f32⟩
  | 20 => ⟨S4096x2x8, .f32⟩
  | 21 => ⟨S4096x2x8x1, .f32⟩
  | 22 => ⟨S4096x2x8x64, .f32⟩
  | 23 => ⟨S4096x2x8x64, .f32⟩
  | 24 => ⟨S_, .f32⟩
  | 25 => ⟨S4096x2x8, .f32⟩
  | 26 => ⟨S4096x16, .f32⟩
  | 27 => ⟨S4096x16, .f32⟩
  | 28 => ⟨S1x16, .f32⟩
  | 29 => ⟨S1x16, .f32⟩
  | 30 => ⟨S4096x16, .f32⟩
  | 31 => ⟨S_, .f32⟩
  | 32 => ⟨S16, .f32⟩
  | 33 => ⟨S1x16, .f32⟩
  | 34 => ⟨S_, .f32⟩
  | 35 => ⟨S4096x128, .f32⟩
  | 36 => ⟨S4096x256, .f32⟩
  | 37 => ⟨S_, .f32⟩
  | 38 => ⟨S4096x1536, .f32⟩
  | 39 => ⟨S4096x256, .f32⟩
  | 40 => ⟨S_, .f32⟩
  | 41 => ⟨S4096x1536, .f32⟩
  | 42 => ⟨S4096x1536, .f32⟩
  | 43 => ⟨S4096x1024, .f32⟩
  | 44 => ⟨S_, .f32⟩
  | 45 => ⟨S4096x1536, .f32⟩
  | 46 => ⟨S4096x1536, .f32⟩
  | 47 => ⟨S_, .f32⟩
  | 48 => ⟨S1x1024, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S1024, .f32⟩
  | 55 => ⟨S1x1024, .f32⟩
  | 56 => ⟨S1x16x64, .f32⟩
  | 57 => ⟨S1x1024, .f32⟩
  | 58 => ⟨S1x16x64, .f32⟩
  | 59 => ⟨S1x1024, .f32⟩
  | 60 => ⟨S3x1024, .f32⟩
  | 61 => ⟨S_, .i32⟩
  | 62 => ⟨S_, .f32⟩
  | 63 => ⟨S8x1024, .f32⟩
  | 64 => ⟨S8x16x64, .f32⟩
  | 65 => ⟨S_, .f32⟩
  | 66 => ⟨S8x16, .f32⟩
  | 67 => ⟨S8x16x64, .f32⟩
  | 68 => ⟨S8x1024, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v10_0 : Ref sig .tc := ⟨.hbm, 28, rfl⟩
abbrev main_call0_cst_0 : Ref sig .tc := ⟨.hbm, 29, rfl⟩
abbrev main_call0_v13 : Ref sig .tc := ⟨.hbm, 30, rfl⟩
abbrev main_call0_v14 : Ref sig .tc := ⟨.hbm, 31, rfl⟩
abbrev main_call0_cst_1 : Ref sig .tc := ⟨.hbm, 32, rfl⟩
abbrev main_call0_v15 : Ref sig .tc := ⟨.hbm, 33, rfl⟩
abbrev main_call0_v16 : Ref sig .tc := ⟨.hbm, 34, rfl⟩
abbrev main_call0_cst_2 : Ref sig .tc := ⟨.hbm, 35, rfl⟩
abbrev main_call0_v17 : Ref sig .tc := ⟨.hbm, 36, rfl⟩
abbrev main_call0_v18 : Ref sig .tc := ⟨.hbm, 37, rfl⟩
abbrev main_call0_cst_3 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_v10_1 : Ref sig .tc := ⟨.hbm, 42, rfl⟩
abbrev main_call0_cst_4 : Ref sig .tc := ⟨.hbm, 43, rfl⟩
abbrev main_call0_cst_5 : Ref sig .tc := ⟨.hbm, 44, rfl⟩
abbrev main_call0_v23 : Ref sig .tc := ⟨.hbm, 45, rfl⟩
abbrev main_call0_cst_6 : Ref sig .tc := ⟨.hbm, 46, rfl⟩
abbrev main_call0_cst_7 : Ref sig .tc := ⟨.hbm, 47, rfl⟩
abbrev main_call0_v24 : Ref sig .tc := ⟨.hbm, 48, rfl⟩
abbrev main_call0_cst_8 : Ref sig .tc := ⟨.hbm, 49, rfl⟩
abbrev main_call0_v25 : Ref sig .tc := ⟨.hbm, 50, rfl⟩
abbrev main_call0_v26 : Ref sig .tc := ⟨.hbm, 51, rfl⟩
abbrev main_call0_cst_9 : Ref sig .tc := ⟨.hbm, 52, rfl⟩
abbrev main_call0_v27 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_cst_10 : Ref sig .tc := ⟨.hbm, 58, rfl⟩
abbrev main_call0_v32 : Ref sig .tc := ⟨.hbm, 59, rfl⟩
abbrev main_v10_2 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_call1_call0_cst : Ref sig .tc := ⟨.hbm, 69, rfl⟩
abbrev main_call1_call0_v0 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_cst : Ref sig .tc := ⟨.hbm, 85, rfl⟩
abbrev main_call2_v0 : Ref sig .tc := ⟨.hbm, 86, rfl⟩
abbrev main_v33_1 : Ref sig .tc := ⟨.hbm, 87, rfl⟩
abbrev main_call2_v2 : Ref sig .tc := ⟨.hbm, 88, rfl⟩
abbrev main_v33_0 : Ref sig .tc := ⟨.hbm, 89, rfl⟩
abbrev main_call2_cst : Ref sig .tc := ⟨.hbm, 90, rfl⟩
abbrev main_v33_2 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_cst_0 : Ref sig .tc := ⟨.hbm, 110, rfl⟩
abbrev main_v52 : Ref sig .tc := ⟨.hbm, 111, rfl⟩
abbrev main_v53 : Ref sig .tc := ⟨.hbm, 112, rfl⟩
abbrev main_cst_1 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_call3_cst : Ref sig .tc := ⟨.hbm, 121, rfl⟩
abbrev main_call3_v0 : Ref sig .tc := ⟨.hbm, 122, rfl⟩
abbrev main_v61 : Ref sig .tc := ⟨.hbm, 123, rfl⟩
abbrev main_cst_2 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_cst_3 : Ref sig .tc := ⟨.hbm, 128, rfl⟩
abbrev main_v65 : Ref sig .tc := ⟨.hbm, 129, rfl⟩
abbrev main_v66 : Ref sig .tc := ⟨.hbm, 130, rfl⟩
abbrev main_cst_4 : Ref sig .tc := ⟨.hbm, 131, rfl⟩
abbrev main_v67 : Ref sig .tc := ⟨.hbm, 132, rfl⟩
abbrev main_cst_5 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_call4_call0_cst : Ref sig .tc := ⟨.hbm, 137, rfl⟩
abbrev main_call4_call0_v0 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_cst_6 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_cst_7 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_cst_8 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_cst_9 : Ref sig .tc := ⟨.hbm, 159, rfl⟩
abbrev main_v88 : Ref sig .tc := ⟨.hbm, 160, rfl⟩
abbrev main_v89 : Ref sig .tc := ⟨.hbm, 161, rfl⟩
abbrev main_cst_10 : Ref sig .tc := ⟨.hbm, 162, rfl⟩
abbrev main_v90 : Ref sig .tc := ⟨.hbm, 163, rfl⟩
abbrev main_v91 : Ref sig .tc := ⟨.hbm, 164, rfl⟩
abbrev main_cst_11 : Ref sig .tc := ⟨.hbm, 165, rfl⟩
abbrev main_v92 : Ref sig .tc := ⟨.hbm, 166, rfl⟩
abbrev main_v93 : Ref sig .tc := ⟨.hbm, 167, rfl⟩
abbrev main_cst_12 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_cst_13 : Ref sig .tc := ⟨.hbm, 172, rfl⟩
abbrev main_v97 : Ref sig .tc := ⟨.hbm, 173, rfl⟩
abbrev main_v98 : Ref sig .tc := ⟨.hbm, 174, rfl⟩
abbrev main_cst_14 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_cst_15 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_c : Ref sig .tc := ⟨.hbm, 189, rfl⟩
abbrev main_call6_v0 : Ref sig .tc := ⟨.hbm, 190, rfl⟩
abbrev main_v111 : Ref sig .tc := ⟨.hbm, 191, rfl⟩
abbrev main_v112 : Ref sig .tc := ⟨.hbm, 192, rfl⟩
abbrev main_cst_16 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1024x1024, .f32⟩
  | .local _ .vmem, ⟨9, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S4096x2816 : Shape := ⟨2, ![4096, 2816]⟩
abbrev S2816x1024 : Shape := ⟨2, ![2816, 1024]⟩
abbrev S1024x2816 : Shape := ⟨2, ![1024, 2816]⟩
abbrev S_ : Shape := ⟨0, ![]⟩
abbrev S4096x1024 : Shape := ⟨2, ![4096, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .bf16⟩
  | .hbm, ⟨3, _⟩ => ⟨S2816x1024, .bf16⟩
  | .hbm, ⟨4, _⟩ => ⟨S2816x1024, .f32⟩
  | .hbm, ⟨5, _⟩ => ⟨S1024x2816, .f32⟩
  | .hbm, ⟨6, _⟩ => ⟨S2816x1024, .f32⟩
  | .hbm, ⟨7, _⟩ => ⟨S1024x2816, .f32⟩
  | .hbm, ⟨8, _⟩ => ⟨S_, .f32⟩
  | .hbm, ⟨9, _⟩ => ⟨S4096x1024, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x1024, .f32⟩
  | .hbm, ⟨15, _⟩ => ⟨S4096x1024, .f32⟩
  | .hbm, ⟨16, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .hbm, ⟨3, _⟩ => ⟨S4096x2816, .f32⟩
  | .hbm, ⟨4, _⟩ => ⟨S4096x2816, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S2816x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .bf16⟩
  | .hbm, ⟨29, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel7.lean ====
abbrev S4096x2048 : Shape := ⟨2, ![4096, 2048]⟩
abbrev S4096x1024 : Shape := ⟨2, ![4096, 1024]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S6144x1024 : Shape := ⟨2, ![6144, 1024]⟩
abbrev S4096x6144 : Shape := ⟨2, ![4096, 6144]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S6144x1024, .bf16⟩
  | .hbm, ⟨2, _⟩ => ⟨S4096x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S6144x1024 : Shape := ⟨2, ![6144, 1024]⟩
abbrev S1024x6144 : Shape := ⟨2, ![1024, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S6144x1024, .bf16⟩
  | .hbm, ⟨2, _⟩ => ⟨S4096x1024, .f32⟩
  | .hbm, ⟨3, _⟩ => ⟨S6144x1024, .f32⟩
  | .hbm, ⟨4, _⟩ => ⟨S1024x6144, .f32⟩
  | .hbm, ⟨5, _⟩ => ⟨S4096x6144, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .f32⟩
  | .hbm, ⟨4, _⟩ => ⟨S4096x2816, .f32⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S2816x1024, .f32⟩
  | .hbm, ⟨5, _⟩ => ⟨S1024x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel10.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x1536 : Shape := ⟨2, ![4096, 1536]⟩
abbrev S4096x1024 : Shape := ⟨2, ![4096, 1024]⟩
abbrev S1536x1024 : Shape := ⟨2, ![1536, 1024]⟩
abbrev S512x768 : Shape := ⟨2, ![512, 768]⟩
abbrev S512x1024 : Shape := ⟨2, ![512, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .f32⟩
  | .hbm, ⟨1, _⟩ => ⟨S4096x1024, .bf16⟩
  | .hbm, ⟨2, _⟩ => ⟨S1536x1024, .bf16⟩
  | .local _ .vmem, ⟨0, _⟩ => ⟨S512x768, .f32⟩
  | .local _ .vmem, ⟨1, _⟩ => ⟨S512x768, .f32⟩
  | .local _ .vmem, ⟨2, _⟩ => ⟨S512x1024, .bf16⟩
  | .local _ .vmem, ⟨3, _⟩ => ⟨S512x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1536 : Shape := ⟨2, ![4096, 1536]⟩
abbrev S4096x1024 : Shape := ⟨2, ![4096, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1024, .bf16⟩
  | .hbm, ⟨2, _⟩ => ⟨S_, .f32⟩
  | .hbm, ⟨3, _⟩ => ⟨S1024x1536, .f32⟩
  | .hbm, ⟨4, _⟩ => ⟨S4096x1024, .f32⟩
  | .hbm, ⟨5, _⟩ => ⟨S4096x1536, .f32⟩
  | .hbm, ⟨6, _⟩ => ⟨S1536x1024, .f32⟩
  | .hbm, ⟨7, _⟩ => ⟨S1024x1536, .f32⟩
  | .hbm, ⟨8, _⟩ => ⟨S1536x1024, .f32⟩
  | .hbm, ⟨9, _⟩ => ⟨S1536x1024, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Body.lean ====
module

public import proofs.«01_k».proof.Proof.Gen.KernelIdeal.Skeleton

/-!
# One grid point of the backward kernel, written out

The kernel's body at one chunk of 128 steps, operation for operation, with a name for each of its
quantities: a head's decay, its products, a pair of heads, a group of eight heads, and the results
put together from the two groups.  The sixteen heads are instances of one definition.
-/

@[expose] public section

set_option maxRecDepth 16384

noncomputable section

namespace Ssd.Body

open Idealize.ShloMosaic Idealize.SL.Sem Cert.KernelIdeal Cert.KernelIdeal.Gen

variable {F : FTy → Type} [FloatOps F]

/-- What one grid point reads: the chunk's rows of every input, the state that enters the chunk, and
the gradient of the state that leaves it. -/
structure Blk (F : FTy → Type) where
  xs : Vec F S128x1024 .f32
  b0 : Vec F S128x128 .f32
  c0 : Vec F S128x128 .f32
  b1 : Vec F S128x128 .f32
  c1 : Vec F S128x128 .f32
  dtt : Vec F S128x128 .f32
  spr : Vec F S128x1024 .bf16
  dtb : Vec F S1x1024 .f32
  al : Vec F S1x1024 .f32
  gy : Vec F S128x1024 .f32
  sp : Vec F S1x128x1024 .f32
  ds : Vec F S128x1024 .f32

/-- A zero accumulator. -/
def zero (s : Shape) : FVec F s .f32 := constant s .f32 0x00000000#32
/-- A splat of zero. -/
def zeroB (s : Shape) : FVec F s .f32 := broadcast s (Scalar.ofBits .f32 0x00000000#32)
/-- The rounding to 16 bits. -/
def hi {s : Shape} (v : FVec F s .f32) : FVec F s .bf16 := truncf .bf16 v bitsLt_bf16_f32
/-- What the rounding to 16 bits leaves. -/
def rest {s : Shape} (v : FVec F s .f32) : FVec F s .f32 := subf v (extf .f32 (hi v) bitsLt_bf16_f32)

/-- The product of a value in three 16-bit parts with a matrix. -/
def splitL {s t u : Shape} (D : DotDims s t u) (v : FVec F s .f32) (w : FVec F t .bf16) : FVec F u .f32 :=
  addf (addf (matmul D none (hi v) w (zero u)) (matmul D none (hi (rest v)) w (zero u)))
    (matmul D none (hi (rest (rest v))) w (zero u))
/-- The product of a matrix with a value in three 16-bit parts. -/
def splitR {s t u : Shape} (D : DotDims s t u) (w : FVec F s .bf16) (v : FVec F t .f32) : FVec F u .f32 :=
  addf (addf (matmul D none w (hi v) (zero u)) (matmul D none w (hi (rest v)) (zero u)))
    (matmul D none w (hi (rest (rest v))) (zero u))

/-- Row numbers. -/
def rI : IVec S128x128 32 := iota .tc S128x128 32 [0] iota_S128x128_d0_w32
/-- Column numbers. -/
def cI : IVec S128x128 32 := iota .tc S128x128 32 [1] iota_S128x128_d1_w32
/-- The first half of the lanes. -/
def lo : IVec S128x128 1 := cmpi .slt cI (broadcast S128x128 64#32)
/-- The second half of the lanes. -/
def up : IVec S128x128 1 := cmpi .sge cI (broadcast S128x128 64#32)
/-- A mask as a matrix of ones and zeros. -/
def ones (p : IVec S128x128 1) : FVec F S128x128 .bf16 := hi (sitofp .f32 (extui 32 p natLt_1_32))

/-- 128 lanes of a row block. -/
def sl (o : ℕ) (h : S128x1024.Slices ![0, o] S128x128) (v : FVec F S128x1024 .f32) : FVec F S128x128 .f32 :=
  extractStridedSlice S128x128 ![0, o] v h
/-- 512 lanes of a row block. -/
def sg (o : ℕ) (h : S128x1024.Slices ![0, o] S128x512) (v : FVec F S128x1024 .f32) : FVec F S128x512 .f32 :=
  extractStridedSlice S128x512 ![0, o] v h
/-- A row over 128 rows. -/
def rows (v : FVec F S1x1024 .f32) : FVec F S128x1024 .f32 := broadcastTo S128x1024 v broadcasts_S1x1024_S128x1024
/-- The sums of a block's columns. -/
def colsum (v : FVec F S128x1024 .f32) : FVec F S1x1024 .f32 :=
  shapeCast S1x1024 (multiReduction .add [0] S1024 v 0x00000000#32 reduces_S128x1024_S1024 (.inl rfl) rfl)
    shapeCasts_S1024_S1x1024

/-! ## One head: half `m` of the 128 lanes at `o` -/

/-- A head's one value per row, over 128 columns: the maximum over the head's lanes. -/
def col (m : IVec S128x128 1) (t : FVec F S128x128 .f32) : FVec F S128x128 .f32 :=
  broadcastTo S128x128 (shapeCast S128x1 (shapeCast S128x1
    (multiReduction .maximumf [1] S128 (select m t (broadcast S128x128 (Scalar.ofBits .f32 0xFF800000#32)))
      0xFF800000#32 reduces_S128x128_S128 (.inl rfl) rfl) shapeCasts_S128_S128x1) shapeCasts_S128x1_S128x1)
    broadcasts_S128x1_S128x128
/-- The decay between the chunk's steps. -/
def decay (m : IVec S128x128 1) (t : FVec F S128x128 .f32) : FVec F S128x128 .f32 :=
  select (cmpi .sge rI cI)
    (exp (subf (col m t) (transpose S128x128 [1, 0] (col m t) transposes_S128x128_p1_0_S128x128))) (zeroB S128x128)
/-- A head's lanes of a block of 128 lanes, the others zero. -/
def half (m : IVec S128x128 1) (t : FVec F S128x128 .f32) : FVec F S128x128 .bf16 :=
  hi (select m t (zeroB S128x128))
/-- Product with the first factor transposed. -/
def tn (a b : FVec F S128x128 .bf16) : FVec F S128x128 .f32 :=
  matmul dot_S128x128_S128x128_S128x128_0_0_1_1_n_n none a b (zero S128x128)
/-- Product with the second factor transposed. -/
def nt (a b : FVec F S128x128 .bf16) : FVec F S128x128 .f32 :=
  matmul dot_S128x128_S128x128_S128x128_1_1_0_0_n_n none a b (zero S128x128)
/-- Plain product. -/
def nn (a b : FVec F S128x128 .bf16) : FVec F S128x128 .f32 :=
  matmul dot_S128x128_S128x128_S128x128_1_0_0_1_n_n none a b (zero S128x128)
/-- A head's gradient of its scaled values, added to what is there. -/
def accStep (m : IVec S128x128 1) (acc sc acs gy : FVec F S128x128 .f32) : FVec F S128x128 .f32 :=
  addf acc (tn (hi (mulf sc (decay m acs))) (half m gy))
/-- A head's gradient of the scores. -/
def dm (m : IVec S128x128 1) (acs xg gy : FVec F S128x128 .f32) : FVec F S128x128 .f32 :=
  mulf (nt (half m gy) (hi xg)) (decay m acs)
/-- The mask "row not after column", twice side by side. -/
def later2 : FVec F S128x256 .bf16 :=
  concatenate S128x256 1 [⟨S128x128, ones (cmpi .sle rI cI)⟩, ⟨S128x128, ones (cmpi .sle rI cI)⟩]
    concatenates_S128x128_S128x128_S128x256_d1
/-- For every row, the sum of the pair weights with the row between the two steps. -/
def between (wq : FVec F S128x128 .f32) : FVec F S128x1 .f32 :=
  shapeCast S128x1 (multiReduction .add [1] S128
    (select (cmpi .slt cI rI)
      (matmul dot_S128x256_S256x128_S128x128_1_0_0_1_n_n none later2
        (concatenate S256x128 0 [⟨S128x128, hi wq⟩, ⟨S128x128, hi (rest wq)⟩] concatenates_S128x128_S128x128_S256x128_d0)
        (zero S128x128)) (zeroB S128x128))
    0x00000000#32 reduces_S128x128_S128 (.inl rfl) rfl) shapeCasts_S128_S128x1
/-- A column over 128 columns. -/
def over (v : FVec F S128x1 .f32) : FVec F S128x128 .f32 :=
  broadcastTo S128x128 (shapeCast S128x1 v shapeCasts_S128x1_S128x1) broadcasts_S128x1_S128x128

/-! ## A pair of heads: 128 lanes -/

/-- The pair's gradient of the scaled values from the chunk's own steps. -/
def pairAcc (sc acs gy : FVec F S128x128 .f32) : FVec F S128x128 .f32 :=
  accStep up (accStep lo (zeroB S128x128) sc acs gy) sc acs gy
/-- The pair's gradient of the scores, added to what is there. -/
def pairDs (d acs xg gy : FVec F S128x128 .f32) : FVec F S128x128 .f32 :=
  addf (addf d (dm lo acs xg gy)) (dm up acs xg gy)
/-- The pair's gradient of the log decays from the chunk's own steps. -/
def pairDadt (sc acs xg gy : FVec F S128x128 .f32) : FVec F S128x128 .f32 :=
  select lo (over (between (mulf (dm lo acs xg gy) sc))) (over (between (mulf (dm up acs xg gy) sc)))

/-! ## The decays -/

variable (k : Blk F)

/-- The spread matrix. -/
def spread : FVec F S128x1024 .bf16 := shapeCast S128x1024 k.spr shapeCasts_S128x1024_S128x1024
/-- The step sizes before the softplus, over every head's lanes. -/
def raw : FVec F S128x1024 .f32 :=
  addf (splitL dot_S128x128_S128x1024_S128x1024_1_0_0_1_n_n k.dtt (spread k))
    (broadcastTo S128x1024 (shapeCast S1x1024 k.dtb shapeCasts_S1x1024_S1x1024) broadcasts_S1x1024_S128x1024)
/-- The step sizes. -/
def dt : FVec F S128x1024 .f32 :=
  addf (maximumf (raw k) (zeroB S128x1024)) (log1p (exp (subf (zeroB S128x1024) (absf (raw k)))))
/-- The decay rates. -/
def ax : FVec F S1x1024 .f32 :=
  subf (zeroB S1x1024) (exp (shapeCast S1x1024 k.al shapeCasts_S1x1024_S1x1024))
/-- The log decays. -/
def adt : FVec F S128x1024 .f32 := mulf (rows (ax k)) (dt k)
/-- The log decays' running sum. -/
def acs : FVec F S128x1024 .f32 :=
  splitR dot_S128x128_S128x1024_S128x1024_1_0_0_1_n_n (ones (cmpi .sge rI cI)) (adt k)
/-- The chunk's log decay. -/
def atot : FVec F S1x1024 .f32 := colsum (adt k)
/-- The decay from the chunk's start. -/
def ea : FVec F S128x1024 .f32 := exp (acs k)
/-- The decay to the chunk's end. -/
def dsx : FVec F S128x1024 .f32 := exp (subf (rows (atot k)) (acs k))
/-- The chunk's decay. -/
def eatot : FVec F S1x1024 .f32 := exp (atot k)
/-- The scaled values. -/
def xg : FVec F S128x1024 .f32 := mulf k.xs (dt k)
/-- The state that enters. -/
def sprev : FVec F S128x1024 .f32 := shapeCast S128x1024 k.sp shapeCasts_S1x128x1024_S128x1024
/-- The cotangents, decayed from the chunk's start. -/
def gea : FVec F S128x1024 .f32 := mulf k.gy (ea k)
/-- The scaled values, decayed to the chunk's end. -/
def xds : FVec F S128x1024 .f32 := mulf (xg k) (dsx k)

/-! ## A group of eight heads: 512 lanes at `o`, its `B` and `C` at hand -/

variable (o : ℕ) (b c : FVec F S128x128 .f32) (ho : S128x1024.Slices ![0, o] S128x512)
  (ho1 : S1x1024.Slices ![0, o] S1x512)
  (o0 o1 o2 o3 : ℕ) (h0 : S128x1024.Slices ![0, o0] S128x128) (h1 : S128x1024.Slices ![0, o1] S128x128)
  (h2 : S128x1024.Slices ![0, o2] S128x128) (h3 : S128x1024.Slices ![0, o3] S128x128)

/-- The scores. -/
def scores : FVec F S128x128 .f32 := nt (hi c) (hi b)
/-- The leaving state's part of the scaled values' gradient. -/
def dxgState : FVec F S128x512 .f32 :=
  mulf (matmul dot_S128x128_S128x512_S128x512_1_0_0_1_n_n none (hi b) (hi (sg o ho k.ds)) (zero S128x512))
    (sg o ho (dsx k))
/-- Product of two 512-lane blocks over the lanes. -/
def nt512 (p r : FVec F S128x512 .f32) : FVec F S128x128 .f32 :=
  matmul dot_S128x512_S128x512_S128x128_1_1_0_0_n_n none (hi p) (hi r) (zero S128x128)
/-- The group's gradient of the scores. -/
def dscores : FVec F S128x128 .f32 :=
  pairDs (pairDs (pairDs (pairDs (zeroB S128x128)
    (sl o0 h0 (acs k)) (sl o0 h0 (xg k)) (sl o0 h0 k.gy))
    (sl o1 h1 (acs k)) (sl o1 h1 (xg k)) (sl o1 h1 k.gy))
    (sl o2 h2 (acs k)) (sl o2 h2 (xg k)) (sl o2 h2 k.gy))
    (sl o3 h3 (acs k)) (sl o3 h3 (xg k)) (sl o3 h3 k.gy)
/-- The group's gradient of `C`. -/
def dC : FVec F S128x128 .f32 :=
  addf (nt512 (sg o ho (gea k)) (sg o ho (sprev k))) (nn (hi (dscores k o0 o1 o2 o3 h0 h1 h2 h3)) (hi b))
/-- The group's gradient of `B`. -/
def dB : FVec F S128x128 .f32 :=
  addf (nt512 (sg o ho (xds k)) (sg o ho k.ds)) (tn (hi (dscores k o0 o1 o2 o3 h0 h1 h2 h3)) (hi c))
/-- The group's gradient of the scaled values. -/
def dxgG : FVec F S128x512 .f32 :=
  addf (concatenate S128x512 1
    [⟨S128x128, pairAcc (scores b c) (sl o0 h0 (acs k)) (sl o0 h0 k.gy)⟩,
     ⟨S128x128, pairAcc (scores b c) (sl o1 h1 (acs k)) (sl o1 h1 k.gy)⟩,
     ⟨S128x128, pairAcc (scores b c) (sl o2 h2 (acs k)) (sl o2 h2 k.gy)⟩,
     ⟨S128x128, pairAcc (scores b c) (sl o3 h3 (acs k)) (sl o3 h3 k.gy)⟩]
    concatenates_S128x128_S128x128_S128x128_S128x128_S128x512_d1) (dxgState k o b ho)
/-- What the entering state adds to the group's outputs. -/
def yoff : FVec F S128x512 .f32 :=
  mulf (matmul dot_S128x128_S128x512_S128x512_1_0_0_1_n_n none (hi c) (hi (sg o ho (sprev k))) (zero S128x512))
    (sg o ho (ea k))
/-- The group's gradient of the entering state. -/
def dstate : FVec F S128x512 .f32 :=
  shapeCast S128x512 (addf (mulf (sg o ho k.ds)
      (broadcastTo S128x512 (extractStridedSlice S1x512 ![0, o] (eatot k) ho1) broadcasts_S1x512_S128x512))
    (matmul dot_S128x128_S128x512_S128x512_0_0_1_1_n_n none (hi c) (hi (sg o ho (gea k))) (zero S128x512)))
    shapeCasts_S128x512_S128x512

/-! ## The two groups together -/

/-- Two groups side by side. -/
def two (p r : FVec F S128x512 .f32) : FVec F S128x1024 .f32 :=
  concatenate S128x1024 1 [⟨S128x512, p⟩, ⟨S128x512, r⟩] concatenates_S128x512_S128x512_S128x1024_d1
/-- Every head's sum over its lanes, on each of them. -/
def headSums (s : FVec F S128x1024 .bf16) (v : FVec F S128x1024 .f32) : FVec F S128x1024 .f32 :=
  splitL dot_S128x128_S128x1024_S128x1024_1_0_0_1_n_n
    (splitL dot_S128x1024_S128x1024_S128x128_1_1_0_0_n_n v s) s
/-- The same of eight rows. -/
def headSums8 (s : FVec F S128x1024 .bf16) (v : FVec F S8x1024 .f32) : FVec F S8x1024 .f32 :=
  splitL dot_S8x128_S128x1024_S8x1024_1_0_0_1_n_n
    (splitL dot_S8x1024_S128x1024_S8x128_1_1_0_0_n_n v s) s

/-- The first group's gradient of the scaled values. -/
def dxg0 : FVec F S128x512 .f32 :=
  dxgG k 0 k.b0 k.c0 slices_S128x1024_o0_0_S128x512 0 128 256 384 slices_S128x1024_o0_0_S128x128
    slices_S128x1024_o0_128_S128x128 slices_S128x1024_o0_256_S128x128 slices_S128x1024_o0_384_S128x128
/-- The second group's gradient of the scaled values. -/
def dxg1 : FVec F S128x512 .f32 :=
  dxgG k 512 k.b1 k.c1 slices_S128x1024_o0_512_S128x512 512 640 768 896 slices_S128x1024_o0_512_S128x128
    slices_S128x1024_o0_640_S128x128 slices_S128x1024_o0_768_S128x128 slices_S128x1024_o0_896_S128x128
/-- The gradient of the scaled values. -/
def dxg : FVec F S128x1024 .f32 := two (dxg0 k) (dxg1 k)
/-- The first group's gradient of `B`. -/
def dB0 : FVec F S128x128 .f32 :=
  dB k 0 k.c0 slices_S128x1024_o0_0_S128x512 0 128 256 384 slices_S128x1024_o0_0_S128x128
    slices_S128x1024_o0_128_S128x128 slices_S128x1024_o0_256_S128x128 slices_S128x1024_o0_384_S128x128
/-- The second group's gradient of `B`. -/
def dB1 : FVec F S128x128 .f32 :=
  dB k 512 k.c1 slices_S128x1024_o0_512_S128x512 512 640 768 896 slices_S128x1024_o0_512_S128x128
    slices_S128x1024_o0_640_S128x128 slices_S128x1024_o0_768_S128x128 slices_S128x1024_o0_896_S128x128
/-- The first group's gradient of `C`. -/
def dC0 : FVec F S128x128 .f32 :=
  dC k 0 k.b0 slices_S128x1024_o0_0_S128x512 0 128 256 384 slices_S128x1024_o0_0_S128x128
    slices_S128x1024_o0_128_S128x128 slices_S128x1024_o0_256_S128x128 slices_S128x1024_o0_384_S128x128
/-- The second group's gradient of `C`. -/
def dC1 : FVec F S128x128 .f32 :=
  dC k 512 k.b1 slices_S128x1024_o0_512_S128x512 512 640 768 896 slices_S128x1024_o0_512_S128x128
    slices_S128x1024_o0_640_S128x128 slices_S128x1024_o0_768_S128x128 slices_S128x1024_o0_896_S128x128
/-- The first group's gradient of the entering state. -/
def dstate0 : FVec F S128x512 .f32 :=
  dstate k 0 k.c0 slices_S128x1024_o0_0_S128x512 slices_S1x1024_o0_0_S1x512
/-- The second group's gradient of the entering state. -/
def dstate1 : FVec F S128x512 .f32 :=
  dstate k 512 k.c1 slices_S128x1024_o0_512_S128x512 slices_S1x1024_o0_512_S1x512
/-- The scaled values' gradient times the step sizes: the first result's first 1024 lanes. -/
def dxDt : FVec F S128x1024 .f32 := mulf (dxg k) (dt k)
/-- Pairs with the output step in the chunk and the input step before it. -/
def throughOut : FVec F S128x1024 .f32 :=
  splitR dot_S128x128_S128x1024_S128x1024_1_0_0_1_n_n (ones (cmpi .sle rI cI))
    (mulf k.gy (two (yoff k 0 k.c0 slices_S128x1024_o0_0_S128x512) (yoff k 512 k.c1 slices_S128x1024_o0_512_S128x512)))
/-- Pairs with the input step in the chunk and the output step after it. -/
def throughIn : FVec F S128x1024 .f32 :=
  splitR dot_S128x128_S128x1024_S128x1024_1_0_0_1_n_n (ones (cmpi .slt cI rI))
    (mulf (xg k) (two (dxgState k 0 k.b0 slices_S128x1024_o0_0_S128x512)
      (dxgState k 512 k.b1 slices_S128x1024_o0_512_S128x512)))
/-- Pairs that reach across the chunk, over eight equal rows. -/
def carried : FVec F S8x1024 .f32 :=
  broadcastTo S8x1024 (shapeCast S1x1024 (mulf (colsum (mulf k.ds (sprev k))) (eatot k)) shapeCasts_S1x1024_S1x1024)
    broadcasts_S1x1024_S8x1024
/-- Four pairs of heads of a group: the gradient of the log decays from the chunk's own steps. -/
def dadtPart (b c : FVec F S128x128 .f32) (o : ℕ) (h : S128x1024.Slices ![0, o] S128x128) : FVec F S128x128 .f32 :=
  pairDadt (scores b c) (sl o h (acs k)) (sl o h (xg k)) (sl o h k.gy)
/-- All heads' gradient of the log decays from the chunk's own steps. -/
def dadtOwn : FVec F S128x1024 .f32 :=
  concatenate S128x1024 1
    [⟨S128x128, dadtPart k k.b0 k.c0 0 slices_S128x1024_o0_0_S128x128⟩,
     ⟨S128x128, dadtPart k k.b0 k.c0 128 slices_S128x1024_o0_128_S128x128⟩,
     ⟨S128x128, dadtPart k k.b0 k.c0 256 slices_S128x1024_o0_256_S128x128⟩,
     ⟨S128x128, dadtPart k k.b0 k.c0 384 slices_S128x1024_o0_384_S128x128⟩,
     ⟨S128x128, dadtPart k k.b1 k.c1 512 slices_S128x1024_o0_512_S128x128⟩,
     ⟨S128x128, dadtPart k k.b1 k.c1 640 slices_S128x1024_o0_640_S128x128⟩,
     ⟨S128x128, dadtPart k k.b1 k.c1 768 slices_S128x1024_o0_768_S128x128⟩,
     ⟨S128x128, dadtPart k k.b1 k.c1 896 slices_S128x1024_o0_896_S128x128⟩]
    concatenates_S128x128_S128x128_S128x128_S128x128_S128x128_S128x128_S128x128_S128x128_S128x1024_d1
/-- The gradient of the log decays. -/
def dadt : FVec F S128x1024 .f32 :=
  addf (addf (dadtOwn k) (headSums (spread k) (addf (throughOut k) (throughIn k))))
    (rows (shapeCast S1x1024 (multiReduction .maximumf [0] S1024 (headSums8 (spread k) (carried k)) 0xFF800000#32
      reduces_S8x1024_S1024 (.inl rfl) rfl) shapeCasts_S1024_S1x1024))
/-- The gradient of the step sizes before the softplus. -/
def draw : FVec F S128x1024 .f32 :=
  mulf (addf (mulf (rows (ax k)) (dadt k)) (headSums (spread k) (mulf (dxg k) k.xs))) (logistic (raw k))
/-- The second result: one lane per head. -/
def ddtTile : FVec F S128x128 .f32 :=
  mulf (splitL dot_S128x1024_S128x1024_S128x128_1_1_0_0_n_n (draw k) (spread k))
    (broadcast S128x128 (Scalar.ofBits .f32 0x3C800000#32))
/-- A row as it was read. -/
def row (v : FVec F S1x1024 .f32) : FVec F S1x1024 .f32 := shapeCast S1x1024 v shapeCasts_S1x1024_S1x1024
/-- The third result's first row, the chunk's part added. -/
def st0 (r : FVec F S1x1024 .f32) : FVec F S1x1024 .f32 := addf (row r) (mulf (colsum (mulf (dt k) (dadt k))) (ax k))
/-- The third result's second row, the chunk's part added. -/
def st1 (r : FVec F S1x1024 .f32) : FVec F S1x1024 .f32 := addf (row r) (colsum (draw k))
/-- The third result's third row, the chunk's part added. -/
def st2 (r : FVec F S1x1024 .f32) : FVec F S1x1024 .f32 := addf (row r) (colsum (mulf k.gy k.xs))
/-- The fourth result. -/
def hs (s : FVec F S8x1024 .f32) : FVec F S8x1024 .f32 :=
  headSums8 (spread k) (shapeCast S8x1024 s shapeCasts_S8x1024_S8x1024)

end Ssd.Body
-- ==== Proof.Pieces.lean ====
module

public import proofs.«01_k».proof.Proof.Body
public import proofs.«01_k».proof.Proof.Gen.KernelIdeal.Frame

/-!
# What the kernel's stores hold

The values each case of the body stores, named by the quantities of one grid point.
-/

@[expose] public section

set_option maxRecDepth 16384

noncomputable section

namespace Ssd.Body

open Idealize.ShloMosaic Idealize.SL.Sem Cert.KernelIdeal Cert.KernelIdeal.Gen

variable {F : FTy → Type} [FloatOps F]
variable (c : Dev nD) (i : grid0.Coords)
  (arg1 : Memref sig .tc .vmem S128x1536 .f32) (harg1 : arg1.IsWhole) (arg2 : Memref sig .tc .vmem S128x128 .f32) (harg2 : arg2.IsWhole) (arg3 : Memref sig .tc .vmem S128x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S1x128x1024 .f32) (harg7 : arg7.IsWhole) (arg8 : Memref sig .tc .vmem S128x1536 .f32) (harg8 : arg8.IsWhole) (arg9 : Memref sig .tc .vmem S128x128 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S128x1024 .f32) (harg12 : arg12.IsWhole)
  (x0 : Vec F S128x1536 .f32) (x1 : Vec F S128x128 .f32) (x2 : Vec F S128x1024 .bf16) (x3 : Vec F S1x1024 .f32)
  (x4 : Vec F S1x1024 .f32) (x5 : Vec F S128x1024 .f32) (x6 : Vec F S1x128x1024 .f32) (xo9 : Vec F S8x1024 .f32)
  (xs0 ds : Vec F S128x1024 .f32)

/-- What a grid point reads, `ds` for the gradient of the leaving state. -/
def reads : Blk F where
  xs := View.readAt (Elt F) arg1.view (Rect.unit (s := S128x1536) ![0, 0] S128x1024.size inb_S128x1536_S128x1024_0_0).toLoadRect (harg1.unread x0)
  b0 := View.readAt (Elt F) arg1.view (Rect.unit (s := S128x1536) ![0, 1024] S128x128.size inb_S128x1536_S128x128_0_1024).toLoadRect (harg1.unread x0)
  c0 := View.readAt (Elt F) arg1.view (Rect.unit (s := S128x1536) ![0, 1280] S128x128.size inb_S128x1536_S128x128_0_1280).toLoadRect (harg1.unread x0)
  b1 := View.readAt (Elt F) arg1.view (Rect.unit (s := S128x1536) ![0, 1152] S128x128.size inb_S128x1536_S128x128_0_1152).toLoadRect (harg1.unread x0)
  c1 := View.readAt (Elt F) arg1.view (Rect.unit (s := S128x1536) ![0, 1408] S128x128.size inb_S128x1536_S128x128_0_1408).toLoadRect (harg1.unread x0)
  dtt := View.readAt (Elt F) arg2.view (Rect.unit (s := S128x128) ![0, 0] S128x128.size inb_S128x128_S128x128_0_0).toLoadRect (harg2.unread x1)
  spr := View.readAt (Elt F) arg3.view (Rect.unit (s := S128x1024) ![0, 0] S128x1024.size inb_S128x1024_S128x1024_0_0).toLoadRect (harg3.unread x2)
  dtb := View.readAt (Elt F) arg4.view (Rect.unit (s := S1x1024) ![0, 0] S1x1024.size inb_S1x1024_S1x1024_0_0).toLoadRect (harg4.unread x3)
  al := View.readAt (Elt F) arg5.view (Rect.unit (s := S1x1024) ![0, 0] S1x1024.size inb_S1x1024_S1x1024_0_0).toLoadRect (harg5.unread x4)
  gy := View.readAt (Elt F) arg6.view (Rect.unit (s := S128x1024) ![0, 0] S128x1024.size inb_S128x1024_S128x1024_0_0).toLoadRect (harg6.unread x5)
  sp := View.readAt (Elt F) arg7.view (Rect.unit (s := S1x128x1024) ![0, 0, 0] S1x128x1024.size inb_S1x128x1024_S1x128x1024_0_0_0).toLoadRect (harg7.unread x6)
  ds := ds

/-- The heads' lanes. -/
theorem b_0 : (kernelRun0_B.sl.r c arg3 harg3 x2)
    = spread (reads arg1 harg1 arg2 harg2 arg3 harg3 arg4 harg4 arg5 harg5 arg6 harg6 arg7 harg7 x0 x1 x2 x3 x4 x5 x6 ds) := by
  rfl

/-- The step sizes before the softplus. -/
theorem b_1 : (kernelRun0_B.sl.r_1 c arg2 harg2 arg3 harg3 arg4 harg4 x1 x2 x3)
    = raw (reads arg1 harg1 arg2 harg2 arg3 harg3 arg4 harg4 arg5 harg5 arg6 harg6 arg7 harg7 x0 x1 x2 x3 x4 x5 x6 ds) := by
  rfl

/-- The step sizes. -/
theorem b_4 : (kernelRun0_B.sl.r_4 c arg2 harg2 arg3 harg3 arg4 harg4 x1 x2 x3)
    = dt (reads arg1 harg1 arg2 harg2 arg3 harg3 arg4 harg4 arg5 harg5 arg6 harg6 arg7 harg7 x0 x1 x2 x3 x4 x5 x6 ds) := by
  rfl

/-- The decay rates. -/
theorem b_5 : (kernelRun0_B.sl.r_5 c arg5 harg5 x4)
    = ax (reads arg1 harg1 arg2 harg2 arg3 harg3 arg4 harg4 arg5 harg5 arg6 harg6 arg7 harg7 x0 x1 x2 x3 x4 x5 x6 ds) := by
  rfl

/-- The log decays from the block's start. -/
theorem b_6 : (kernelRun0_B.sl.r_6 c arg2 harg2 arg3 harg3 arg4 harg4 arg5 harg5 x1 x2 x3 x4)
    = acs (reads arg1 harg1 arg2 harg2 arg3 harg3 arg4 harg4 arg5 harg5 arg6 harg6 arg7 harg7 x0 x1 x2 x3 x4 x5 x6 ds) := by
  rfl

/-- The decays from the block's start. -/
theorem b_7 : (kernelRun0_B.sl.r_7 c arg2 harg2 arg3 harg3 arg4 harg4 arg5 harg5 x1 x2 x3 x4)
    = ea (reads arg1 harg1 arg2 harg2 arg3 harg3 arg4 harg4 arg5 harg5 arg6 harg6 arg7 harg7 x0 x1 x2 x3 x4 x5 x6 ds) := by
  rfl

/-- The decays to the block's end. -/
theorem b_8 : (kernelRun0_B.sl.r_8 c arg2 harg2 arg3 harg3 arg4 harg4 arg5 harg5 x1 x2 x3 x4)
    = dsx (reads arg1 harg1 arg2 harg2 arg3 harg3 arg4 harg4 arg5 harg5 arg6 harg6 arg7 harg7 x0 x1 x2 x3 x4 x5 x6 ds) := by
  rfl

/-- The block's decay. -/
theorem b_9 : (kernelRun0_B.sl.r_9 c arg2 harg2 arg3 harg3 arg4 harg4 arg5 harg5 x1 x2 x3 x4)
    = eatot (reads arg1 harg1 arg2 harg2 arg3 harg3 arg4 harg4 arg5 harg5 arg6 harg6 arg7 harg7 x0 x1 x2 x3 x4 x5 x6 ds) := by
  rfl

/-- The scaled values. -/
theorem b_11 : (kernelRun0_B.sl.r_11 c arg1 harg1 arg2 harg2 arg3 harg3 arg4 harg4 x0 x1 x2 x3)
    = xg (reads arg1 harg1 arg2 harg2 arg3 harg3 arg4 harg4 arg5 harg5 arg6 harg6 arg7 harg7 x0 x1 x2 x3 x4 x5 x6 ds) := by
  rfl

/-- The entering state. -/
theorem b_13 : (kernelRun0_B.sl.r_13 c arg7 harg7 x6)
    = sprev (reads arg1 harg1 arg2 harg2 arg3 harg3 arg4 harg4 arg5 harg5 arg6 harg6 arg7 harg7 x0 x1 x2 x3 x4 x5 x6 ds) := by
  rfl

/-- The cotangents with their decay. -/
theorem b_14 : (kernelRun0_B.sl.r_14 c arg2 harg2 arg3 harg3 arg4 harg4 arg5 harg5 arg6 harg6 x1 x2 x3 x4 x5)
    = gea (reads arg1 harg1 arg2 harg2 arg3 harg3 arg4 harg4 arg5 harg5 arg6 harg6 arg7 harg7 x0 x1 x2 x3 x4 x5 x6 ds) := by
  rfl

/-- The values with their decay. -/
theorem b_15 : (kernelRun0_B.sl.r_15 c arg1 harg1 arg2 harg2 arg3 harg3 arg4 harg4 arg5 harg5 x0 x1 x2 x3 x4)
    = xds (reads arg1 harg1 arg2 harg2 arg3 harg3 arg4 harg4 arg5 harg5 arg6 harg6 arg7 harg7 x0 x1 x2 x3 x4 x5 x6 ds) := by
  rfl

attribute [local irreducible] spread raw dt ax acs ea dsx eatot xg sprev gea xds

/-- The scores, first group. -/
theorem b_20 : (kernelRun0_B.sl.r_20 c arg1 harg1 x0)
    = scores (Blk.b0 (reads arg1 harg1 arg2 harg2 arg3 harg3 arg4 harg4 arg5 harg5 arg6 harg6 arg7 harg7 x0 x1 x2 x3 x4 x5 x6 ds)) (Blk.c0 (reads arg1 harg1 arg2 harg2 arg3 harg3 arg4 harg4 arg5 harg5 arg6 harg6 arg7 harg7 x0 x1 x2 x3 x4 x5 x6 ds)) := by
  simp only [kernelRun0_B.sl.r_20]
  rfl

/-- The scores, second group. -/
theorem b_64 : (kernelRun0_B.sl.r_64 c arg1 harg1 x0)
    = scores (Blk.b1 (reads arg1 harg1 arg2 harg2 arg3 harg3 arg4 harg4 arg5 harg5 arg6 harg6 arg7 harg7 x0 x1 x2 x3 x4 x5 x6 ds)) (Blk.c1 (reads arg1 harg1 arg2 harg2 arg3 harg3 arg4 harg4 arg5 harg5 arg6 harg6 arg7 harg7 x0 x1 x2 x3 x4 x5 x6 ds)) := by
  simp only [kernelRun0_B.sl.r_64]
  rfl

/-- The gradient of the scores, first group. -/
theorem b_56 : (kernelRun0_B.sl.r_56 c arg1 harg1 arg2 harg2 arg3 harg3 arg4 harg4 arg5 harg5 arg6 harg6 x0 x1 x2 x3 x4 x5)
    = dscores (reads arg1 harg1 arg2 harg2 arg3 harg3 arg4 harg4 arg5 harg5 arg6 harg6 arg7 harg7 x0 x1 x2 x3 x4 x5 x6 ds) 0 128 256 384 slices_S128x1024_o0_0_S128x128 slices_S128x1024_o0_128_S128x128 slices_S128x1024_o0_256_S128x128 slices_S128x1024_o0_384_S128x128 := by
  simp only [kernelRun0_B.sl.r_56, kernelRun0_B.sl.r_25, kernelRun0_B.sl.r_27, kernelRun0_B.sl.r_30, kernelRun0_B.sl.r_34, kernelRun0_B.sl.r_36, kernelRun0_B.sl.r_38, kernelRun0_B.sl.r_40, kernelRun0_B.sl.r_42, kernelRun0_B.sl.r_43, kernelRun0_B.sl.r_44, kernelRun0_B.sl.r_46, kernelRun0_B.sl.r_48, kernelRun0_B.sl.r_50, kernelRun0_B.sl.r_52, b_6 c arg1 harg1 arg2 harg2 arg3 harg3 arg4 harg4 arg5 harg5 arg6 harg6 arg7 harg7 x0 x1 x2 x3 x4 x5 x6 ds, b_11 c arg1 harg1 arg2 harg2 arg3 harg3 arg4 harg4 arg5 harg5 arg6 harg6 arg7 harg7 x0 x1 x2 x3 x4 x5 x6 ds]
  rfl

/-- The gradient of the scaled values, first group. -/
theorem b_60 (hds : kernelRun0_B.sl.r_16 c arg12 harg12 xs0 = ds) : (kernelRun0_B.sl.r_60 c arg1 harg1 arg2 harg2 arg3 harg3 arg4 harg4 arg5 harg5 arg6 harg6 arg12 harg12 x0 x1 x2 x3 x4 x5 xs0)
    = dxg0 (reads arg1 harg1 arg2 harg2 arg3 harg3 arg4 harg4 arg5 harg5 arg6 harg6 arg7 harg7 x0 x1 x2 x3 x4 x5 x6 ds) := by
  simp only [kernelRun0_B.sl.r_60, kernelRun0_B.sl.r_22, kernelRun0_B.sl.r_26, kernelRun0_B.sl.r_29, kernelRun0_B.sl.r_35, kernelRun0_B.sl.r_38, kernelRun0_B.sl.r_39, kernelRun0_B.sl.r_43, kernelRun0_B.sl.r_47, kernelRun0_B.sl.r_51, kernelRun0_B.sl.r_55, b_6 c arg1 harg1 arg2 harg2 arg3 harg3 arg4 harg4 arg5 harg5 arg6 harg6 arg7 harg7 x0 x1 x2 x3 x4 x5 x6 ds, b_8 c arg1 harg1 arg2 harg2 arg3 harg3 arg4 harg4 arg5 harg5 arg6 harg6 arg7 harg7 x0 x1 x2 x3 x4 x5 x6 ds, b_20 c arg1 harg1 arg2 harg2 arg3 harg3 arg4 harg4 arg5 harg5 arg6 harg6 arg7 harg7 x0 x1 x2 x3 x4 x5 x6 ds, hds]
  rfl

/-- The same, second group. -/
theorem b_105 (hds : kernelRun0_B.sl.r_16 c arg12 harg12 xs0 = ds) : (kernelRun0_B.sl.r_105 c arg1 harg1 arg2 harg2 arg3 harg3 arg4 harg4 arg5 harg5 arg6 harg6 arg12 harg12 x0 x1 x2 x3 x4 x5 xs0)
    = dxg1 (reads arg1 harg1 arg2 harg2 arg3 harg3 arg4 harg4 arg5 harg5 arg6 harg6 arg7 harg7 x0 x1 x2 x3 x4 x5 x6 ds) := by
  simp only [kernelRun0_B.sl.r_105, kernelRun0_B.sl.r_68, kernelRun0_B.sl.r_73, kernelRun0_B.sl.r_76, kernelRun0_B.sl.r_77, kernelRun0_B.sl.r_81, kernelRun0_B.sl.r_86, kernelRun0_B.sl.r_89, kernelRun0_B.sl.r_94, kernelRun0_B.sl.r_100, kernelRun0_B.sl.r_103, b_6 c arg1 harg1 arg2 harg2 arg3 harg3 arg4 harg4 arg5 harg5 arg6 harg6 arg7 harg7 x0 x1 x2 x3 x4 x5 x6 ds, b_8 c arg1 harg1 arg2 harg2 arg3 harg3 arg4 harg4 arg5 harg5 arg6 harg6 arg7 harg7 x0 x1 x2 x3 x4 x5 x6 ds, b_64 c arg1 harg1 arg2 harg2 arg3 harg3 arg4 harg4 arg5 harg5 arg6 harg6 arg7 harg7 x0 x1 x2 x3 x4 x5 x6 ds, hds]
  rfl

attribute [local irreducible] dxg0 dxg1

/-- A pair of heads' gradient of the log decays. -/
theorem b_33 : (kernelRun0_B.sl.r_33 c arg1 harg1 arg2 harg2 arg3 harg3 arg4 harg4 arg5 harg5 arg6 harg6 x0 x1 x2 x3 x4 x5)
    = dadtPart (reads arg1 harg1 arg2 harg2 arg3 harg3 arg4 harg4 arg5 harg5 arg6 harg6 arg7 harg7 x0 x1 x2 x3 x4 x5 x6 ds) (Blk.b0 (reads arg1 harg1 arg2 harg2 arg3 harg3 arg4 harg4 arg5 harg5 arg6 harg6 arg7 harg7 x0 x1 x2 x3 x4 x5 x6 ds)) (Blk.c0 (reads arg1 harg1 arg2 harg2 arg3 harg3 arg4 harg4 arg5 harg5 arg6 harg6 arg7 harg7 x0 x1 x2 x3 x4 x5 x6 ds)) 0 slices_S128x1024_o0_0_S128x128 := by
  simp only [kernelRun0_B.sl.r_33, kernelRun0_B.sl.r_25, kernelRun0_B.sl.r_28, kernelRun0_B.sl.r_31, kernelRun0_B.sl.r_32, b_6 c arg1 harg1 arg2 harg2 arg3 harg3 arg4 harg4 arg5 harg5 arg6 harg6 arg7 harg7 x0 x1 x2 x3 x4 x5 x6 ds, b_11 c arg1 harg1 arg2 harg2 arg3 harg3 arg4 harg4 arg5 harg5 arg6 harg6 arg7 harg7 x0 x1 x2 x3 x4 x5 x6 ds, b_20 c arg1 harg1 arg2 harg2 arg3 harg3 arg4 harg4 arg5 harg5 arg6 harg6 arg7 harg7 x0 x1 x2 x3 x4 x5 x6 ds]
  rfl

/-- A pair of heads' gradient of the log decays. -/
theorem b_41 : (kernelRun0_B.sl.r_41 c arg1 harg1 arg2 harg2 arg3 harg3 arg4 harg4 arg5 harg5 arg6 harg6 x0 x1 x2 x3 x4 x5)
    = dadtPart (reads arg1 harg1 arg2 harg2 arg3 harg3 arg4 harg4 arg5 harg5 arg6 harg6 arg7 harg7 x0 x1 x2 x3 x4 x5 x6 ds) (Blk.b0 (reads arg1 harg1 arg2 harg2 arg3 harg3 arg4 harg4 arg5 harg5 arg6 harg6 arg7 harg7 x0 x1 x2 x3 x4 x5 x6 ds)) (Blk.c0 (reads arg1 harg1 arg2 harg2 arg3 harg3 arg4 harg4 arg5 harg5 arg6 harg6 arg7 harg7 x0 x1 x2 x3 x4 x5 x6 ds)) 128 slices_S128x1024_o0_128_S128x128 := by
  simp only [kernelRun0_B.sl.r_41, kernelRun0_B.sl.r_34, kernelRun0_B.sl.r_37, kernelRun0_B.sl.r_38, b_6 c arg1 harg1 arg2 harg2 arg3 harg3 arg4 harg4 arg5 harg5 arg6 harg6 arg7 harg7 x0 x1 x2 x3 x4 x5 x6 ds, b_11 c arg1 harg1 arg2 harg2 arg3 harg3 arg4 harg4 arg5 harg5 arg6 harg6 arg7 harg7 x0 x1 x2 x3 x4 x5 x6 ds, b_20 c arg1 harg1 arg2 harg2 arg3 harg3 arg4 harg4 arg5 harg5 arg6 harg6 arg7 harg7 x0 x1 x2 x3 x4 x5 x6 ds]
  rfl

/-- A pair of heads' gradient of the log decays. -/
theorem b_49 : (kernelRun0_B.sl.r_49 c arg1 harg1 arg2 harg2 arg3 harg3 arg4 harg4 arg5 harg5 arg6 harg6 x0 x1 x2 x3 x4 x5)
    = dadtPart (reads arg1 harg1 arg2 harg2 arg3 harg3 arg4 harg4 arg5 harg5 arg6 harg6 arg7 harg7 x0 x1 x2 x3 x4 x5 x6 ds) (Blk.b0 (reads arg1 harg1 arg2 harg2 arg3 harg3 arg4 harg4 arg5 harg5 arg6 harg6 arg7 harg7 x0 x1 x2 x3 x4 x5 x6 ds)) (Blk.c0 (reads arg1 harg1 arg2 harg2 arg3 harg3 arg4 harg4 arg5 harg5 arg6 harg6 arg7 harg7 x0 x1 x2 x3 x4 x5 x6 ds)) 256 slices_S128x1024_o0_256_S128x128 := by
  simp only [kernelRun0_B.sl.r_49, kernelRun0_B.sl.r_42, kernelRun0_B.sl.r_43, kernelRun0_B.sl.r_45, kernelRun0_B.sl.r_46, kernelRun0_B.sl.r_48, b_6 c arg1 harg1 arg2 harg2 arg3 harg3 arg4 harg4 arg5 harg5 arg6 harg6 arg7 harg7 x0 x1 x2 x3 x4 x5 x6 ds, b_11 c arg1 harg1 arg2 harg2 arg3 harg3 arg4 harg4 arg5 harg5 arg6 harg6 arg7 harg7 x0 x1 x2 x3 x4 x5 x6 ds, b_20 c arg1 harg1 arg2 harg2 arg3 harg3 arg4 harg4 arg5 harg5 arg6 harg6 arg7 harg7 x0 x1 x2 x3 x4 x5 x6 ds]
  rfl

/-- A pair of heads' gradient of the log decays. -/
theorem b_59 : (kernelRun0_B.sl.r_59 c arg1 harg1 arg2 harg2 arg3 harg3 arg4 harg4 arg5 harg5 arg6 harg6 x0 x1 x2 x3 x4 x5)
    = dadtPart (reads arg1 harg1 arg2 harg2 arg3 harg3 arg4 harg4 arg5 harg5 arg6 harg6 arg7 harg7 x0 x1 x2 x3 x4 x5 x6 ds) (Blk.b0 (reads arg1 harg1 arg2 harg2 arg3 harg3 arg4 harg4 arg5 harg5 arg6 harg6 arg7 harg7 x0 x1 x2 x3 x4 x5 x6 ds)) (Blk.c0 (reads arg1 harg1 arg2 harg2 arg3 harg3 arg4 harg4 arg5 harg5 arg6 harg6 arg7 harg7 x0 x1 x2 x3 x4 x5 x6 ds)) 384 slices_S128x1024_o0_384_S128x128 := by
  simp only [kernelRun0_B.sl.r_59, kernelRun0_B.sl.r_50, kernelRun0_B.sl.r_53, kernelRun0_B.sl.r_54, kernelRun0_B.sl.r_57, kernelRun0_B.sl.r_58, b_6 c arg1 harg1 arg2 harg2 arg3 harg3 arg4 harg4 arg5 harg5 arg6 harg6 arg7 harg7 x0 x1 x2 x3 x4 x5 x6 ds, b_11 c arg1 harg1 arg2 harg2 arg3 harg3 arg4 harg4 arg5 harg5 arg6 harg6 arg7 harg7 x0 x1 x2 x3 x4 x5 x6 ds, b_20 c arg1 harg1 arg2 harg2 arg3 harg3 arg4 harg4 arg5 harg5 arg6 harg6 arg7 harg7 x0 x1 x2 x3 x4 x5 x6 ds]
  rfl

/-- A pair of heads' gradient of the log decays. -/
theorem b_79 : (kernelRun0_B.sl.r_79 c arg1 harg1 arg2 harg2 arg3 harg3 arg4 harg4 arg5 harg5 arg6 harg6 x0 x1 x2 x3 x4 x5)
    = dadtPart (reads arg1 harg1 arg2 harg2 arg3 harg3 arg4 harg4 arg5 harg5 arg6 harg6 arg7 harg7 x0 x1 x2 x3 x4 x5 x6 ds) (Blk.b1 (reads arg1 harg1 arg2 harg2 arg3 harg3 arg4 harg4 arg5 harg5 arg6 harg6 arg7 harg7 x0 x1 x2 x3 x4 x5 x6 ds)) (Blk.c1 (reads arg1 harg1 arg2 harg2 arg3 harg3 arg4 harg4 arg5 harg5 arg6 harg6 arg7 harg7 x0 x1 x2 x3 x4 x5 x6 ds)) 512 slices_S128x1024_o0_512_S128x128 := by
  simp only [kernelRun0_B.sl.r_79, kernelRun0_B.sl.r_72, kernelRun0_B.sl.r_75, kernelRun0_B.sl.r_76, b_6 c arg1 harg1 arg2 harg2 arg3 harg3 arg4 harg4 arg5 harg5 arg6 harg6 arg7 harg7 x0 x1 x2 x3 x4 x5 x6 ds, b_11 c arg1 harg1 arg2 harg2 arg3 harg3 arg4 harg4 arg5 harg5 arg6 harg6 arg7 harg7 x0 x1 x2 x3 x4 x5 x6 ds, b_64 c arg1 harg1 arg2 harg2 arg3 harg3 arg4 harg4 arg5 harg5 arg6 harg6 arg7 harg7 x0 x1 x2 x3 x4 x5 x6 ds]
  rfl

/-- A pair of heads' gradient of the log decays. -/
theorem b_87 : (kernelRun0_B.sl.r_87 c arg1 harg1 arg2 harg2 arg3 harg3 arg4 harg4 arg5 harg5 arg6 harg6 x0 x1 x2 x3 x4 x5)
    = dadtPart (reads arg1 harg1 arg2 harg2 arg3 harg3 arg4 harg4 arg5 harg5 arg6 harg6 arg7 harg7 x0 x1 x2 x3 x4 x5 x6 ds) (Blk.b1 (reads arg1 harg1 arg2 harg2 arg3 harg3 arg4 harg4 arg5 harg5 arg6 harg6 arg7 harg7 x0 x1 x2 x3 x4 x5 x6 ds)) (Blk.c1 (reads arg1 harg1 arg2 harg2 arg3 harg3 arg4 harg4 arg5 harg5 arg6 harg6 arg7 harg7 x0 x1 x2 x3 x4 x5 x6 ds)) 640 slices_S128x1024_o0_640_S128x128 := by
  simp only [kernelRun0_B.sl.r_87, kernelRun0_B.sl.r_80, kernelRun0_B.sl.r_81, kernelRun0_B.sl.r_83, kernelRun0_B.sl.r_84, kernelRun0_B.sl.r_85, b_6 c arg1 harg1 arg2 harg2 arg3 harg3 arg4 harg4 arg5 harg5 arg6 harg6 arg7 harg7 x0 x1 x2 x3 x4 x5 x6 ds, b_11 c arg1 harg1 arg2 harg2 arg3 harg3 arg4 harg4 arg5 harg5 arg6 harg6 arg7 harg7 x0 x1 x2 x3 x4 x5 x6 ds, b_64 c arg1 harg1 arg2 harg2 arg3 harg3 arg4 harg4 arg5 harg5 arg6 harg6 arg7 harg7 x0 x1 x2 x3 x4 x5 x6 ds]
  rfl

/-- A pair of heads' gradient of the log decays. -/
theorem b_98 : (kernelRun0_B.sl.r_98 c arg1 harg1 arg2 harg2 arg3 harg3 arg4 harg4 arg5 harg5 arg6 harg6 x0 x1 x2 x3 x4 x5)
    = dadtPart (reads arg1 harg1 arg2 harg2 arg3 harg3 arg4 harg4 arg5 harg5 arg6 harg6 arg7 harg7 x0 x1 x2 x3 x4 x5 x6 ds) (Blk.b1 (reads arg1 harg1 arg2 harg2 arg3 harg3 arg4 harg4 arg5 harg5 arg6 harg6 arg7 harg7 x0 x1 x2 x3 x4 x5 x6 ds)) (Blk.c1 (reads arg1 harg1 arg2 harg2 arg3 harg3 arg4 harg4 arg5 harg5 arg6 harg6 arg7 harg7 x0 x1 x2 x3 x4 x5 x6 ds)) 768 slices_S128x1024_o0_768_S128x128 := by
  simp only [kernelRun0_B.sl.r_98, kernelRun0_B.sl.r_88, kernelRun0_B.sl.r_91, kernelRun0_B.sl.r_92, kernelRun0_B.sl.r_93, kernelRun0_B.sl.r_96, kernelRun0_B.sl.r_97, b_6 c arg1 harg1 arg2 harg2 arg3 harg3 arg4 harg4 arg5 harg5 arg6 harg6 arg7 harg7 x0 x1 x2 x3 x4 x5 x6 ds, b_11 c arg1 harg1 arg2 harg2 arg3 harg3 arg4 harg4 arg5 harg5 arg6 harg6 arg7 harg7 x0 x1 x2 x3 x4 x5 x6 ds, b_64 c arg1 harg1 arg2 harg2 arg3 harg3 arg4 harg4 arg5 harg5 arg6 harg6 arg7 harg7 x0 x1 x2 x3 x4 x5 x6 ds]
  rfl

/-- A pair of heads' gradient of the log decays. -/
theorem b_104 : (kernelRun0_B.sl.r_104 c arg1 harg1 arg2 harg2 arg3 harg3 arg4 harg4 arg5 harg5 arg6 harg6 x0 x1 x2 x3 x4 x5)
    = dadtPart (reads arg1 harg1 arg2 harg2 arg3 harg3 arg4 harg4 arg5 harg5 arg6 harg6 arg7 harg7 x0 x1 x2 x3 x4 x5 x6 ds) (Blk.b1 (reads arg1 harg1 arg2 harg2 arg3 harg3 arg4 harg4 arg5 harg5 arg6 harg6 arg7 harg7 x0 x1 x2 x3 x4 x5 x6 ds)) (Blk.c1 (reads arg1 harg1 arg2 harg2 arg3 harg3 arg4 harg4 arg5 harg5 arg6 harg6 arg7 harg7 x0 x1 x2 x3 x4 x5 x6 ds)) 896 slices_S128x1024_o0_896_S128x128 := by
  simp only [kernelRun0_B.sl.r_104, kernelRun0_B.sl.r_99, kernelRun0_B.sl.r_102, kernelRun0_B.sl.r_103, b_6 c arg1 harg1 arg2 harg2 arg3 harg3 arg4 harg4 arg5 harg5 arg6 harg6 arg7 harg7 x0 x1 x2 x3 x4 x5 x6 ds, b_11 c arg1 harg1 arg2 harg2 arg3 harg3 arg4 harg4 arg5 harg5 arg6 harg6 arg7 harg7 x0 x1 x2 x3 x4 x5 x6 ds, b_64 c arg1 harg1 arg2 harg2 arg3 harg3 arg4 harg4 arg5 harg5 arg6 harg6 arg7 harg7 x0 x1 x2 x3 x4 x5 x6 ds]
  rfl

attribute [local irreducible] dadtPart

/-- The gradient of the log decays without what crosses the whole block. -/
theorem b_112 (hds : kernelRun0_B.sl.r_16 c arg12 harg12 xs0 = ds) : (kernelRun0_B.sl.r_112 c arg1 harg1 arg2 harg2 arg3 harg3 arg4 harg4 arg5 harg5 arg6 harg6 arg7 harg7 arg12 harg12 x0 x1 x2 x3 x4 x5 x6 xs0)
    = addf (dadtOwn (reads arg1 harg1 arg2 harg2 arg3 harg3 arg4 harg4 arg5 harg5 arg6 harg6 arg7 harg7 x0 x1 x2 x3 x4 x5 x6 ds)) (headSums (spread (reads arg1 harg1 arg2 harg2 arg3 harg3 arg4 harg4 arg5 harg5 arg6 harg6 arg7 harg7 x0 x1 x2 x3 x4 x5 x6 ds)) (addf (throughOut (reads arg1 harg1 arg2 harg2 arg3 harg3 arg4 harg4 arg5 harg5 arg6 harg6 arg7 harg7 x0 x1 x2 x3 x4 x5 x6 ds)) (throughIn (reads arg1 harg1 arg2 harg2 arg3 harg3 arg4 harg4 arg5 harg5 arg6 harg6 arg7 harg7 x0 x1 x2 x3 x4 x5 x6 ds)))) := by
  simp only [kernelRun0_B.sl.r_112, kernelRun0_B.sl.r_19, kernelRun0_B.sl.r_22, kernelRun0_B.sl.r_61, kernelRun0_B.sl.r_63, kernelRun0_B.sl.r_68, kernelRun0_B.sl.r_106, kernelRun0_B.sl.r_108, kernelRun0_B.sl.r_109, kernelRun0_B.sl.r_110, kernelRun0_B.sl.r_111, b_7 c arg1 harg1 arg2 harg2 arg3 harg3 arg4 harg4 arg5 harg5 arg6 harg6 arg7 harg7 x0 x1 x2 x3 x4 x5 x6 ds, b_8 c arg1 harg1 arg2 harg2 arg3 harg3 arg4 harg4 arg5 harg5 arg6 harg6 arg7 harg7 x0 x1 x2 x3 x4 x5 x6 ds, b_11 c arg1 harg1 arg2 harg2 arg3 harg3 arg4 harg4 arg5 harg5 arg6 harg6 arg7 harg7 x0 x1 x2 x3 x4 x5 x6 ds, b_13 c arg1 harg1 arg2 harg2 arg3 harg3 arg4 harg4 arg5 harg5 arg6 harg6 arg7 harg7 x0 x1 x2 x3 x4 x5 x6 ds, b_33 c arg1 harg1 arg2 harg2 arg3 harg3 arg4 harg4 arg5 harg5 arg6 harg6 arg7 harg7 x0 x1 x2 x3 x4 x5 x6 ds, b_41 c arg1 harg1 arg2 harg2 arg3 harg3 arg4 harg4 arg5 harg5 arg6 harg6 arg7 harg7 x0 x1 x2 x3 x4 x5 x6 ds, b_49 c arg1 harg1 arg2 harg2 arg3 harg3 arg4 harg4 arg5 harg5 arg6 harg6 arg7 harg7 x0 x1 x2 x3 x4 x5 x6 ds, b_59 c arg1 harg1 arg2 harg2 arg3 harg3 arg4 harg4 arg5 harg5 arg6 harg6 arg7 harg7 x0 x1 x2 x3 x4 x5 x6 ds, b_79 c arg1 harg1 arg2 harg2 arg3 harg3 arg4 harg4 arg5 harg5 arg6 harg6 arg7 harg7 x0 x1 x2 x3 x4 x5 x6 ds, b_87 c arg1 harg1 arg2 harg2 arg3 harg3 arg4 harg4 arg5 harg5 arg6 harg6 arg7 harg7 x0 x1 x2 x3 x4 x5 x6 ds, b_98 c arg1 harg1 arg2 harg2 arg3 harg3 arg4 harg4 arg5 harg5 arg6 harg6 arg7 harg7 x0 x1 x2 x3 x4 x5 x6 ds, b_104 c arg1 harg1 arg2 harg2 arg3 harg3 arg4 harg4 arg5 harg5 arg6 harg6 arg7 harg7 x0 x1 x2 x3 x4 x5 x6 ds, b_0 c arg1 harg1 arg2 harg2 arg3 harg3 arg4 harg4 arg5 harg5 arg6 harg6 arg7 harg7 x0 x1 x2 x3 x4 x5 x6 ds, hds]
  rfl

attribute [local irreducible] dadtOwn throughOut throughIn

/-- The gradient of the log decays. -/
theorem b_114 (hds : kernelRun0_B.sl.r_16 c arg12 harg12 xs0 = ds) : (kernelRun0_B.sl.r_114 c arg1 harg1 arg2 harg2 arg3 harg3 arg4 harg4 arg5 harg5 arg6 harg6 arg7 harg7 arg12 harg12 x0 x1 x2 x3 x4 x5 x6 xs0)
    = dadt (reads arg1 harg1 arg2 harg2 arg3 harg3 arg4 harg4 arg5 harg5 arg6 harg6 arg7 harg7 x0 x1 x2 x3 x4 x5 x6 ds) := by
  simp only [kernelRun0_B.sl.r_114, kernelRun0_B.sl.r_113, b_9 c arg1 harg1 arg2 harg2 arg3 harg3 arg4 harg4 arg5 harg5 arg6 harg6 arg7 harg7 x0 x1 x2 x3 x4 x5 x6 ds, b_13 c arg1 harg1 arg2 harg2 arg3 harg3 arg4 harg4 arg5 harg5 arg6 harg6 arg7 harg7 x0 x1 x2 x3 x4 x5 x6 ds, b_112 c arg1 harg1 arg2 harg2 arg3 harg3 arg4 harg4 arg5 harg5 arg6 harg6 arg7 harg7 arg12 harg12 x0 x1 x2 x3 x4 x5 x6 xs0 ds hds, b_0 c arg1 harg1 arg2 harg2 arg3 harg3 arg4 harg4 arg5 harg5 arg6 harg6 arg7 harg7 x0 x1 x2 x3 x4 x5 x6 ds, hds]
  rfl

/-- The gradient of the step sizes before the softplus. -/
theorem b_115 (hds : kernelRun0_B.sl.r_16 c arg12 harg12 xs0 = ds) : (kernelRun0_B.sl.r_115 c arg1 harg1 arg2 harg2 arg3 harg3 arg4 harg4 arg5 harg5 arg6 harg6 arg7 harg7 arg12 harg12 x0 x1 x2 x3 x4 x5 x6 xs0)
    = draw (reads arg1 harg1 arg2 harg2 arg3 harg3 arg4 harg4 arg5 harg5 arg6 harg6 arg7 harg7 x0 x1 x2 x3 x4 x5 x6 ds) := by
  simp only [kernelRun0_B.sl.r_115, kernelRun0_B.sl.r_107, kernelRun0_B.sl.r_113, b_1 c arg1 harg1 arg2 harg2 arg3 harg3 arg4 harg4 arg5 harg5 arg6 harg6 arg7 harg7 x0 x1 x2 x3 x4 x5 x6 ds, b_5 c arg1 harg1 arg2 harg2 arg3 harg3 arg4 harg4 arg5 harg5 arg6 harg6 arg7 harg7 x0 x1 x2 x3 x4 x5 x6 ds, b_9 c arg1 harg1 arg2 harg2 arg3 harg3 arg4 harg4 arg5 harg5 arg6 harg6 arg7 harg7 x0 x1 x2 x3 x4 x5 x6 ds, b_13 c arg1 harg1 arg2 harg2 arg3 harg3 arg4 harg4 arg5 harg5 arg6 harg6 arg7 harg7 x0 x1 x2 x3 x4 x5 x6 ds, b_60 c arg1 harg1 arg2 harg2 arg3 harg3 arg4 harg4 arg5 harg5 arg6 harg6 arg7 harg7 arg12 harg12 x0 x1 x2 x3 x4 x5 x6 xs0 ds hds, b_105 c arg1 harg1 arg2 harg2 arg3 harg3 arg4 harg4 arg5 harg5 arg6 harg6 arg7 harg7 arg12 harg12 x0 x1 x2 x3 x4 x5 x6 xs0 ds hds, b_112 c arg1 harg1 arg2 harg2 arg3 harg3 arg4 harg4 arg5 harg5 arg6 harg6 arg7 harg7 arg12 harg12 x0 x1 x2 x3 x4 x5 x6 xs0 ds hds, b_0 c arg1 harg1 arg2 harg2 arg3 harg3 arg4 harg4 arg5 harg5 arg6 harg6 arg7 harg7 x0 x1 x2 x3 x4 x5 x6 ds, hds]
  rfl

/-- The gradient of the values. -/
theorem dxDt_stored (hds : kernelRun0_B.sl.r_16 c arg12 harg12 xs0 = ds) : k0_pay173 (kernelRun0_B.sl.r_4 c arg2 harg2 arg3 harg3 arg4 harg4 x1 x2 x3) (kernelRun0_B.sl.r_60 c arg1 harg1 arg2 harg2 arg3 harg3 arg4 harg4 arg5 harg5 arg6 harg6 arg12 harg12 x0 x1 x2 x3 x4 x5 xs0) (kernelRun0_B.sl.r_105 c arg1 harg1 arg2 harg2 arg3 harg3 arg4 harg4 arg5 harg5 arg6 harg6 arg12 harg12 x0 x1 x2 x3 x4 x5 xs0)
    = dxDt (reads arg1 harg1 arg2 harg2 arg3 harg3 arg4 harg4 arg5 harg5 arg6 harg6 arg7 harg7 x0 x1 x2 x3 x4 x5 x6 ds) := by
  simp only [b_4 c arg1 harg1 arg2 harg2 arg3 harg3 arg4 harg4 arg5 harg5 arg6 harg6 arg7 harg7 x0 x1 x2 x3 x4 x5 x6 ds, b_60 c arg1 harg1 arg2 harg2 arg3 harg3 arg4 harg4 arg5 harg5 arg6 harg6 arg7 harg7 arg12 harg12 x0 x1 x2 x3 x4 x5 x6 xs0 ds hds, b_105 c arg1 harg1 arg2 harg2 arg3 harg3 arg4 harg4 arg5 harg5 arg6 harg6 arg7 harg7 arg12 harg12 x0 x1 x2 x3 x4 x5 x6 xs0 ds hds]
  rfl

/-- The gradient of `C`, second group. -/
theorem dC1_stored  : k0_pay167 kernelRun0_B.sl.v3 kernelRun0_B.sl.v4 k0_pay5 (kernelRun0_B.sl.r_12 c arg6 harg6 x5) (kernelRun0_B.sl.r_62 c arg1 harg1 x0) (kernelRun0_B.sl.r_70 c arg2 harg2 arg3 harg3 arg4 harg4 arg5 harg5 arg6 harg6 arg7 harg7 x1 x2 x3 x4 x5 x6) (kernelRun0_B.sl.r_99 c arg1 harg1 arg2 harg2 arg3 harg3 arg4 harg4 x0 x1 x2 x3) (kernelRun0_B.sl.r_101 c arg1 harg1 arg2 harg2 arg3 harg3 arg4 harg4 arg5 harg5 arg6 harg6 x0 x1 x2 x3 x4 x5) (kernelRun0_B.sl.r_103 c arg2 harg2 arg3 harg3 arg4 harg4 arg5 harg5 x1 x2 x3 x4)
    = dC1 (reads arg1 harg1 arg2 harg2 arg3 harg3 arg4 harg4 arg5 harg5 arg6 harg6 arg7 harg7 x0 x1 x2 x3 x4 x5 x6 ds) := by
  simp only [kernelRun0_B.sl.r_62, kernelRun0_B.sl.r_66, kernelRun0_B.sl.r_69, kernelRun0_B.sl.r_70, kernelRun0_B.sl.r_72, kernelRun0_B.sl.r_74, kernelRun0_B.sl.r_76, kernelRun0_B.sl.r_78, kernelRun0_B.sl.r_80, kernelRun0_B.sl.r_81, kernelRun0_B.sl.r_82, kernelRun0_B.sl.r_84, kernelRun0_B.sl.r_85, kernelRun0_B.sl.r_88, kernelRun0_B.sl.r_90, kernelRun0_B.sl.r_95, kernelRun0_B.sl.r_99, kernelRun0_B.sl.r_101, kernelRun0_B.sl.r_103, b_6 c arg1 harg1 arg2 harg2 arg3 harg3 arg4 harg4 arg5 harg5 arg6 harg6 arg7 harg7 x0 x1 x2 x3 x4 x5 x6 ds, b_11 c arg1 harg1 arg2 harg2 arg3 harg3 arg4 harg4 arg5 harg5 arg6 harg6 arg7 harg7 x0 x1 x2 x3 x4 x5 x6 ds, b_13 c arg1 harg1 arg2 harg2 arg3 harg3 arg4 harg4 arg5 harg5 arg6 harg6 arg7 harg7 x0 x1 x2 x3 x4 x5 x6 ds, b_14 c arg1 harg1 arg2 harg2 arg3 harg3 arg4 harg4 arg5 harg5 arg6 harg6 arg7 harg7 x0 x1 x2 x3 x4 x5 x6 ds]
  rfl

/-- The gradient of `B`, second group. -/
theorem dB1_stored (hds : kernelRun0_B.sl.r_16 c arg12 harg12 xs0 = ds) : k0_pay168 kernelRun0_B.sl.v3 kernelRun0_B.sl.v4 k0_pay5 (kernelRun0_B.sl.r_12 c arg6 harg6 x5) (kernelRun0_B.sl.r_63 c arg1 harg1 x0) (kernelRun0_B.sl.r_71 c arg1 harg1 arg2 harg2 arg3 harg3 arg4 harg4 arg5 harg5 arg12 harg12 x0 x1 x2 x3 x4 xs0) (kernelRun0_B.sl.r_99 c arg1 harg1 arg2 harg2 arg3 harg3 arg4 harg4 x0 x1 x2 x3) (kernelRun0_B.sl.r_101 c arg1 harg1 arg2 harg2 arg3 harg3 arg4 harg4 arg5 harg5 arg6 harg6 x0 x1 x2 x3 x4 x5) (kernelRun0_B.sl.r_103 c arg2 harg2 arg3 harg3 arg4 harg4 arg5 harg5 x1 x2 x3 x4)
    = dB1 (reads arg1 harg1 arg2 harg2 arg3 harg3 arg4 harg4 arg5 harg5 arg6 harg6 arg7 harg7 x0 x1 x2 x3 x4 x5 x6 ds) := by
  simp only [kernelRun0_B.sl.r_63, kernelRun0_B.sl.r_65, kernelRun0_B.sl.r_67, kernelRun0_B.sl.r_71, kernelRun0_B.sl.r_72, kernelRun0_B.sl.r_74, kernelRun0_B.sl.r_76, kernelRun0_B.sl.r_78, kernelRun0_B.sl.r_80, kernelRun0_B.sl.r_81, kernelRun0_B.sl.r_82, kernelRun0_B.sl.r_84, kernelRun0_B.sl.r_85, kernelRun0_B.sl.r_88, kernelRun0_B.sl.r_90, kernelRun0_B.sl.r_95, kernelRun0_B.sl.r_99, kernelRun0_B.sl.r_101, kernelRun0_B.sl.r_103, b_6 c arg1 harg1 arg2 harg2 arg3 harg3 arg4 harg4 arg5 harg5 arg6 harg6 arg7 harg7 x0 x1 x2 x3 x4 x5 x6 ds, b_11 c arg1 harg1 arg2 harg2 arg3 harg3 arg4 harg4 arg5 harg5 arg6 harg6 arg7 harg7 x0 x1 x2 x3 x4 x5 x6 ds, b_15 c arg1 harg1 arg2 harg2 arg3 harg3 arg4 harg4 arg5 harg5 arg6 harg6 arg7 harg7 x0 x1 x2 x3 x4 x5 x6 ds, hds]
  rfl

/-- The gradient of `C`, first group. -/
theorem dC0_stored  : k0_pay94 (kernelRun0_B.sl.r_18 c arg1 harg1 x0) (kernelRun0_B.sl.r_23 c arg2 harg2 arg3 harg3 arg4 harg4 arg5 harg5 arg6 harg6 arg7 harg7 x1 x2 x3 x4 x5 x6) (kernelRun0_B.sl.r_56 c arg1 harg1 arg2 harg2 arg3 harg3 arg4 harg4 arg5 harg5 arg6 harg6 x0 x1 x2 x3 x4 x5)
    = dC0 (reads arg1 harg1 arg2 harg2 arg3 harg3 arg4 harg4 arg5 harg5 arg6 harg6 arg7 harg7 x0 x1 x2 x3 x4 x5 x6 ds) := by
  simp only [kernelRun0_B.sl.r_18, kernelRun0_B.sl.r_23, b_13 c arg1 harg1 arg2 harg2 arg3 harg3 arg4 harg4 arg5 harg5 arg6 harg6 arg7 harg7 x0 x1 x2 x3 x4 x5 x6 ds, b_14 c arg1 harg1 arg2 harg2 arg3 harg3 arg4 harg4 arg5 harg5 arg6 harg6 arg7 harg7 x0 x1 x2 x3 x4 x5 x6 ds, b_56 c arg1 harg1 arg2 harg2 arg3 harg3 arg4 harg4 arg5 harg5 arg6 harg6 arg7 harg7 x0 x1 x2 x3 x4 x5 x6 ds]
  rfl

/-- The gradient of `B`, first group. -/
theorem dB0_stored (hds : kernelRun0_B.sl.r_16 c arg12 harg12 xs0 = ds) : k0_pay95 (kernelRun0_B.sl.r_19 c arg1 harg1 x0) (kernelRun0_B.sl.r_24 c arg1 harg1 arg2 harg2 arg3 harg3 arg4 harg4 arg5 harg5 arg12 harg12 x0 x1 x2 x3 x4 xs0) (kernelRun0_B.sl.r_56 c arg1 harg1 arg2 harg2 arg3 harg3 arg4 harg4 arg5 harg5 arg6 harg6 x0 x1 x2 x3 x4 x5)
    = dB0 (reads arg1 harg1 arg2 harg2 arg3 harg3 arg4 harg4 arg5 harg5 arg6 harg6 arg7 harg7 x0 x1 x2 x3 x4 x5 x6 ds) := by
  simp only [kernelRun0_B.sl.r_19, kernelRun0_B.sl.r_24, b_15 c arg1 harg1 arg2 harg2 arg3 harg3 arg4 harg4 arg5 harg5 arg6 harg6 arg7 harg7 x0 x1 x2 x3 x4 x5 x6 ds, b_56 c arg1 harg1 arg2 harg2 arg3 harg3 arg4 harg4 arg5 harg5 arg6 harg6 arg7 harg7 x0 x1 x2 x3 x4 x5 x6 ds, hds]
  rfl

/-- The gradient of the step sizes' columns. -/
theorem ddtTile_stored (hds : kernelRun0_B.sl.r_16 c arg12 harg12 xs0 = ds) : k0_pay189 (kernelRun0_B.sl.r c arg3 harg3 x2) (kernelRun0_B.sl.r_116 c arg1 harg1 arg2 harg2 arg3 harg3 arg4 harg4 arg5 harg5 arg6 harg6 arg7 harg7 arg12 harg12 x0 x1 x2 x3 x4 x5 x6 xs0) (kernelRun0_B.sl.r_117 c arg1 harg1 arg2 harg2 arg3 harg3 arg4 harg4 arg5 harg5 arg6 harg6 arg7 harg7 arg12 harg12 x0 x1 x2 x3 x4 x5 x6 xs0) (kernelRun0_B.sl.r_118 c arg1 harg1 arg2 harg2 arg3 harg3 arg4 harg4 arg5 harg5 arg6 harg6 arg7 harg7 arg12 harg12 x0 x1 x2 x3 x4 x5 x6 xs0)
    = ddtTile (reads arg1 harg1 arg2 harg2 arg3 harg3 arg4 harg4 arg5 harg5 arg6 harg6 arg7 harg7 x0 x1 x2 x3 x4 x5 x6 ds) := by
  simp only [kernelRun0_B.sl.r_107, kernelRun0_B.sl.r_113, kernelRun0_B.sl.r_116, kernelRun0_B.sl.r_117, kernelRun0_B.sl.r_118, b_1 c arg1 harg1 arg2 harg2 arg3 harg3 arg4 harg4 arg5 harg5 arg6 harg6 arg7 harg7 x0 x1 x2 x3 x4 x5 x6 ds, b_5 c arg1 harg1 arg2 harg2 arg3 harg3 arg4 harg4 arg5 harg5 arg6 harg6 arg7 harg7 x0 x1 x2 x3 x4 x5 x6 ds, b_9 c arg1 harg1 arg2 harg2 arg3 harg3 arg4 harg4 arg5 harg5 arg6 harg6 arg7 harg7 x0 x1 x2 x3 x4 x5 x6 ds, b_13 c arg1 harg1 arg2 harg2 arg3 harg3 arg4 harg4 arg5 harg5 arg6 harg6 arg7 harg7 x0 x1 x2 x3 x4 x5 x6 ds, b_60 c arg1 harg1 arg2 harg2 arg3 harg3 arg4 harg4 arg5 harg5 arg6 harg6 arg7 harg7 arg12 harg12 x0 x1 x2 x3 x4 x5 x6 xs0 ds hds, b_105 c arg1 harg1 arg2 harg2 arg3 harg3 arg4 harg4 arg5 harg5 arg6 harg6 arg7 harg7 arg12 harg12 x0 x1 x2 x3 x4 x5 x6 xs0 ds hds, b_112 c arg1 harg1 arg2 harg2 arg3 harg3 arg4 harg4 arg5 harg5 arg6 harg6 arg7 harg7 arg12 harg12 x0 x1 x2 x3 x4 x5 x6 xs0 ds hds, b_0 c arg1 harg1 arg2 harg2 arg3 harg3 arg4 harg4 arg5 harg5 arg6 harg6 arg7 harg7 x0 x1 x2 x3 x4 x5 x6 ds, hds]
  rfl

/-- The gradient of the entering state, second group. -/
theorem dstate1_stored (hds : kernelRun0_B.sl.r_16 c arg12 harg12 xs0 = ds) : k0_pay171 (kernelRun0_B.sl.r_9 c arg2 harg2 arg3 harg3 arg4 harg4 arg5 harg5 x1 x2 x3 x4) (kernelRun0_B.sl.r_16 c arg12 harg12 xs0) (kernelRun0_B.sl.r_63 c arg1 harg1 x0) (kernelRun0_B.sl.r_66 c arg2 harg2 arg3 harg3 arg4 harg4 arg5 harg5 arg6 harg6 x1 x2 x3 x4 x5)
    = dstate1 (reads arg1 harg1 arg2 harg2 arg3 harg3 arg4 harg4 arg5 harg5 arg6 harg6 arg7 harg7 x0 x1 x2 x3 x4 x5 x6 ds) := by
  simp only [kernelRun0_B.sl.r_63, kernelRun0_B.sl.r_66, b_9 c arg1 harg1 arg2 harg2 arg3 harg3 arg4 harg4 arg5 harg5 arg6 harg6 arg7 harg7 x0 x1 x2 x3 x4 x5 x6 ds, b_14 c arg1 harg1 arg2 harg2 arg3 harg3 arg4 harg4 arg5 harg5 arg6 harg6 arg7 harg7 x0 x1 x2 x3 x4 x5 x6 ds, hds]
  rfl

/-- The gradient of the entering state, first group. -/
theorem dstate0_stored (hds : kernelRun0_B.sl.r_16 c arg12 harg12 xs0 = ds) : k0_pay98 (kernelRun0_B.sl.r_9 c arg2 harg2 arg3 harg3 arg4 harg4 arg5 harg5 x1 x2 x3 x4) (kernelRun0_B.sl.r_16 c arg12 harg12 xs0) (kernelRun0_B.sl.r_19 c arg1 harg1 x0) (kernelRun0_B.sl.r_21 c arg2 harg2 arg3 harg3 arg4 harg4 arg5 harg5 arg6 harg6 x1 x2 x3 x4 x5)
    = dstate0 (reads arg1 harg1 arg2 harg2 arg3 harg3 arg4 harg4 arg5 harg5 arg6 harg6 arg7 harg7 x0 x1 x2 x3 x4 x5 x6 ds) := by
  simp only [kernelRun0_B.sl.r_19, kernelRun0_B.sl.r_21, b_9 c arg1 harg1 arg2 harg2 arg3 harg3 arg4 harg4 arg5 harg5 arg6 harg6 arg7 harg7 x0 x1 x2 x3 x4 x5 x6 ds, b_14 c arg1 harg1 arg2 harg2 arg3 harg3 arg4 harg4 arg5 harg5 arg6 harg6 arg7 harg7 x0 x1 x2 x3 x4 x5 x6 ds, hds]
  rfl

/-- The skip weight's sums. -/
theorem st2_stored  (w : FVec F S1x1024 .f32) : k0_pay192 (kernelRun0_B.sl.r_10 c arg1 harg1 x0) (kernelRun0_B.sl.r_12 c arg6 harg6 x5)  w
    = st2 (reads arg1 harg1 arg2 harg2 arg3 harg3 arg4 harg4 arg5 harg5 arg6 harg6 arg7 harg7 x0 x1 x2 x3 x4 x5 x6 ds) w := by
  rfl

/-- The sums of `dt_bias`. -/
theorem st1_stored (hds : kernelRun0_B.sl.r_16 c arg12 harg12 xs0 = ds) (w : FVec F S1x1024 .f32) : k0_pay191 (kernelRun0_B.sl.r_115 c arg1 harg1 arg2 harg2 arg3 harg3 arg4 harg4 arg5 harg5 arg6 harg6 arg7 harg7 arg12 harg12 x0 x1 x2 x3 x4 x5 x6 xs0)  w
    = st1 (reads arg1 harg1 arg2 harg2 arg3 harg3 arg4 harg4 arg5 harg5 arg6 harg6 arg7 harg7 x0 x1 x2 x3 x4 x5 x6 ds) w := by
  simp only [b_115 c arg1 harg1 arg2 harg2 arg3 harg3 arg4 harg4 arg5 harg5 arg6 harg6 arg7 harg7 arg12 harg12 x0 x1 x2 x3 x4 x5 x6 xs0 ds hds]
  rfl

/-- The sums of `a_log`. -/
theorem st0_stored (hds : kernelRun0_B.sl.r_16 c arg12 harg12 xs0 = ds) (w : FVec F S1x1024 .f32) : k0_pay190 (kernelRun0_B.sl.r_4 c arg2 harg2 arg3 harg3 arg4 harg4 x1 x2 x3) (kernelRun0_B.sl.r_5 c arg5 harg5 x4) (kernelRun0_B.sl.r_114 c arg1 harg1 arg2 harg2 arg3 harg3 arg4 harg4 arg5 harg5 arg6 harg6 arg7 harg7 arg12 harg12 x0 x1 x2 x3 x4 x5 x6 xs0)  w
    = st0 (reads arg1 harg1 arg2 harg2 arg3 harg3 arg4 harg4 arg5 harg5 arg6 harg6 arg7 harg7 x0 x1 x2 x3 x4 x5 x6 ds) w := by
  simp only [b_4 c arg1 harg1 arg2 harg2 arg3 harg3 arg4 harg4 arg5 harg5 arg6 harg6 arg7 harg7 x0 x1 x2 x3 x4 x5 x6 ds, b_5 c arg1 harg1 arg2 harg2 arg3 harg3 arg4 harg4 arg5 harg5 arg6 harg6 arg7 harg7 x0 x1 x2 x3 x4 x5 x6 ds, b_114 c arg1 harg1 arg2 harg2 arg3 harg3 arg4 harg4 arg5 harg5 arg6 harg6 arg7 harg7 arg12 harg12 x0 x1 x2 x3 x4 x5 x6 xs0 ds hds]
  rfl

end Ssd.Body
-- ==== Proof.Lists.lean ====
module

public import proofs.«01_k».proof.Proof.Pieces
public import Idealize.ShloMosaic.Lib.WholeRead
public import Idealize.ShloMosaic.Lib.VecWindow

/-!
# The pieces each case of the body stores

The body runs in three cases: the first grid point clears the carried gradient and the sums, the last one also reduces
the sums to heads. The pieces stored are the same quantities in all of them.
-/

@[expose] public section

set_option maxRecDepth 16384

noncomputable section

namespace Ssd.Body

open Idealize.ShloMosaic Idealize.SL.Sem Cert.KernelIdeal Cert.KernelIdeal.Gen

variable {F : FTy → Type} [FloatOps F]

/-- The pieces of the gradient of the convolved columns. -/
def pieces7 (k : Blk F) : List (View.Piece (Elt F) S128x1536 .f32) :=
  [⟨Rect.unit ![0, 0] S128x1024.size inb_S128x1536_S128x1024_0_0, dxDt k⟩,
   ⟨Rect.unit ![0, 1408] S128x128.size inb_S128x1536_S128x128_0_1408, dC1 k⟩,
   ⟨Rect.unit ![0, 1152] S128x128.size inb_S128x1536_S128x128_0_1152, dB1 k⟩,
   ⟨Rect.unit ![0, 1280] S128x128.size inb_S128x1536_S128x128_0_1280, dC0 k⟩,
   ⟨Rect.unit ![0, 1024] S128x128.size inb_S128x1536_S128x128_0_1024, dB0 k⟩]

/-- The piece of the gradient of the step sizes. -/
def pieces8 (k : Blk F) : List (View.Piece (Elt F) S128x128 .f32) :=
  [⟨Rect.unit ![0, 0] S128x128.size inb_S128x128_S128x128_0_0, ddtTile k⟩]

/-- The piece of the first row of sums over `r`, on top of `L`. -/
def row0 (k : Blk F) (r : FVec F S1x1024 .f32) (L : List (View.Piece (Elt F) S8x1024 .f32)) : List (View.Piece (Elt F) S8x1024 .f32) :=
  ⟨Rect.unit ![0, 0] S1x1024.size inb_S8x1024_S1x1024_0_0, st0 k r⟩ :: L

/-- The piece of the second row of sums. -/
def row1 (k : Blk F) (r : FVec F S1x1024 .f32) (L : List (View.Piece (Elt F) S8x1024 .f32)) : List (View.Piece (Elt F) S8x1024 .f32) :=
  ⟨Rect.unit ![1, 0] S1x1024.size inb_S8x1024_S1x1024_1_0, st1 k r⟩ :: L

/-- The piece of the third row of sums. -/
def row2 (k : Blk F) (r : FVec F S1x1024 .f32) (L : List (View.Piece (Elt F) S8x1024 .f32)) : List (View.Piece (Elt F) S8x1024 .f32) :=
  ⟨Rect.unit ![2, 0] S1x1024.size inb_S8x1024_S1x1024_2_0, st2 k r⟩ :: L

/-- The pieces of the sums reduced to heads. -/
def pieces10 (k : Blk F) (s : FVec F S8x1024 .f32) : List (View.Piece (Elt F) S8x1024 .f32) :=
  [⟨Rect.unit ![0, 0] S8x1024.size inb_S8x1024_S8x1024_0_0, hs k s⟩]

/-- The pieces of the carried gradient, on top of `L`. -/
def piecesS (k : Blk F) (L : List (View.Piece (Elt F) S128x1024 .f32)) : List (View.Piece (Elt F) S128x1024 .f32) :=
  ⟨Rect.unit ![0, 512] S128x512.size inb_S128x1024_S128x512_0_512, dstate1 k⟩ ::
   ⟨Rect.unit ![0, 0] S128x512.size inb_S128x1024_S128x512_0_0, dstate0 k⟩ :: L

variable (c : Dev nD) (i : grid0.Coords)
  (arg1 : Memref sig .tc .vmem S128x1536 .f32) (harg1 : arg1.IsWhole) (arg2 : Memref sig .tc .vmem S128x128 .f32) (harg2 : arg2.IsWhole) (arg3 : Memref sig .tc .vmem S128x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S128x1024 .f32) (harg6 : arg6.IsWhole) (arg7 : Memref sig .tc .vmem S1x128x1024 .f32) (harg7 : arg7.IsWhole) (arg8 : Memref sig .tc .vmem S128x1536 .f32) (harg8 : arg8.IsWhole) (arg9 : Memref sig .tc .vmem S128x128 .f32) (harg9 : arg9.IsWhole) (arg10 : Memref sig .tc .vmem S8x1024 .f32) (harg10 : arg10.IsWhole) (arg11 : Memref sig .tc .vmem S8x1024 .f32) (harg11 : arg11.IsWhole) (arg12 : Memref sig .tc .vmem S128x1024 .f32) (harg12 : arg12.IsWhole)
  (x0 : Vec F S128x1536 .f32) (x1 : Vec F S128x128 .f32) (x2 : Vec F S128x1024 .bf16) (x3 : Vec F S1x1024 .f32)
  (x4 : Vec F S1x1024 .f32) (x5 : Vec F S128x1024 .f32) (x6 : Vec F S1x128x1024 .f32) (xo9 : Vec F S8x1024 .f32)
  (xs0 ds : Vec F S128x1024 .f32)

/-- Row `p` of the sums read. -/
def rowOf (p : ℕ) (inb : ∀ a, (![p, 0] : Fin 2 → ℕ) a + S1x1024.size a ≤ S8x1024.size a) : FVec F S1x1024 .f32 :=
  View.readAt (Elt F) arg10.view (Rect.unit (s := S8x1024) ![p, 0] S1x1024.size inb).toLoadRect (harg10.unread xo9)

/-- What the body stores of the convolved columns, as it names it. -/
def stored7  : List (View.Piece (Elt F) S128x1536 .f32) :=
  [⟨Rect.unit ![0, 0] S128x1024.size inb_S128x1536_S128x1024_0_0, k0_pay173 (kernelRun0_B.sl.r_4 c arg2 harg2 arg3 harg3 arg4 harg4 x1 x2 x3) (kernelRun0_B.sl.r_60 c arg1 harg1 arg2 harg2 arg3 harg3 arg4 harg4 arg5 harg5 arg6 harg6 arg12 harg12 x0 x1 x2 x3 x4 x5 xs0) (kernelRun0_B.sl.r_105 c arg1 harg1 arg2 harg2 arg3 harg3 arg4 harg4 arg5 harg5 arg6 harg6 arg12 harg12 x0 x1 x2 x3 x4 x5 xs0)⟩, ⟨Rect.unit ![0, 1408] S128x128.size inb_S128x1536_S128x128_0_1408, k0_pay167 kernelRun0_B.sl.v3 kernelRun0_B.sl.v4 k0_pay5 (kernelRun0_B.sl.r_12 c arg6 harg6 x5) (kernelRun0_B.sl.r_62 c arg1 harg1 x0) (kernelRun0_B.sl.r_70 c arg2 harg2 arg3 harg3 arg4 harg4 arg5 harg5 arg6 harg6 arg7 harg7 x1 x2 x3 x4 x5 x6) (kernelRun0_B.sl.r_99 c arg1 harg1 arg2 harg2 arg3 harg3 arg4 harg4 x0 x1 x2 x3) (kernelRun0_B.sl.r_101 c arg1 harg1 arg2 harg2 arg3 harg3 arg4 harg4 arg5 harg5 arg6 harg6 x0 x1 x2 x3 x4 x5) (kernelRun0_B.sl.r_103 c arg2 harg2 arg3 harg3 arg4 harg4 arg5 harg5 x1 x2 x3 x4)⟩, ⟨Rect.unit ![0, 1152] S128x128.size inb_S128x1536_S128x128_0_1152, k0_pay168 kernelRun0_B.sl.v3 kernelRun0_B.sl.v4 k0_pay5 (kernelRun0_B.sl.r_12 c arg6 harg6 x5) (kernelRun0_B.sl.r_63 c arg1 harg1 x0) (kernelRun0_B.sl.r_71 c arg1 harg1 arg2 harg2 arg3 harg3 arg4 harg4 arg5 harg5 arg12 harg12 x0 x1 x2 x3 x4 xs0) (kernelRun0_B.sl.r_99 c arg1 harg1 arg2 harg2 arg3 harg3 arg4 harg4 x0 x1 x2 x3) (kernelRun0_B.sl.r_101 c arg1 harg1 arg2 harg2 arg3 harg3 arg4 harg4 arg5 harg5 arg6 harg6 x0 x1 x2 x3 x4 x5) (kernelRun0_B.sl.r_103 c arg2 harg2 arg3 harg3 arg4 harg4 arg5 harg5 x1 x2 x3 x4)⟩, ⟨Rect.unit ![0, 1280] S128x128.size inb_S128x1536_S128x128_0_1280, k0_pay94 (kernelRun0_B.sl.r_18 c arg1 harg1 x0) (kernelRun0_B.sl.r_23 c arg2 harg2 arg3 harg3 arg4 harg4 arg5 harg5 arg6 harg6 arg7 harg7 x1 x2 x3 x4 x5 x6) (kernelRun0_B.sl.r_56 c arg1 harg1 arg2 harg2 arg3 harg3 arg4 harg4 arg5 harg5 arg6 harg6 x0 x1 x2 x3 x4 x5)⟩, ⟨Rect.unit ![0, 1024] S128x128.size inb_S128x1536_S128x128_0_1024, k0_pay95 (kernelRun0_B.sl.r_19 c arg1 harg1 x0) (kernelRun0_B.sl.r_24 c arg1 harg1 arg2 harg2 arg3 harg3 arg4 harg4 arg5 harg5 arg12 harg12 x0 x1 x2 x3 x4 xs0) (kernelRun0_B.sl.r_56 c arg1 harg1 arg2 harg2 arg3 harg3 arg4 harg4 arg5 harg5 arg6 harg6 x0 x1 x2 x3 x4 x5)⟩]

/-- What the body stores of the convolved columns, as quantities of the grid point. -/
theorem stored7_eq (hds : kernelRun0_B.sl.r_16 c arg12 harg12 xs0 = ds)  : stored7 c arg1 harg1 arg2 harg2 arg3 harg3 arg4 harg4 arg5 harg5 arg6 harg6 arg7 harg7 arg12 harg12 x0 x1 x2 x3 x4 x5 x6 xs0  = pieces7 (reads arg1 harg1 arg2 harg2 arg3 harg3 arg4 harg4 arg5 harg5 arg6 harg6 arg7 harg7 x0 x1 x2 x3 x4 x5 x6 ds) := by
  unfold stored7 pieces7
  rw [dxDt_stored c arg1 harg1 arg2 harg2 arg3 harg3 arg4 harg4 arg5 harg5 arg6 harg6 arg7 harg7 arg12 harg12 x0 x1 x2 x3 x4 x5 x6 xs0 ds hds, dC1_stored c arg1 harg1 arg2 harg2 arg3 harg3 arg4 harg4 arg5 harg5 arg6 harg6 arg7 harg7 x0 x1 x2 x3 x4 x5 x6 ds, dB1_stored c arg1 harg1 arg2 harg2 arg3 harg3 arg4 harg4 arg5 harg5 arg6 harg6 arg7 harg7 arg12 harg12 x0 x1 x2 x3 x4 x5 x6 xs0 ds hds, dC0_stored c arg1 harg1 arg2 harg2 arg3 harg3 arg4 harg4 arg5 harg5 arg6 harg6 arg7 harg7 x0 x1 x2 x3 x4 x5 x6 ds, dB0_stored c arg1 harg1 arg2 harg2 arg3 harg3 arg4 harg4 arg5 harg5 arg6 harg6 arg7 harg7 arg12 harg12 x0 x1 x2 x3 x4 x5 x6 xs0 ds hds]

/-- What the body stores of the step sizes, as it names it. -/
def stored8  : List (View.Piece (Elt F) S128x128 .f32) :=
  [⟨Rect.unit ![0, 0] S128x128.size inb_S128x128_S128x128_0_0, k0_pay189 (kernelRun0_B.sl.r c arg3 harg3 x2) (kernelRun0_B.sl.r_116 c arg1 harg1 arg2 harg2 arg3 harg3 arg4 harg4 arg5 harg5 arg6 harg6 arg7 harg7 arg12 harg12 x0 x1 x2 x3 x4 x5 x6 xs0) (kernelRun0_B.sl.r_117 c arg1 harg1 arg2 harg2 arg3 harg3 arg4 harg4 arg5 harg5 arg6 harg6 arg7 harg7 arg12 harg12 x0 x1 x2 x3 x4 x5 x6 xs0) (kernelRun0_B.sl.r_118 c arg1 harg1 arg2 harg2 arg3 harg3 arg4 harg4 arg5 harg5 arg6 harg6 arg7 harg7 arg12 harg12 x0 x1 x2 x3 x4 x5 x6 xs0)⟩]

/-- What the body stores of the step sizes, as quantities of the grid point. -/
theorem stored8_eq (hds : kernelRun0_B.sl.r_16 c arg12 harg12 xs0 = ds)  : stored8 c arg1 harg1 arg2 harg2 arg3 harg3 arg4 harg4 arg5 harg5 arg6 harg6 arg7 harg7 arg12 harg12 x0 x1 x2 x3 x4 x5 x6 xs0  = pieces8 (reads arg1 harg1 arg2 harg2 arg3 harg3 arg4 harg4 arg5 harg5 arg6 harg6 arg7 harg7 x0 x1 x2 x3 x4 x5 x6 ds) := by
  unfold stored8 pieces8
  rw [ddtTile_stored c arg1 harg1 arg2 harg2 arg3 harg3 arg4 harg4 arg5 harg5 arg6 harg6 arg7 harg7 arg12 harg12 x0 x1 x2 x3 x4 x5 x6 xs0 ds hds]

/-- What the body stores of the carried gradient, as it names it. -/
def storedS (LS : List (View.Piece (Elt F) S128x1024 .f32)) : List (View.Piece (Elt F) S128x1024 .f32) :=
  ⟨Rect.unit ![0, 512] S128x512.size inb_S128x1024_S128x512_0_512, k0_pay171 (kernelRun0_B.sl.r_9 c arg2 harg2 arg3 harg3 arg4 harg4 arg5 harg5 x1 x2 x3 x4) (kernelRun0_B.sl.r_16 c arg12 harg12 xs0) (kernelRun0_B.sl.r_63 c arg1 harg1 x0) (kernelRun0_B.sl.r_66 c arg2 harg2 arg3 harg3 arg4 harg4 arg5 harg5 arg6 harg6 x1 x2 x3 x4 x5)⟩ :: ⟨Rect.unit ![0, 0] S128x512.size inb_S128x1024_S128x512_0_0, k0_pay98 (kernelRun0_B.sl.r_9 c arg2 harg2 arg3 harg3 arg4 harg4 arg5 harg5 x1 x2 x3 x4) (kernelRun0_B.sl.r_16 c arg12 harg12 xs0) (kernelRun0_B.sl.r_19 c arg1 harg1 x0) (kernelRun0_B.sl.r_21 c arg2 harg2 arg3 harg3 arg4 harg4 arg5 harg5 arg6 harg6 x1 x2 x3 x4 x5)⟩ :: LS

/-- What the body stores of the carried gradient, as quantities of the grid point. -/
theorem storedS_eq (hds : kernelRun0_B.sl.r_16 c arg12 harg12 xs0 = ds) (LS : List (View.Piece (Elt F) S128x1024 .f32)) : storedS c arg1 harg1 arg2 harg2 arg3 harg3 arg4 harg4 arg5 harg5 arg6 harg6 arg12 harg12 x0 x1 x2 x3 x4 x5 xs0 LS = piecesS (reads arg1 harg1 arg2 harg2 arg3 harg3 arg4 harg4 arg5 harg5 arg6 harg6 arg7 harg7 x0 x1 x2 x3 x4 x5 x6 ds) LS := by
  unfold storedS piecesS
  rw [dstate1_stored c arg1 harg1 arg2 harg2 arg3 harg3 arg4 harg4 arg5 harg5 arg6 harg6 arg7 harg7 arg12 harg12 x0 x1 x2 x3 x4 x5 x6 xs0 ds hds, dstate0_stored c arg1 harg1 arg2 harg2 arg3 harg3 arg4 harg4 arg5 harg5 arg6 harg6 arg7 harg7 arg12 harg12 x0 x1 x2 x3 x4 x5 x6 xs0 ds hds]

/-- What the body stores of the first row of sums, as it names it. -/
def storedr0 (r : FVec F S1x1024 .f32) (LS : List (View.Piece (Elt F) S8x1024 .f32)) : List (View.Piece (Elt F) S8x1024 .f32) :=
  ⟨Rect.unit ![0, 0] S1x1024.size inb_S8x1024_S1x1024_0_0, k0_pay190 (kernelRun0_B.sl.r_4 c arg2 harg2 arg3 harg3 arg4 harg4 x1 x2 x3) (kernelRun0_B.sl.r_5 c arg5 harg5 x4) (kernelRun0_B.sl.r_114 c arg1 harg1 arg2 harg2 arg3 harg3 arg4 harg4 arg5 harg5 arg6 harg6 arg7 harg7 arg12 harg12 x0 x1 x2 x3 x4 x5 x6 xs0)  r⟩ :: LS

/-- What the body stores of the first row of sums, as quantities of the grid point. -/
theorem storedr0_eq (hds : kernelRun0_B.sl.r_16 c arg12 harg12 xs0 = ds) (r : FVec F S1x1024 .f32) (LS : List (View.Piece (Elt F) S8x1024 .f32)) : storedr0 c arg1 harg1 arg2 harg2 arg3 harg3 arg4 harg4 arg5 harg5 arg6 harg6 arg7 harg7 arg12 harg12 x0 x1 x2 x3 x4 x5 x6 xs0 r LS = row0 (reads arg1 harg1 arg2 harg2 arg3 harg3 arg4 harg4 arg5 harg5 arg6 harg6 arg7 harg7 x0 x1 x2 x3 x4 x5 x6 ds) r LS := by
  unfold storedr0 row0
  rw [st0_stored c arg1 harg1 arg2 harg2 arg3 harg3 arg4 harg4 arg5 harg5 arg6 harg6 arg7 harg7 arg12 harg12 x0 x1 x2 x3 x4 x5 x6 xs0 ds hds r]

/-- What the body stores of the second row of sums, as it names it. -/
def storedr1 (r : FVec F S1x1024 .f32) (LS : List (View.Piece (Elt F) S8x1024 .f32)) : List (View.Piece (Elt F) S8x1024 .f32) :=
  ⟨Rect.unit ![1, 0] S1x1024.size inb_S8x1024_S1x1024_1_0, k0_pay191 (kernelRun0_B.sl.r_115 c arg1 harg1 arg2 harg2 arg3 harg3 arg4 harg4 arg5 harg5 arg6 harg6 arg7 harg7 arg12 harg12 x0 x1 x2 x3 x4 x5 x6 xs0)  r⟩ :: LS

/-- What the body stores of the second row of sums, as quantities of the grid point. -/
theorem storedr1_eq (hds : kernelRun0_B.sl.r_16 c arg12 harg12 xs0 = ds) (r : FVec F S1x1024 .f32) (LS : List (View.Piece (Elt F) S8x1024 .f32)) : storedr1 c arg1 harg1 arg2 harg2 arg3 harg3 arg4 harg4 arg5 harg5 arg6 harg6 arg7 harg7 arg12 harg12 x0 x1 x2 x3 x4 x5 x6 xs0 r LS = row1 (reads arg1 harg1 arg2 harg2 arg3 harg3 arg4 harg4 arg5 harg5 arg6 harg6 arg7 harg7 x0 x1 x2 x3 x4 x5 x6 ds) r LS := by
  unfold storedr1 row1
  rw [st1_stored c arg1 harg1 arg2 harg2 arg3 harg3 arg4 harg4 arg5 harg5 arg6 harg6 arg7 harg7 arg12 harg12 x0 x1 x2 x3 x4 x5 x6 xs0 ds hds r]

/-- What the body stores of the third row of sums, as it names it. -/
def storedr2 (r : FVec F S1x1024 .f32) (LS : List (View.Piece (Elt F) S8x1024 .f32)) : List (View.Piece (Elt F) S8x1024 .f32) :=
  ⟨Rect.unit ![2, 0] S1x1024.size inb_S8x1024_S1x1024_2_0, k0_pay192 (kernelRun0_B.sl.r_10 c arg1 harg1 x0) (kernelRun0_B.sl.r_12 c arg6 harg6 x5)  r⟩ :: LS

/-- What the body stores of the third row of sums, as quantities of the grid point. -/
theorem storedr2_eq (r : FVec F S1x1024 .f32) (LS : List (View.Piece (Elt F) S8x1024 .f32)) : storedr2 c arg1 harg1 arg6 harg6 x0 x5 r LS = row2 (reads arg1 harg1 arg2 harg2 arg3 harg3 arg4 harg4 arg5 harg5 arg6 harg6 arg7 harg7 x0 x1 x2 x3 x4 x5 x6 ds) r LS := by
  unfold storedr2 row2
  rw [st2_stored c arg1 harg1 arg2 harg2 arg3 harg3 arg4 harg4 arg5 harg5 arg6 harg6 arg7 harg7 x0 x1 x2 x3 x4 x5 x6 ds r]

/-- The carried gradient is read as it is held. -/
theorem carried_read : kernelRun0_B.sl.r_16 c arg12 harg12 xs0 = xs0 := by
  funext x
  refine (Memref.IsWhole.readAt_unread harg12 xs0 _ x).trans (congrArg xs0 ?_)
  exact Rect.emb_unit_full _ x

/-- Case B: the pieces of the convolved columns. -/
theorem listB_7 (hc0 : ¬cond0_0 i) (hc1 : ¬cond0_1 i) : (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0).1 = pieces7 (reads arg1 harg1 arg2 harg2 arg3 harg3 arg4 harg4 arg5 harg5 arg6 harg6 arg7 harg7 x0 x1 x2 x3 x4 x5 x6 xs0) :=
  Eq.trans (b := stored7 c arg1 harg1 arg2 harg2 arg3 harg3 arg4 harg4 arg5 harg5 arg6 harg6 arg7 harg7 arg12 harg12 x0 x1 x2 x3 x4 x5 x6 xs0 ) rfl (stored7_eq c arg1 harg1 arg2 harg2 arg3 harg3 arg4 harg4 arg5 harg5 arg6 harg6 arg7 harg7 arg12 harg12 x0 x1 x2 x3 x4 x5 x6 xs0 xs0 (carried_read c arg12 harg12 xs0) )

/-- Case B: the pieces of the step sizes. -/
theorem listB_8 (hc0 : ¬cond0_0 i) (hc1 : ¬cond0_1 i) : (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0).2.1 = pieces8 (reads arg1 harg1 arg2 harg2 arg3 harg3 arg4 harg4 arg5 harg5 arg6 harg6 arg7 harg7 x0 x1 x2 x3 x4 x5 x6 xs0) :=
  Eq.trans (b := stored8 c arg1 harg1 arg2 harg2 arg3 harg3 arg4 harg4 arg5 harg5 arg6 harg6 arg7 harg7 arg12 harg12 x0 x1 x2 x3 x4 x5 x6 xs0 ) rfl (stored8_eq c arg1 harg1 arg2 harg2 arg3 harg3 arg4 harg4 arg5 harg5 arg6 harg6 arg7 harg7 arg12 harg12 x0 x1 x2 x3 x4 x5 x6 xs0 xs0 (carried_read c arg12 harg12 xs0) )

/-- Case B: the pieces of the carried gradient. -/
theorem listB_S (hc0 : ¬cond0_0 i) (hc1 : ¬cond0_1 i) : (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0).2.2.2.2.1 = piecesS (reads arg1 harg1 arg2 harg2 arg3 harg3 arg4 harg4 arg5 harg5 arg6 harg6 arg7 harg7 x0 x1 x2 x3 x4 x5 x6 xs0) [] :=
  Eq.trans (b := storedS c arg1 harg1 arg2 harg2 arg3 harg3 arg4 harg4 arg5 harg5 arg6 harg6 arg12 harg12 x0 x1 x2 x3 x4 x5 xs0 []) rfl (storedS_eq c arg1 harg1 arg2 harg2 arg3 harg3 arg4 harg4 arg5 harg5 arg6 harg6 arg7 harg7 arg12 harg12 x0 x1 x2 x3 x4 x5 x6 xs0 xs0 (carried_read c arg12 harg12 xs0) [])

/-- Case B: the pieces of the sums. -/
theorem listB_9 (hc0 : ¬cond0_0 i) (hc1 : ¬cond0_1 i) : (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0).2.2.1 = row2 (reads arg1 harg1 arg2 harg2 arg3 harg3 arg4 harg4 arg5 harg5 arg6 harg6 arg7 harg7 x0 x1 x2 x3 x4 x5 x6 xs0) (rowOf arg10 harg10 xo9 2 inb_S8x1024_S1x1024_2_0) (row1 (reads arg1 harg1 arg2 harg2 arg3 harg3 arg4 harg4 arg5 harg5 arg6 harg6 arg7 harg7 x0 x1 x2 x3 x4 x5 x6 xs0) (rowOf arg10 harg10 xo9 1 inb_S8x1024_S1x1024_1_0) (row0 (reads arg1 harg1 arg2 harg2 arg3 harg3 arg4 harg4 arg5 harg5 arg6 harg6 arg7 harg7 x0 x1 x2 x3 x4 x5 x6 xs0) (rowOf arg10 harg10 xo9 0 inb_S8x1024_S1x1024_0_0) [])) := by
  refine Eq.trans (b := storedr2 c arg1 harg1 arg6 harg6 x0 x5 (rowOf arg10 harg10 xo9 2 inb_S8x1024_S1x1024_2_0) (storedr1 c arg1 harg1 arg2 harg2 arg3 harg3 arg4 harg4 arg5 harg5 arg6 harg6 arg7 harg7 arg12 harg12 x0 x1 x2 x3 x4 x5 x6 xs0 (rowOf arg10 harg10 xo9 1 inb_S8x1024_S1x1024_1_0) (storedr0 c arg1 harg1 arg2 harg2 arg3 harg3 arg4 harg4 arg5 harg5 arg6 harg6 arg7 harg7 arg12 harg12 x0 x1 x2 x3 x4 x5 x6 xs0 (rowOf arg10 harg10 xo9 0 inb_S8x1024_S1x1024_0_0) []))) rfl ?_
  rw [storedr0_eq c arg1 harg1 arg2 harg2 arg3 harg3 arg4 harg4 arg5 harg5 arg6 harg6 arg7 harg7 arg12 harg12 x0 x1 x2 x3 x4 x5 x6 xs0 xs0 (carried_read c arg12 harg12 xs0),
    storedr1_eq c arg1 harg1 arg2 harg2 arg3 harg3 arg4 harg4 arg5 harg5 arg6 harg6 arg7 harg7 arg12 harg12 x0 x1 x2 x3 x4 x5 x6 xs0 xs0 (carried_read c arg12 harg12 xs0),
    storedr2_eq c arg1 harg1 arg2 harg2 arg3 harg3 arg4 harg4 arg5 harg5 arg6 harg6 arg7 harg7 x0 x1 x2 x3 x4 x5 x6 xs0]

/-- Case C: the pieces of the convolved columns. -/
theorem listC_7 (hc0 : ¬cond0_0 i) (hc1 : cond0_1 i) : (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0).1 = pieces7 (reads arg1 harg1 arg2 harg2 arg3 harg3 arg4 harg4 arg5 harg5 arg6 harg6 arg7 harg7 x0 x1 x2 x3 x4 x5 x6 xs0) :=
  Eq.trans (b := stored7 c arg1 harg1 arg2 harg2 arg3 harg3 arg4 harg4 arg5 harg5 arg6 harg6 arg7 harg7 arg12 harg12 x0 x1 x2 x3 x4 x5 x6 xs0 ) rfl (stored7_eq c arg1 harg1 arg2 harg2 arg3 harg3 arg4 harg4 arg5 harg5 arg6 harg6 arg7 harg7 arg12 harg12 x0 x1 x2 x3 x4 x5 x6 xs0 xs0 (carried_read c arg12 harg12 xs0) )

/-- Case C: the pieces of the step sizes. -/
theorem listC_8 (hc0 : ¬cond0_0 i) (hc1 : cond0_1 i) : (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0).2.1 = pieces8 (reads arg1 harg1 arg2 harg2 arg3 harg3 arg4 harg4 arg5 harg5 arg6 harg6 arg7 harg7 x0 x1 x2 x3 x4 x5 x6 xs0) :=
  Eq.trans (b := stored8 c arg1 harg1 arg2 harg2 arg3 harg3 arg4 harg4 arg5 harg5 arg6 harg6 arg7 harg7 arg12 harg12 x0 x1 x2 x3 x4 x5 x6 xs0 ) rfl (stored8_eq c arg1 harg1 arg2 harg2 arg3 harg3 arg4 harg4 arg5 harg5 arg6 harg6 arg7 harg7 arg12 harg12 x0 x1 x2 x3 x4 x5 x6 xs0 xs0 (carried_read c arg12 harg12 xs0) )

/-- Case C: the pieces of the carried gradient. -/
theorem listC_S (hc0 : ¬cond0_0 i) (hc1 : cond0_1 i) : (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0).2.2.2.2.1 = piecesS (reads arg1 harg1 arg2 harg2 arg3 harg3 arg4 harg4 arg5 harg5 arg6 harg6 arg7 harg7 x0 x1 x2 x3 x4 x5 x6 xs0) [] :=
  Eq.trans (b := storedS c arg1 harg1 arg2 harg2 arg3 harg3 arg4 harg4 arg5 harg5 arg6 harg6 arg12 harg12 x0 x1 x2 x3 x4 x5 xs0 []) rfl (storedS_eq c arg1 harg1 arg2 harg2 arg3 harg3 arg4 harg4 arg5 harg5 arg6 harg6 arg7 harg7 arg12 harg12 x0 x1 x2 x3 x4 x5 x6 xs0 xs0 (carried_read c arg12 harg12 xs0) [])

/-- Case C: the pieces of the sums. -/
theorem listC_9 (hc0 : ¬cond0_0 i) (hc1 : cond0_1 i) : (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0).2.2.1 = row2 (reads arg1 harg1 arg2 harg2 arg3 harg3 arg4 harg4 arg5 harg5 arg6 harg6 arg7 harg7 x0 x1 x2 x3 x4 x5 x6 xs0) (rowOf arg10 harg10 xo9 2 inb_S8x1024_S1x1024_2_0) (row1 (reads arg1 harg1 arg2 harg2 arg3 harg3 arg4 harg4 arg5 harg5 arg6 harg6 arg7 harg7 x0 x1 x2 x3 x4 x5 x6 xs0) (rowOf arg10 harg10 xo9 1 inb_S8x1024_S1x1024_1_0) (row0 (reads arg1 harg1 arg2 harg2 arg3 harg3 arg4 harg4 arg5 harg5 arg6 harg6 arg7 harg7 x0 x1 x2 x3 x4 x5 x6 xs0) (rowOf arg10 harg10 xo9 0 inb_S8x1024_S1x1024_0_0) [])) := by
  refine Eq.trans (b := storedr2 c arg1 harg1 arg6 harg6 x0 x5 (rowOf arg10 harg10 xo9 2 inb_S8x1024_S1x1024_2_0) (storedr1 c arg1 harg1 arg2 harg2 arg3 harg3 arg4 harg4 arg5 harg5 arg6 harg6 arg7 harg7 arg12 harg12 x0 x1 x2 x3 x4 x5 x6 xs0 (rowOf arg10 harg10 xo9 1 inb_S8x1024_S1x1024_1_0) (storedr0 c arg1 harg1 arg2 harg2 arg3 harg3 arg4 harg4 arg5 harg5 arg6 harg6 arg7 harg7 arg12 harg12 x0 x1 x2 x3 x4 x5 x6 xs0 (rowOf arg10 harg10 xo9 0 inb_S8x1024_S1x1024_0_0) []))) rfl ?_
  rw [storedr0_eq c arg1 harg1 arg2 harg2 arg3 harg3 arg4 harg4 arg5 harg5 arg6 harg6 arg7 harg7 arg12 harg12 x0 x1 x2 x3 x4 x5 x6 xs0 xs0 (carried_read c arg12 harg12 xs0),
    storedr1_eq c arg1 harg1 arg2 harg2 arg3 harg3 arg4 harg4 arg5 harg5 arg6 harg6 arg7 harg7 arg12 harg12 x0 x1 x2 x3 x4 x5 x6 xs0 xs0 (carried_read c arg12 harg12 xs0),
    storedr2_eq c arg1 harg1 arg2 harg2 arg3 harg3 arg4 harg4 arg5 harg5 arg6 harg6 arg7 harg7 x0 x1 x2 x3 x4 x5 x6 xs0]

/-- Case C: the pieces of the sums reduced to heads. -/
theorem listC_10 (hc0 : ¬cond0_0 i) (hc1 : cond0_1 i) : (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0).2.2.2.1 = pieces10 (reads arg1 harg1 arg2 harg2 arg3 harg3 arg4 harg4 arg5 harg5 arg6 harg6 arg7 harg7 x0 x1 x2 x3 x4 x5 x6 xs0)
    (View.readAt (Elt F) arg10.view (Rect.unit (s := S8x1024) ![0, 0] S8x1024.size inb_S8x1024_S8x1024_0_0).toLoadRect
      (arg10.view.writes (Elt F) (harg10.unread xo9) (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0).2.2.1)) := by
  rfl

/-- The cleared gradient is read as it was stored. -/
theorem cleared_read : kernelRun0_A.sl.v76 (F := F) c arg12 = k0_pay2 :=
  View.readCov_full arg12.view _ _ _ []

/-- The cleared gradient as the other cases would read it. -/
theorem cleared_carried : kernelRun0_B.sl.r_16 (F := F) c arg12 harg12 k0_pay2 = kernelRun0_A.sl.v76 c arg12 :=
  (carried_read c arg12 harg12 _).trans (cleared_read c arg12).symm

/-- Case A: the pieces of the convolved columns. -/
theorem listA_7 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1 = pieces7 (reads arg1 harg1 arg2 harg2 arg3 harg3 arg4 harg4 arg5 harg5 arg6 harg6 arg7 harg7 x0 x1 x2 x3 x4 x5 x6 (k0_pay2 (F := F))) := by
  refine Eq.trans (b := stored7 c arg1 harg1 arg2 harg2 arg3 harg3 arg4 harg4 arg5 harg5 arg6 harg6 arg7 harg7 arg12 harg12 x0 x1 x2 x3 x4 x5 x6 (k0_pay2 (F := F)) ) ?_ (stored7_eq c arg1 harg1 arg2 harg2 arg3 harg3 arg4 harg4 arg5 harg5 arg6 harg6 arg7 harg7 arg12 harg12 x0 x1 x2 x3 x4 x5 x6 (k0_pay2 (F := F)) (k0_pay2 (F := F)) (carried_read c arg12 harg12 (k0_pay2 (F := F))) )
  simp only [kernelRun0_A, stored7, kernelRun0_A.sl.r_21, kernelRun0_A.sl.r_23, kernelRun0_A.sl.r_59, kernelRun0_A.sl.r_64, kernelRun0_A.sl.r_67, kernelRun0_A.sl.r_70, kernelRun0_A.sl.r_104, kernelRun0_A.sl.r_106, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_B.sl.r_22, kernelRun0_B.sl.r_24, kernelRun0_B.sl.r_60, kernelRun0_B.sl.r_65, kernelRun0_B.sl.r_68, kernelRun0_B.sl.r_71, kernelRun0_B.sl.r_105, kernelRun0_B.sl.r_107, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, cleared_carried c arg12 harg12]
  rfl

/-- Case A: the pieces of the step sizes. -/
theorem listA_8 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1 = pieces8 (reads arg1 harg1 arg2 harg2 arg3 harg3 arg4 harg4 arg5 harg5 arg6 harg6 arg7 harg7 x0 x1 x2 x3 x4 x5 x6 (k0_pay2 (F := F))) := by
  refine Eq.trans (b := stored8 c arg1 harg1 arg2 harg2 arg3 harg3 arg4 harg4 arg5 harg5 arg6 harg6 arg7 harg7 arg12 harg12 x0 x1 x2 x3 x4 x5 x6 (k0_pay2 (F := F)) ) ?_ (stored8_eq c arg1 harg1 arg2 harg2 arg3 harg3 arg4 harg4 arg5 harg5 arg6 harg6 arg7 harg7 arg12 harg12 x0 x1 x2 x3 x4 x5 x6 (k0_pay2 (F := F)) (k0_pay2 (F := F)) (carried_read c arg12 harg12 (k0_pay2 (F := F))) )
  simp only [kernelRun0_A, stored8, kernelRun0_A.sl.r_21, kernelRun0_A.sl.r_23, kernelRun0_A.sl.r_59, kernelRun0_A.sl.r_64, kernelRun0_A.sl.r_67, kernelRun0_A.sl.r_70, kernelRun0_A.sl.r_104, kernelRun0_A.sl.r_106, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_B.sl.r_22, kernelRun0_B.sl.r_24, kernelRun0_B.sl.r_60, kernelRun0_B.sl.r_65, kernelRun0_B.sl.r_68, kernelRun0_B.sl.r_71, kernelRun0_B.sl.r_105, kernelRun0_B.sl.r_107, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, cleared_carried c arg12 harg12]
  rfl

/-- Case A: the pieces of the carried gradient. -/
theorem listA_S (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.2.2.1 = piecesS (reads arg1 harg1 arg2 harg2 arg3 harg3 arg4 harg4 arg5 harg5 arg6 harg6 arg7 harg7 x0 x1 x2 x3 x4 x5 x6 (k0_pay2 (F := F))) kernelRun0_A.sl.HS0_1 := by
  refine Eq.trans (b := storedS c arg1 harg1 arg2 harg2 arg3 harg3 arg4 harg4 arg5 harg5 arg6 harg6 arg12 harg12 x0 x1 x2 x3 x4 x5 (k0_pay2 (F := F)) kernelRun0_A.sl.HS0_1) ?_ (storedS_eq c arg1 harg1 arg2 harg2 arg3 harg3 arg4 harg4 arg5 harg5 arg6 harg6 arg7 harg7 arg12 harg12 x0 x1 x2 x3 x4 x5 x6 (k0_pay2 (F := F)) (k0_pay2 (F := F)) (carried_read c arg12 harg12 (k0_pay2 (F := F))) kernelRun0_A.sl.HS0_1)
  simp only [kernelRun0_A, storedS, kernelRun0_A.sl.r_21, kernelRun0_A.sl.r_23, kernelRun0_A.sl.r_59, kernelRun0_A.sl.r_64, kernelRun0_A.sl.r_67, kernelRun0_A.sl.r_70, kernelRun0_A.sl.r_104, kernelRun0_A.sl.r_106, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_B.sl.r_22, kernelRun0_B.sl.r_24, kernelRun0_B.sl.r_60, kernelRun0_B.sl.r_65, kernelRun0_B.sl.r_68, kernelRun0_B.sl.r_71, kernelRun0_B.sl.r_105, kernelRun0_B.sl.r_107, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, cleared_carried c arg12 harg12]
  rfl

include harg12 in
/-- Case A: the first row of sums over the cleared rows. -/
theorem listA_r0 : (kernelRun0_A.sl.H9_2 c arg1 harg1 arg2 harg2 arg3 harg3 arg4 harg4 arg5 harg5 arg6 harg6 arg7 harg7 arg10 arg12 x0 x1 x2 x3 x4 x5 x6) = row0 (reads arg1 harg1 arg2 harg2 arg3 harg3 arg4 harg4 arg5 harg5 arg6 harg6 arg7 harg7 x0 x1 x2 x3 x4 x5 x6 (k0_pay2 (F := F))) (kernelRun0_A.sl.v951 c arg10) kernelRun0_A.sl.H9_1 := by
  refine Eq.trans (b := storedr0 c arg1 harg1 arg2 harg2 arg3 harg3 arg4 harg4 arg5 harg5 arg6 harg6 arg7 harg7 arg12 harg12 x0 x1 x2 x3 x4 x5 x6 (k0_pay2 (F := F)) (kernelRun0_A.sl.v951 c arg10) kernelRun0_A.sl.H9_1) ?_ (storedr0_eq c arg1 harg1 arg2 harg2 arg3 harg3 arg4 harg4 arg5 harg5 arg6 harg6 arg7 harg7 arg12 harg12 x0 x1 x2 x3 x4 x5 x6 (k0_pay2 (F := F)) (k0_pay2 (F := F)) (carried_read c arg12 harg12 (k0_pay2 (F := F))) _ _)
  simp only [kernelRun0_A.sl.H9_2, storedr0, kernelRun0_A.sl.r_21, kernelRun0_A.sl.r_23, kernelRun0_A.sl.r_59, kernelRun0_A.sl.r_64, kernelRun0_A.sl.r_67, kernelRun0_A.sl.r_70, kernelRun0_A.sl.r_104, kernelRun0_A.sl.r_106, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_B.sl.r_22, kernelRun0_B.sl.r_24, kernelRun0_B.sl.r_60, kernelRun0_B.sl.r_65, kernelRun0_B.sl.r_68, kernelRun0_B.sl.r_71, kernelRun0_B.sl.r_105, kernelRun0_B.sl.r_107, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, cleared_carried c arg12 harg12]
  rfl

include harg12 in
/-- Case A: the second row of sums. -/
theorem listA_r1 : (kernelRun0_A.sl.H9_3 c arg1 harg1 arg2 harg2 arg3 harg3 arg4 harg4 arg5 harg5 arg6 harg6 arg7 harg7 arg10 arg12 x0 x1 x2 x3 x4 x5 x6) = row1 (reads arg1 harg1 arg2 harg2 arg3 harg3 arg4 harg4 arg5 harg5 arg6 harg6 arg7 harg7 x0 x1 x2 x3 x4 x5 x6 (k0_pay2 (F := F))) (kernelRun0_A.sl.v959 c arg1 harg1 arg2 harg2 arg3 harg3 arg4 harg4 arg5 harg5 arg6 harg6 arg7 harg7 arg10 arg12 x0 x1 x2 x3 x4 x5 x6) (kernelRun0_A.sl.H9_2 c arg1 harg1 arg2 harg2 arg3 harg3 arg4 harg4 arg5 harg5 arg6 harg6 arg7 harg7 arg10 arg12 x0 x1 x2 x3 x4 x5 x6) := by
  refine Eq.trans (b := storedr1 c arg1 harg1 arg2 harg2 arg3 harg3 arg4 harg4 arg5 harg5 arg6 harg6 arg7 harg7 arg12 harg12 x0 x1 x2 x3 x4 x5 x6 (k0_pay2 (F := F)) (kernelRun0_A.sl.v959 c arg1 harg1 arg2 harg2 arg3 harg3 arg4 harg4 arg5 harg5 arg6 harg6 arg7 harg7 arg10 arg12 x0 x1 x2 x3 x4 x5 x6) (kernelRun0_A.sl.H9_2 c arg1 harg1 arg2 harg2 arg3 harg3 arg4 harg4 arg5 harg5 arg6 harg6 arg7 harg7 arg10 arg12 x0 x1 x2 x3 x4 x5 x6)) ?_ (storedr1_eq c arg1 harg1 arg2 harg2 arg3 harg3 arg4 harg4 arg5 harg5 arg6 harg6 arg7 harg7 arg12 harg12 x0 x1 x2 x3 x4 x5 x6 (k0_pay2 (F := F)) (k0_pay2 (F := F)) (carried_read c arg12 harg12 (k0_pay2 (F := F))) _ _)
  simp only [kernelRun0_A.sl.H9_3, storedr1, kernelRun0_A.sl.r_21, kernelRun0_A.sl.r_23, kernelRun0_A.sl.r_59, kernelRun0_A.sl.r_64, kernelRun0_A.sl.r_67, kernelRun0_A.sl.r_70, kernelRun0_A.sl.r_104, kernelRun0_A.sl.r_106, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_B.sl.r_22, kernelRun0_B.sl.r_24, kernelRun0_B.sl.r_60, kernelRun0_B.sl.r_65, kernelRun0_B.sl.r_68, kernelRun0_B.sl.r_71, kernelRun0_B.sl.r_105, kernelRun0_B.sl.r_107, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, cleared_carried c arg12 harg12]
  rfl

/-- Case A: the pieces of the sums. -/
theorem listA_9 (hc0 : cond0_0 i) (hc1 : ¬cond0_1 i) : (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1 = row2 (reads arg1 harg1 arg2 harg2 arg3 harg3 arg4 harg4 arg5 harg5 arg6 harg6 arg7 harg7 x0 x1 x2 x3 x4 x5 x6 (k0_pay2 (F := F))) (kernelRun0_A.sl.v965 c arg1 harg1 arg2 harg2 arg3 harg3 arg4 harg4 arg5 harg5 arg6 harg6 arg7 harg7 arg10 arg12 x0 x1 x2 x3 x4 x5 x6) (kernelRun0_A.sl.H9_3 c arg1 harg1 arg2 harg2 arg3 harg3 arg4 harg4 arg5 harg5 arg6 harg6 arg7 harg7 arg10 arg12 x0 x1 x2 x3 x4 x5 x6) :=
  Eq.trans (b := storedr2 c arg1 harg1 arg6 harg6 x0 x5 (kernelRun0_A.sl.v965 c arg1 harg1 arg2 harg2 arg3 harg3 arg4 harg4 arg5 harg5 arg6 harg6 arg7 harg7 arg10 arg12 x0 x1 x2 x3 x4 x5 x6) (kernelRun0_A.sl.H9_3 c arg1 harg1 arg2 harg2 arg3 harg3 arg4 harg4 arg5 harg5 arg6 harg6 arg7 harg7 arg10 arg12 x0 x1 x2 x3 x4 x5 x6)) rfl (storedr2_eq c arg1 harg1 arg2 harg2 arg3 harg3 arg4 harg4 arg5 harg5 arg6 harg6 arg7 harg7 x0 x1 x2 x3 x4 x5 x6 (k0_pay2 (F := F)) _ _)

end Ssd.Body
-- ==== Proof.Spec.lean ====
module

public import Mathlib.Analysis.SpecialFunctions.Log.Basic
public import Mathlib.Analysis.SpecialFunctions.Exp
public import Mathlib.Algebra.BigOperators.Intervals

/-!
# The gradient of the SSD recurrence over the real numbers

Everything here is a function of natural-number indices: a time `t`, a lane `j` (64 lanes per head,
512 lanes per group), a head `h`, a group `g` and a state coordinate `n`.  The whole sequence has
`L` steps.  The first part says what the gradients are, as plain sums over all pairs of times; the
second part says how a block of 128 steps gets them from the state that enters it, the gradient of
the state that leaves it, and sums inside the block.
-/

@[expose] public section

namespace Ssd

open Finset

/-- The softplus, as both programs evaluate it. -/
noncomputable def sp (x : ℝ) : ℝ := max x 0 + Real.log (1 + Real.exp (-|x|))

/-- The logistic function, the derivative of the softplus. -/
noncomputable def sig (x : ℝ) : ℝ := 1 / (1 + Real.exp (-x))

/-- The softplus is the logarithm of `1 + exp x`. -/
theorem sp_eq (x : ℝ) : sp x = Real.log (1 + Real.exp x) := by
  unfold sp
  rcases le_total 0 x with h | h
  · have hx : (1 : ℝ) + Real.exp x = Real.exp x * (1 + Real.exp (-x)) := by
      rw [mul_add, ← Real.exp_add]; simp [add_comm]
    rw [abs_of_nonneg h, max_eq_left h, hx, Real.log_mul (Real.exp_ne_zero _)
      (by positivity), Real.log_exp]
  · rw [abs_of_nonpos h, max_eq_right h]; simp

/-- The form in which the reference has the softplus' derivative is the logistic function. -/
theorem exp_sub_sp (x : ℝ) : Real.exp (x - sp x) = sig x := by
  have h1 : (0 : ℝ) < 1 + Real.exp x := by positivity
  have h2 : (1 : ℝ) + Real.exp (-x) = (1 + Real.exp x) / Real.exp x := by
    rw [Real.exp_neg]; field_simp; ring
  rw [sp_eq, Real.exp_sub, Real.exp_log h1, sig, h2]
  field_simp

/-- The inputs, as real-valued functions of their coordinates, and the number of steps. -/
structure Inp where
  L : ℕ
  xc : ℕ → ℕ → ℝ
  tile : ℕ → ℕ → ℝ
  bias : ℕ → ℝ
  al : ℕ → ℝ
  dy : ℕ → ℕ → ℝ

namespace Inp

variable (I : Inp)

/-- The step size before the softplus. -/
noncomputable def raw (t h : ℕ) : ℝ := I.tile t h + I.bias h
/-- The step size. -/
noncomputable def dt (t h : ℕ) : ℝ := sp (I.raw t h)
/-- A head's decay rate. -/
noncomputable def a (h : ℕ) : ℝ := -Real.exp (I.al h)
/-- One step's log decay. -/
noncomputable def u (t h : ℕ) : ℝ := I.a h * I.dt t h
/-- The log decay of the steps before `t`. -/
noncomputable def cum (t h : ℕ) : ℝ := ∑ r ∈ range t, I.u r h
/-- The value scaled by its step size. -/
noncomputable def xg (t j : ℕ) : ℝ := I.xc t j * I.dt t (j / 64)
/-- The input projection of the state. -/
noncomputable def B (t g n : ℕ) : ℝ := I.xc t (1024 + g * 128 + n)
/-- The output projection of the state. -/
noncomputable def C (t g n : ℕ) : ℝ := I.xc t (1280 + g * 128 + n)
/-- The score of an output step against an input step. -/
noncomputable def sc (l s g : ℕ) : ℝ := ∑ n ∈ range 128, I.C l g n * I.B s g n
/-- The decay from an input step to an output step; nothing reaches back. -/
noncomputable def W (l s h : ℕ) : ℝ :=
  if s ≤ l then Real.exp (I.cum (l + 1) h - I.cum (s + 1) h) else 0
/-- The product of an output step's cotangent with an input step's value. -/
noncomputable def q (l s h : ℕ) : ℝ := ∑ p ∈ range 64, I.dy l (64 * h + p) * I.xg s (64 * h + p)
/-- What the pair `(l, s)` adds to the gradient of the log decay between them. -/
noncomputable def wq (l s h : ℕ) : ℝ := I.q l s h * I.W l s h * I.sc l s (h / 8)
/-- Gradient of the scaled value. -/
noncomputable def dxg (s j : ℕ) : ℝ :=
  ∑ l ∈ range I.L, I.sc l s (j / 512) * I.W l s (j / 64) * I.dy l j
/-- Gradient of the score. -/
noncomputable def dS (l s g : ℕ) : ℝ := ∑ h ∈ range 8, I.q l s (8 * g + h) * I.W l s (8 * g + h)
/-- Gradient of `C`. -/
noncomputable def dC (l g n : ℕ) : ℝ := ∑ s ∈ range I.L, I.dS l s g * I.B s g n
/-- Gradient of `B`. -/
noncomputable def dB (s g n : ℕ) : ℝ := ∑ l ∈ range I.L, I.dS l s g * I.C l g n
/-- Gradient of a step's log decay: every pair of times with the step between them. -/
noncomputable def du (t h : ℕ) : ℝ := ∑ s ∈ range t, ∑ l ∈ Ico t I.L, I.wq l s h
/-- Gradient of the step size. -/
noncomputable def ddt (t h : ℕ) : ℝ :=
  I.a h * I.du t h + ∑ p ∈ range 64, I.dxg t (64 * h + p) * I.xc t (64 * h + p)
/-- Gradient of the step size before the softplus. -/
noncomputable def draw (t h : ℕ) : ℝ := I.ddt t h * sig (I.raw t h)

/-- First result: the gradient of the convolution's output. -/
noncomputable def dxc (t j : ℕ) : ℝ :=
  if j < 1024 then I.dxg t j * I.dt t (j / 64)
  else if j < 1280 then I.dB t ((j - 1024) / 128) ((j - 1024) % 128)
  else I.dC t ((j - 1280) / 128) ((j - 1280) % 128)
/-- Second result: the gradient of the step sizes' columns. -/
noncomputable def ddtTile (t h : ℕ) : ℝ := if h < 16 then I.draw t h else 0
/-- Third result: the gradients of `a_log`, `dt_bias` and the skip weight, one row each. -/
noncomputable def st (i j : ℕ) : ℝ :=
  if i = 0 then (∑ t ∈ range I.L, I.dt t (j / 64) * I.du t (j / 64)) * I.a (j / 64)
  else if i = 1 then ∑ t ∈ range I.L, I.draw t (j / 64)
  else if i = 2 then ∑ t ∈ range I.L, I.dy t j * I.xc t j
  else 0
/-- Fourth result: the third one's sums over each head's lanes. -/
noncomputable def hs (i j : ℕ) : ℝ := ∑ p ∈ range 64, I.st i (64 * (j / 64) + p)

/-! ## A block of 128 steps that begins at `b` -/

/-- The state that enters step `b`. -/
noncomputable def S (b n j : ℕ) : ℝ :=
  ∑ s ∈ range b, Real.exp (I.cum b (j / 64) - I.cum (s + 1) (j / 64)) * (I.B s (j / 512) n * I.xg s j)

/-- The gradient of the state that enters step `e`. -/
noncomputable def D (e n j : ℕ) : ℝ :=
  ∑ l ∈ Ico e I.L, Real.exp (I.cum (l + 1) (j / 64) - I.cum e (j / 64)) * (I.C l (j / 512) n * I.dy l j)

/-- The decay of the log decays of a stretch of steps. -/
theorem cum_add (b i h : ℕ) : I.cum (b + i) h = I.cum b h + ∑ r ∈ range i, I.u (b + r) h :=
  Finset.sum_range_add _ _ _

/-- Nothing reaches back. -/
theorem W_of_lt {l s h : ℕ} (hls : l < s) : I.W l s h = 0 := by
  unfold W; rw [if_neg (by omega)]

/-- The decay from an input step to a later output step. -/
theorem W_of_le {l s h : ℕ} (hls : s ≤ l) :
    I.W l s h = Real.exp (I.cum (l + 1) h - I.cum (s + 1) h) := by
  unfold W; rw [if_pos hls]

/-- A sum over a group's 512 lanes, head by head. -/
theorem sum_group (f : ℕ → ℝ) (m k : ℕ) :
    ∑ j ∈ range (k * m), f j = ∑ h ∈ range k, ∑ p ∈ range m, f (m * h + p) := by
  induction k with
  | zero => simp
  | succ k ih => rw [Nat.succ_mul, Finset.sum_range_add, ih, Finset.sum_range_succ, mul_comm m k]

/-- What the entering state adds to an output step. -/
theorem state_out (b i j : ℕ) :
    (∑ n ∈ range 128, I.C (b + i) (j / 512) n * I.S b n j)
        * Real.exp (I.cum (b + i + 1) (j / 64) - I.cum b (j / 64))
      = ∑ s ∈ range b, I.sc (b + i) s (j / 512) * I.W (b + i) s (j / 64) * I.xg s j := by
  unfold S sc
  simp only [Finset.mul_sum, Finset.sum_mul]
  rw [Finset.sum_comm]
  refine Finset.sum_congr rfl fun s hs => Finset.sum_congr rfl fun n _ => ?_
  rw [W_of_le I (by have := Finset.mem_range.mp hs; omega)]
  rw [show I.cum (b + i + 1) (j / 64) - I.cum (s + 1) (j / 64)
    = (I.cum b (j / 64) - I.cum (s + 1) (j / 64)) + (I.cum (b + i + 1) (j / 64) - I.cum b (j / 64)) by ring,
    Real.exp_add]
  ring

/-- What the gradient of the leaving state adds to the gradient of an input step. -/
theorem state_in (e s j : ℕ) (hs : s < e) :
    (∑ n ∈ range 128, I.B s (j / 512) n * I.D e n j)
        * Real.exp (I.cum e (j / 64) - I.cum (s + 1) (j / 64))
      = ∑ l ∈ Ico e I.L, I.sc l s (j / 512) * I.W l s (j / 64) * I.dy l j := by
  unfold D sc
  simp only [Finset.mul_sum, Finset.sum_mul]
  rw [Finset.sum_comm]
  refine Finset.sum_congr rfl fun l hl => Finset.sum_congr rfl fun n _ => ?_
  rw [W_of_le I (by have := Finset.mem_Ico.mp hl; omega)]
  rw [show I.cum (l + 1) (j / 64) - I.cum (s + 1) (j / 64)
    = (I.cum (l + 1) (j / 64) - I.cum e (j / 64)) + (I.cum e (j / 64) - I.cum (s + 1) (j / 64)) by ring,
    Real.exp_add]
  ring

/-- A sum over the whole sequence, cut at a block's two ends. -/
theorem sum_cut (f : ℕ → ℝ) (b : ℕ) (hb : b + 128 ≤ I.L) :
    ∑ l ∈ range I.L, f l
      = ∑ l ∈ range b, f l + ∑ i ∈ range 128, f (b + i) + ∑ l ∈ Ico (b + 128) I.L, f l := by
  rw [← Finset.sum_range_add, Finset.sum_range_add_sum_Ico _ hb]

/-- The gradient of the scaled value, from the block's own steps and the leaving state. -/
theorem dxg_block (b r j : ℕ) (hb : b + 128 ≤ I.L) (hr : r < 128) :
    (∑ i ∈ range 128, I.sc (b + i) (b + r) (j / 512) * I.W (b + i) (b + r) (j / 64) * I.dy (b + i) j)
      + (∑ n ∈ range 128, I.B (b + r) (j / 512) n * I.D (b + 128) n j)
        * Real.exp (I.cum (b + 128) (j / 64) - I.cum (b + r + 1) (j / 64)) = I.dxg (b + r) j := by
  rw [state_in I _ _ _ (by omega), dxg, sum_cut I _ b hb, Finset.sum_eq_zero (s := range b), zero_add]
  intro l hl
  rw [W_of_lt I (by have := Finset.mem_range.mp hl; omega)]; ring

/-- The gradient of the state, one block back. -/
theorem D_block (b n j : ℕ) (hb : b + 128 ≤ I.L) :
    I.D (b + 128) n j * Real.exp (I.cum (b + 128) (j / 64) - I.cum b (j / 64))
      + ∑ i ∈ range 128, I.C (b + i) (j / 512) n
          * (I.dy (b + i) j * Real.exp (I.cum (b + i + 1) (j / 64) - I.cum b (j / 64))) = I.D b n j := by
  unfold D
  rw [← Finset.sum_Ico_consecutive _ (Nat.le_add_right b 128) hb, Finset.sum_Ico_eq_sum_range _ b,
    Nat.add_sub_cancel_left, Finset.sum_mul, add_comm]
  congr 1
  · refine Finset.sum_congr rfl fun i _ => ?_
    ring
  · refine Finset.sum_congr rfl fun l _ => ?_
    rw [show I.cum (l + 1) (j / 64) - I.cum b (j / 64)
      = (I.cum (l + 1) (j / 64) - I.cum (b + 128) (j / 64))
        + (I.cum (b + 128) (j / 64) - I.cum b (j / 64)) by ring, Real.exp_add]
    ring

/-- The gradient of the score, as a sum over the group's lanes. -/
theorem dS_lanes (l s g : ℕ) :
    I.dS l s g = ∑ j ∈ range 512, I.dy l (512 * g + j) * I.xg s (512 * g + j) * I.W l s (8 * g + j / 64) := by
  rw [show (512 : ℕ) = 8 * 64 from rfl, sum_group, dS]
  refine Finset.sum_congr rfl fun h _ => ?_
  unfold q
  rw [Finset.sum_mul]
  refine Finset.sum_congr rfl fun p hp => ?_
  have := Finset.mem_range.mp hp
  rw [show 64 * (8 * g + h) + p = 8 * 64 * g + (64 * h + p) by ring, show (64 * h + p) / 64 = h by omega]

/-- The gradient of `C`, from the entering state and the block's own steps. -/
theorem dC_block (b i g n : ℕ) (hb : b + 128 ≤ I.L) (hi : i < 128) (hg : g < 2) :
    (∑ j ∈ range 512, I.dy (b + i) (512 * g + j)
        * Real.exp (I.cum (b + i + 1) ((512 * g + j) / 64) - I.cum b ((512 * g + j) / 64))
        * I.S b n (512 * g + j))
      + ∑ r ∈ range 128, I.dS (b + i) (b + r) g * I.B (b + r) g n = I.dC (b + i) g n := by
  have h0 : ∑ l ∈ Ico (b + 128) I.L, I.dS (b + i) l g * I.B l g n = 0 := by
    refine Finset.sum_eq_zero fun l hl => ?_
    have := Finset.mem_Ico.mp hl
    unfold dS
    rw [Finset.sum_eq_zero (fun h _ => by rw [W_of_lt I (by omega), mul_zero]), zero_mul]
  rw [dC, sum_cut I _ b hb, h0, add_zero, add_left_inj]
  unfold S
  simp only [Finset.mul_sum]
  rw [Finset.sum_comm]
  refine Finset.sum_congr rfl fun s hs => ?_
  rw [dS_lanes, Finset.sum_mul]
  refine Finset.sum_congr rfl fun j hj => ?_
  have hj := Finset.mem_range.mp hj
  rw [W_of_le I (by have := Finset.mem_range.mp hs; omega), show (512 * g + j) / 64 = 8 * g + j / 64 by omega,
    show (512 * g + j) / 512 = g by omega]
  rw [show I.cum (b + i + 1) (8 * g + j / 64) - I.cum (s + 1) (8 * g + j / 64)
    = (I.cum b (8 * g + j / 64) - I.cum (s + 1) (8 * g + j / 64))
      + (I.cum (b + i + 1) (8 * g + j / 64) - I.cum b (8 * g + j / 64)) by ring, Real.exp_add]
  ring

/-- The gradient of `B`, from the leaving state's gradient and the block's own steps. -/
theorem dB_block (b r g n : ℕ) (hb : b + 128 ≤ I.L) (hr : r < 128) (hg : g < 2) :
    (∑ j ∈ range 512, I.xg (b + r) (512 * g + j)
        * Real.exp (I.cum (b + 128) ((512 * g + j) / 64) - I.cum (b + r + 1) ((512 * g + j) / 64))
        * I.D (b + 128) n (512 * g + j))
      + ∑ i ∈ range 128, I.dS (b + i) (b + r) g * I.C (b + i) g n = I.dB (b + r) g n := by
  have h0 : ∑ l ∈ range b, I.dS l (b + r) g * I.C l g n = 0 := by
    refine Finset.sum_eq_zero fun l hl => ?_
    have := Finset.mem_range.mp hl
    unfold dS
    rw [Finset.sum_eq_zero (fun h _ => by rw [W_of_lt I (by omega), mul_zero]), zero_mul]
  rw [dB, sum_cut I _ b hb, h0, zero_add, add_comm, add_right_inj]
  unfold D
  simp only [Finset.mul_sum]
  rw [Finset.sum_comm]
  refine Finset.sum_congr rfl fun l hl => ?_
  rw [dS_lanes, Finset.sum_mul]
  refine Finset.sum_congr rfl fun j hj => ?_
  have hj := Finset.mem_range.mp hj
  rw [W_of_le I (by have := Finset.mem_Ico.mp hl; omega), show (512 * g + j) / 64 = 8 * g + j / 64 by omega,
    show (512 * g + j) / 512 = g by omega]
  rw [show I.cum (l + 1) (8 * g + j / 64) - I.cum (b + r + 1) (8 * g + j / 64)
    = (I.cum (l + 1) (8 * g + j / 64) - I.cum (b + 128) (8 * g + j / 64))
      + (I.cum (b + 128) (8 * g + j / 64) - I.cum (b + r + 1) (8 * g + j / 64)) by ring, Real.exp_add]
  ring

/-- A head's 64 lanes: the pair weights, summed. -/
theorem sum_wq_lanes (l s h : ℕ) (w : ℝ) :
    ∑ p ∈ range 64, I.dy l (64 * h + p) * (w * I.xg s (64 * h + p)) = w * I.q l s h := by
  unfold q
  rw [Finset.mul_sum]
  exact Finset.sum_congr rfl fun p _ => by ring

/-- The pairs with an output step inside the block and an input step before it. -/
theorem through_out (b i h : ℕ) :
    ∑ p ∈ range 64, I.dy (b + i) (64 * h + p)
        * ((∑ n ∈ range 128, I.C (b + i) ((64 * h + p) / 512) n * I.S b n (64 * h + p))
          * Real.exp (I.cum (b + i + 1) ((64 * h + p) / 64) - I.cum b ((64 * h + p) / 64)))
      = ∑ s ∈ range b, I.wq (b + i) s h := by
  simp only [state_out, Finset.mul_sum]
  rw [Finset.sum_comm]
  refine Finset.sum_congr rfl fun s _ => ?_
  rw [wq, mul_assoc, mul_comm (I.q _ _ _), mul_comm (I.W _ _ _), ← sum_wq_lanes]
  refine Finset.sum_congr rfl fun p hp => ?_
  have := Finset.mem_range.mp hp
  rw [show (64 * h + p) / 512 = h / 8 by omega, show (64 * h + p) / 64 = h by omega]

/-- The pairs with an input step before `e` and an output step from `e` on. -/
theorem through_in (e s h : ℕ) (hs : s < e) :
    ∑ p ∈ range 64, I.xg s (64 * h + p)
        * ((∑ n ∈ range 128, I.B s ((64 * h + p) / 512) n * I.D e n (64 * h + p))
          * Real.exp (I.cum e ((64 * h + p) / 64) - I.cum (s + 1) ((64 * h + p) / 64)))
      = ∑ l ∈ Ico e I.L, I.wq l s h := by
  simp only [state_in I _ _ _ hs, Finset.mul_sum]
  rw [Finset.sum_comm]
  refine Finset.sum_congr rfl fun l _ => ?_
  rw [wq, mul_assoc, mul_comm (I.q _ _ _), mul_comm (I.W _ _ _), ← sum_wq_lanes]
  refine Finset.sum_congr rfl fun p hp => ?_
  have := Finset.mem_range.mp hp
  rw [show (64 * h + p) / 512 = h / 8 by omega, show (64 * h + p) / 64 = h by omega]
  ring

/-- The pairs that reach across the whole block. -/
theorem carried (b h : ℕ) :
    ∑ p ∈ range 64, (∑ n ∈ range 128, I.D (b + 128) n (64 * h + p) * I.S b n (64 * h + p))
        * Real.exp (I.cum (b + 128) ((64 * h + p) / 64) - I.cum b ((64 * h + p) / 64))
      = ∑ s ∈ range b, ∑ l ∈ Ico (b + 128) I.L, I.wq l s h := by
  have key : ∀ p ∈ range 64, (∑ n ∈ range 128, I.D (b + 128) n (64 * h + p) * I.S b n (64 * h + p))
        * Real.exp (I.cum (b + 128) ((64 * h + p) / 64) - I.cum b ((64 * h + p) / 64))
      = ∑ s ∈ range b, I.xg s (64 * h + p)
        * ((∑ n ∈ range 128, I.B s ((64 * h + p) / 512) n * I.D (b + 128) n (64 * h + p))
          * Real.exp (I.cum (b + 128) ((64 * h + p) / 64) - I.cum (s + 1) ((64 * h + p) / 64))) := by
    intro p _
    unfold S
    simp only [Finset.mul_sum, Finset.sum_mul]
    rw [Finset.sum_comm]
    refine Finset.sum_congr rfl fun s _ => Finset.sum_congr rfl fun n _ => ?_
    rw [show I.cum (b + 128) ((64 * h + p) / 64) - I.cum (s + 1) ((64 * h + p) / 64)
      = (I.cum b ((64 * h + p) / 64) - I.cum (s + 1) ((64 * h + p) / 64))
        + (I.cum (b + 128) ((64 * h + p) / 64) - I.cum b ((64 * h + p) / 64)) by ring, Real.exp_add]
    ring
  rw [Finset.sum_congr rfl key, Finset.sum_comm]
  refine Finset.sum_congr rfl fun s hs => ?_
  exact through_in I _ _ _ (by have := Finset.mem_range.mp hs; omega)

/-- The gradient of a step's log decay, from the four kinds of pairs around it. -/
theorem du_block (b i h : ℕ) (hb : b + 128 ≤ I.L) (hi : i < 128) :
    (∑ s ∈ range i, ∑ l ∈ Ico i 128, I.wq (b + l) (b + s) h)
      + (∑ l ∈ Ico i 128, ∑ s ∈ range b, I.wq (b + l) s h
        + ∑ s ∈ range i, ∑ l ∈ Ico (b + 128) I.L, I.wq l (b + s) h)
      + ∑ s ∈ range b, ∑ l ∈ Ico (b + 128) I.L, I.wq l s h = I.du (b + i) h := by
  have hcut : ∀ s, ∑ l ∈ Ico (b + i) I.L, I.wq l s h
      = ∑ l ∈ Ico i 128, I.wq (b + l) s h + ∑ l ∈ Ico (b + 128) I.L, I.wq l s h := by
    intro s
    rw [← Finset.sum_Ico_consecutive _ (show b + i ≤ b + 128 by omega) hb]
    congr 1
    have := Finset.sum_Ico_add' (fun l => I.wq l s h) i 128 b
    simp only [add_comm i b, add_comm 128 b] at this
    rw [← this]
    exact Finset.sum_congr rfl fun l _ => by rw [add_comm]
  rw [du, Finset.sum_range_add]
  simp only [hcut, Finset.sum_add_distrib]
  rw [Finset.sum_comm (s := Ico i 128) (t := range b)]
  ring

/-- The running sum from the end of the reference's gradient of the running log decays is the sum
over the pairs of times with the step between them. -/
theorem du_eq (t h : ℕ) (ht : t ≤ I.L) :
    ∑ r ∈ Ico t I.L, (∑ s ∈ range I.L, I.wq r s h - ∑ l ∈ range I.L, I.wq l r h) = I.du t h := by
  rw [Finset.sum_sub_distrib, du, Finset.sum_comm (s := Ico t I.L) (t := range I.L),
    ← Finset.sum_range_add_sum_Ico (fun s => ∑ r ∈ Ico t I.L, I.wq r s h) ht]
  rw [add_sub_assoc, add_eq_left, sub_eq_zero]
  refine Finset.sum_congr rfl fun s hs => ?_
  rw [← Finset.sum_range_add_sum_Ico (fun l => I.wq l s h) ht, Finset.sum_eq_zero (s := range t), zero_add]
  intro l hl
  have h1 := Finset.mem_range.mp hl
  have h2 := Finset.mem_Ico.mp hs
  rw [wq, W_of_lt I (by omega)]; ring

end Inp

end Ssd
-- ==== Proof.Lift.lean ====
module

public import proofs.«01_k».proof.Proof.Spec
public import Idealize.ShloMosaic.Lib.Pointwise

/-!
# Arrays that hold real numbers

A matrix or vector of extended reals is described by a real-valued function of its coordinates; the operations
both programs are made of carry such descriptions along.
-/

@[expose] public section

set_option maxRecDepth 16384

noncomputable section

namespace Ssd

open Idealize.ShloMosaic
open Finset (range)

/-- The matrix holds the real numbers `f i j`. -/
def R2 {a b : ℕ} (v : (⟨2, ![a, b]⟩ : Shape).Idx → EReal) (f : ℕ → ℕ → ℝ) : Prop :=
  ∀ (i : Fin a) (j : Fin b), v (ix2 i j) = ((f i j : ℝ) : EReal)

/-- The mask holds where `p i j` does. -/
def M2 {a b : ℕ} (v : (⟨2, ![a, b]⟩ : Shape).Idx → BitVec 1) (p : ℕ → ℕ → Bool) : Prop :=
  ∀ (i : Fin a) (j : Fin b), v (ix2 i j) = BitVec.ofBool (p i j)

/-- An entry of a matrix of real numbers. -/
theorem R2.eq {a b : ℕ} {v : (⟨2, ![a, b]⟩ : Shape).Idx → EReal} {f : ℕ → ℕ → ℝ} (h : R2 v f)
    (i : Fin a) (j : Fin b) : v (ix2 i j) = ((f i j : ℝ) : EReal) := h i j

/-- An entry of a mask. -/
theorem M2.eq {a b : ℕ} {v : (⟨2, ![a, b]⟩ : Shape).Idx → BitVec 1} {p : ℕ → ℕ → Bool} (h : M2 v p)
    (i : Fin a) (j : Fin b) : v (ix2 i j) = BitVec.ofBool (p i j) := h i j

/-- The description may be replaced by one that agrees on the matrix's coordinates. -/
theorem R2.congr {a b : ℕ} {v : (⟨2, ![a, b]⟩ : Shape).Idx → EReal} {f g : ℕ → ℕ → ℝ} (h : R2 v f)
    (hfg : ∀ i j, i < a → j < b → f i j = g i j) : R2 v g := fun i j => by
  rw [h i j, hfg _ _ i.2 j.2]

/-- A finite sum of real numbers. -/
theorem sum_coe {n : ℕ} (f : ℕ → ℝ) : (∑ k : Fin n, ((f k : ℝ) : EReal)) = ((∑ k ∈ range n, f k : ℝ) : EReal) := by
  rw [Finset.sum_range]
  exact (map_sum (⟨⟨Real.toEReal, EReal.coe_zero⟩, EReal.coe_add⟩ : ℝ →+ EReal) (fun k : Fin n => f k) Finset.univ).symm

/-- A real number less itself. -/
theorem sub_self_coe (r : ℝ) : (r : EReal) - (r : EReal) = 0 := by
  rw [← EReal.coe_sub, sub_self, EReal.coe_zero]

/-- The logarithm of one and a real number above minus one. -/
theorem log1p_coe {r : ℝ} (h : 0 < 1 + r) : Ideal.log1p (r : EReal) = ((Real.log (1 + r) : ℝ) : EReal) := by
  unfold Ideal.log1p
  rw [← EReal.coe_one, ← EReal.coe_add, Ideal.log_coe, if_neg (not_le.mpr h)]

/-- The absolute value of a real number. -/
theorem absf_coe (r : ℝ) : FloatOps.absf (F := Ideal) (φ := .f32) (r : EReal) = ((|r| : ℝ) : EReal) := by
  rw [Ideal.absf_def, abs, ← EReal.coe_neg]
  exact (EReal.coe_strictMono.monotone.map_max).symm

/-- The word of minus infinity. -/
theorem ofBits_bot : Ideal.ofBits .f32 0xFF800000#32 = ⊥ := by
  simp [Ideal.ofBits, Ideal.ieee]

/-- The maximum of values that are one value or minus infinity. -/
theorem fold_max {n : ℕ} (F : Fin n → EReal) (x : EReal) (h : ∀ k, F k = x ∨ F k = ⊥) (k0 : Fin n) (h0 : F k0 = x) :
    Finset.univ.fold max (⊥ : EReal) F = x := by
  apply le_antisymm
  · rw [Finset.fold_max_le]
    exact ⟨bot_le, fun k _ => by rcases h k with h | h <;> rw [h]; exact bot_le⟩
  · rw [Finset.le_fold_max]
    exact Or.inr ⟨k0, Finset.mem_univ _, h0.ge⟩

/-- The order of two small words, signed. -/
theorem cmpi_slt {a b : ℕ} (ha : a < 2 ^ 31) (hb : b < 2 ^ 31) :
    IntOp.cmpi .slt (BitVec.ofNat 32 a) (BitVec.ofNat 32 b) = BitVec.ofBool (decide (a < b)) := by
  show BitVec.ofBool _ = _
  congr 1
  simp only [BitVec.slt, BitVec.toInt_ofNat', decide_eq_decide]
  rw [Int.bmod_eq_of_le (by omega) (by omega), Int.bmod_eq_of_le (by omega) (by omega)]
  omega

/-- The reverse order of two small words, signed. -/
theorem cmpi_sge {a b : ℕ} (ha : a < 2 ^ 31) (hb : b < 2 ^ 31) :
    IntOp.cmpi .sge (BitVec.ofNat 32 a) (BitVec.ofNat 32 b) = BitVec.ofBool (decide (b ≤ a)) := by
  show BitVec.ofBool _ = _
  congr 1
  simp only [BitVec.sle, BitVec.toInt_ofNat', decide_eq_decide]
  rw [Int.bmod_eq_of_le (by omega) (by omega), Int.bmod_eq_of_le (by omega) (by omega)]
  omega

/-- The order of two small words, signed, equality included. -/
theorem cmpi_sle {a b : ℕ} (ha : a < 2 ^ 31) (hb : b < 2 ^ 31) :
    IntOp.cmpi .sle (BitVec.ofNat 32 a) (BitVec.ofNat 32 b) = BitVec.ofBool (decide (a ≤ b)) := by
  show BitVec.ofBool _ = _
  congr 1
  simp only [BitVec.sle, BitVec.toInt_ofNat', decide_eq_decide]
  rw [Int.bmod_eq_of_le (by omega) (by omega), Int.bmod_eq_of_le (by omega) (by omega)]
  omega

/-- A mask's bit as a number. -/
theorem sitofp_bit (p : Bool) :
    FloatOps.sitofp (F := Ideal) .f32 (BitVec.setWidth 32 (BitVec.ofBool p)) = (((if p then 1 else 0 : ℝ)) : EReal) := by
  show (((BitVec.setWidth 32 (BitVec.ofBool p)).toInt : ℝ) : EReal) = _
  cases p <;> simp

/-- A choice between two real numbers. -/
theorem select_coe (p : Bool) (a b : ℝ) :
    Scalar.select (BitVec.ofBool p) (a : EReal) (b : EReal) = ((if p then a else b : ℝ) : EReal) := by
  cases p <;> rfl

section Ops

variable {a b : ℕ} {φ : FTy} {v w : FVec Ideal ⟨2, ![a, b]⟩ .f32} {f g : ℕ → ℕ → ℝ}

/-- Sums. -/
theorem R2.addf (hv : R2 v f) (hw : R2 w g) : R2 (addf v w) (fun i j => f i j + g i j) := fun i j => by
  show v _ + w _ = _
  rw [hv i j, hw i j, ← EReal.coe_add]
/-- Differences. -/
theorem R2.subf (hv : R2 v f) (hw : R2 w g) : R2 (subf v w) (fun i j => f i j - g i j) := fun i j => by
  show v _ - w _ = _
  rw [hv i j, hw i j, ← EReal.coe_sub]
/-- Products. -/
theorem R2.mulf (hv : R2 v f) (hw : R2 w g) : R2 (mulf v w) (fun i j => f i j * g i j) := fun i j => by
  show v _ * w _ = _
  rw [hv i j, hw i j, ← EReal.coe_mul]
/-- Maxima. -/
theorem R2.maximumf (hv : R2 v f) (hw : R2 w g) : R2 (maximumf v w) (fun i j => max (f i j) (g i j)) := fun i j => by
  show max (v _) (w _) = _
  rw [hv i j, hw i j]; exact (EReal.coe_strictMono.monotone.map_max).symm
/-- Exponentials. -/
theorem R2.exp (hv : R2 v f) : R2 (exp v) (fun i j => Real.exp (f i j)) := fun i j => by
  show Ideal.exp (v _) = _
  rw [hv i j, Ideal.exp_coe]
/-- Absolute values. -/
theorem R2.absf (hv : R2 v f) : R2 (absf v) (fun i j => |f i j|) := fun i j => by
  show FloatOps.absf (v _) = _
  rw [hv i j, absf_coe]
/-- The logarithm of one and an exponential. -/
theorem R2.log1p (hv : R2 v f) (h : ∀ i j, 0 < 1 + f i j) : R2 (log1p v) (fun i j => Real.log (1 + f i j)) := fun i j => by
  show Ideal.log1p (v _) = _
  rw [hv i j, log1p_coe (h _ _)]
/-- The logistic function. -/
theorem R2.logistic (hv : R2 v f) : R2 (logistic v) (fun i j => sig (f i j)) := fun i j => by
  show Ideal.logistic (v _) = _
  rw [hv i j, Ideal.logistic_coe]
  simp only [sig, one_div]
/-- Choices. -/
theorem R2.select {m : IVec ⟨2, ![a, b]⟩ 1} {p : ℕ → ℕ → Bool} (hm : M2 m p) (hv : R2 v f) (hw : R2 w g) :
    R2 (select m v w) (fun i j => if p i j then f i j else g i j) := fun i j => by
  show Scalar.select (m _) (v _) (w _) = _
  rw [hm i j, hv i j, hw i j, select_coe]

end Ops

end Ssd
-- ==== Proof.Ops.lean ====
module

public import proofs.«01_k».proof.Proof.Body
public import proofs.«01_k».proof.Proof.Lift

/-!
# The pieces of a grid point on real numbers

What the building blocks of one grid point make of matrices of real numbers.
-/

@[expose] public section

set_option maxRecDepth 16384

noncomputable section

namespace Ssd

open Idealize.ShloMosaic Cert.KernelIdeal Cert.KernelIdeal.Gen
open Finset (range Ico)

/-! ## Constants and masks -/

/-- A zero accumulator. -/
theorem R2_zero {a b : ℕ} : R2 (Body.zero (F := Ideal) ⟨2, ![a, b]⟩) (fun _ _ => 0) := fun i j => by
  show Ideal.ofBits .f32 0x00000000#32 = _
  rw [Ideal.ofBits_zero_f32]; rfl
/-- A splat of zero. -/
theorem R2_zeroB {a b : ℕ} : R2 (Body.zeroB (F := Ideal) ⟨2, ![a, b]⟩) (fun _ _ => 0) := fun i j => by
  show Ideal.ofBits .f32 0x00000000#32 = _
  rw [Ideal.ofBits_zero_f32]; rfl
/-- The rounding is the identity on real numbers. -/
theorem R2.hi {a b : ℕ} {v : FVec Ideal ⟨2, ![a, b]⟩ .f32} {f : ℕ → ℕ → ℝ} (h : R2 v f) : R2 (Body.hi v) f := h
/-- The rounding leaves nothing. -/
theorem R2.rest {a b : ℕ} {v : FVec Ideal ⟨2, ![a, b]⟩ .f32} {f : ℕ → ℕ → ℝ} (h : R2 v f) :
    R2 (Body.rest v) (fun _ _ => 0) := fun i j => by
  show v _ - v _ = _
  rw [h i j, sub_self_coe]; rfl
/-- The first half of the lanes. -/
theorem M2_lo : M2 Body.lo (fun _ j => decide (j < 64)) := fun i j => by
  have := j.2
  pointwise [Body.lo, Body.up, Body.rI, Body.cI]
  exact cmpi_slt (a := j.val) (b := 64) (by omega) (by omega)
/-- The second half of the lanes. -/
theorem M2_up : M2 Body.up (fun _ j => decide (64 ≤ j)) := fun i j => by
  have := j.2
  pointwise [Body.lo, Body.up, Body.rI, Body.cI]
  exact cmpi_sge (a := j.val) (b := 64) (by omega) (by omega)
/-- Row not before column. -/
theorem M2_ge : M2 (cmpi .sge Body.rI Body.cI) (fun i j => decide (j ≤ i)) := fun i j => by
  have := i.2; have := j.2
  pointwise [Body.lo, Body.up, Body.rI, Body.cI]
  exact cmpi_sge (a := i.val) (b := j.val) (by omega) (by omega)
/-- Row not after column. -/
theorem M2_le : M2 (cmpi .sle Body.rI Body.cI) (fun i j => decide (i ≤ j)) := fun i j => by
  have := i.2; have := j.2
  pointwise [Body.lo, Body.up, Body.rI, Body.cI]
  exact cmpi_sle (a := i.val) (b := j.val) (by omega) (by omega)
/-- Column before row. -/
theorem M2_lt : M2 (cmpi .slt Body.cI Body.rI) (fun i j => decide (j < i)) := fun i j => by
  have := i.2; have := j.2
  pointwise [Body.lo, Body.up, Body.rI, Body.cI]
  exact cmpi_slt (a := j.val) (b := i.val) (by omega) (by omega)
/-- A mask as a matrix. -/
theorem R2_ones {m : IVec S128x128 1} {p : ℕ → ℕ → Bool} (h : M2 m p) :
    R2 (Body.ones (F := Ideal) m) (fun i j => if p i j then 1 else 0) := fun i j => by
  show FloatOps.sitofp (F := Ideal) .f32 (BitVec.setWidth 32 (m (ix2 i j))) = _
  rw [h i j, sitofp_bit]

/-! ## Layout -/

section Layout
variable {v : FVec Ideal S128x1024 .f32} {f : ℕ → ℕ → ℝ}

/-- 128 lanes. -/
theorem R2.sl (hv : R2 v f) (o : ℕ) (h : S128x1024.Slices ![0, o] S128x128) :
    R2 (Body.sl o h v) (fun i j => f i (o + j)) := fun i j => by
  pointwise [Body.sl]; rw [hv.eq]
/-- 512 lanes. -/
theorem R2.sg (hv : R2 v f) (o : ℕ) (h : S128x1024.Slices ![0, o] S128x512) :
    R2 (Body.sg o h v) (fun i j => f i (o + j)) := fun i j => by
  pointwise [Body.sg]; rw [hv.eq]
/-- A row over all rows. -/
theorem R2.rows {w : FVec Ideal S1x1024 .f32} {g : ℕ → ℕ → ℝ} (hw : R2 w g) : R2 (Body.rows w) (fun _ j => g 0 j) :=
  fun i j => by
  pointwise [Body.rows]; rw [hw.eq]; rfl
/-- Column sums. -/
theorem R2.colsum (hv : R2 v f) : R2 (Body.colsum v) (fun _ j => ∑ i ∈ range 128, f i j) := fun i j => by
  pointwise [Body.colsum]; simp only [hv.eq]; exact sum_coe (fun k => f k j)
/-- Two groups side by side. -/
theorem R2.two {p r : FVec Ideal S128x512 .f32} (hp : R2 p f) (hr : R2 r (fun i j => f i (512 + j))) :
    R2 (Body.two p r) f := fun i j => by
  pointwise [Body.two]
  split
  · rw [hp.eq]
  · rw [hr.eq]; simp only; rw [show 512 + (j.val - 512) = j.val by omega]
/-- A row read. -/
theorem R2.row {w : FVec Ideal S1x1024 .f32} {g : ℕ → ℕ → ℝ} (hw : R2 w g) : R2 (Body.row w) g := fun i j => by
  pointwise [Body.row]; rw [hw.eq, show i.val = 0 by omega]
/-- A column over all columns. -/
theorem R2.over {w : FVec Ideal S128x1 .f32} {g : ℕ → ℕ → ℝ} (hw : R2 w g) : R2 (Body.over w) (fun i _ => g i 0) :=
  fun i j => by
  pointwise [Body.over]; rw [hw.eq]; rfl

end Layout

/-! ## Products -/

section Products
variable {f g : ℕ → ℕ → ℝ}

/-- A sum of products of real numbers. -/
theorem sum_mul_coe {n : ℕ} (f g : ℕ → ℝ) :
    (∑ k : Fin n, ((f k : ℝ) : EReal) * ((g k : ℝ) : EReal)) = ((∑ k ∈ range n, f k * g k : ℝ) : EReal) := by
  rw [← sum_coe]; simp only [EReal.coe_mul]

/-- First factor transposed. -/
theorem R2.tn {a b : FVec Ideal S128x128 .bf16} (ha : R2 a f) (hb : R2 b g) :
    R2 (Body.tn a b) (fun i j => ∑ k ∈ range 128, f k i * g k j) := fun i j => by
  pointwise [Body.tn, Body.zero]; simp only [ha.eq, hb.eq]; exact sum_mul_coe (fun k => f k i) (fun k => g k j)
/-- Second factor transposed. -/
theorem R2.nt {a b : FVec Ideal S128x128 .bf16} (ha : R2 a f) (hb : R2 b g) :
    R2 (Body.nt a b) (fun i j => ∑ k ∈ range 128, f i k * g j k) := fun i j => by
  pointwise [Body.nt, Body.zero]; simp only [ha.eq, hb.eq]; exact sum_mul_coe (fun k => f i k) (fun k => g j k)
/-- Plain. -/
theorem R2.nn {a b : FVec Ideal S128x128 .bf16} (ha : R2 a f) (hb : R2 b g) :
    R2 (Body.nn a b) (fun i j => ∑ k ∈ range 128, f i k * g k j) := fun i j => by
  pointwise [Body.nn, Body.zero]; simp only [ha.eq, hb.eq]; exact sum_mul_coe (fun k => f i k) (fun k => g k j)
/-- Over 512 lanes. -/
theorem R2.nt512 {a b : FVec Ideal S128x512 .f32} (ha : R2 a f) (hb : R2 b g) :
    R2 (Body.nt512 a b) (fun i j => ∑ k ∈ range 512, f i k * g j k) := fun i j => by
  pointwise [Body.nt512, Body.zero, Body.hi]; simp only [ha.eq, hb.eq]; exact sum_mul_coe (fun k => f i k) (fun k => g j k)
/-- Into 512 lanes. -/
theorem R2.mm512 {a : FVec Ideal S128x128 .bf16} {b : FVec Ideal S128x512 .bf16} (ha : R2 a f) (hb : R2 b g) :
    R2 (matmul dot_S128x128_S128x512_S128x512_1_0_0_1_n_n none a b (Body.zero S128x512))
      (fun i j => ∑ k ∈ range 128, f i k * g k j) := fun i j => by
  pointwise [Body.zero]; simp only [ha.eq, hb.eq]; exact sum_mul_coe (fun k => f i k) (fun k => g k j)
/-- Into 512 lanes, first factor transposed. -/
theorem R2.tm512 {a : FVec Ideal S128x128 .bf16} {b : FVec Ideal S128x512 .bf16} (ha : R2 a f) (hb : R2 b g) :
    R2 (matmul dot_S128x128_S128x512_S128x512_0_0_1_1_n_n none a b (Body.zero S128x512))
      (fun i j => ∑ k ∈ range 128, f k i * g k j) := fun i j => by
  pointwise [Body.zero]; simp only [ha.eq, hb.eq]; exact sum_mul_coe (fun k => f k i) (fun k => g k j)
/-- Into 1024 lanes. -/
theorem R2.mm1024 {a : FVec Ideal S128x128 .bf16} {b : FVec Ideal S128x1024 .bf16} (ha : R2 a f) (hb : R2 b g) :
    R2 (matmul dot_S128x128_S128x1024_S128x1024_1_0_0_1_n_n none a b (Body.zero S128x1024))
      (fun i j => ∑ k ∈ range 128, f i k * g k j) := fun i j => by
  pointwise [Body.zero]; simp only [ha.eq, hb.eq]; exact sum_mul_coe (fun k => f i k) (fun k => g k j)
/-- Over 1024 lanes. -/
theorem R2.nt1024 {a b : FVec Ideal S128x1024 .bf16} (ha : R2 a f) (hb : R2 b g) :
    R2 (matmul dot_S128x1024_S128x1024_S128x128_1_1_0_0_n_n none a b (Body.zero S128x128))
      (fun i j => ∑ k ∈ range 1024, f i k * g j k) := fun i j => by
  pointwise [Body.zero]; simp only [ha.eq, hb.eq]; exact sum_mul_coe (fun k => f i k) (fun k => g j k)
/-- Eight rows into 1024 lanes. -/
theorem R2.mm8 {a : FVec Ideal S8x128 .bf16} {b : FVec Ideal S128x1024 .bf16} (ha : R2 a f) (hb : R2 b g) :
    R2 (matmul dot_S8x128_S128x1024_S8x1024_1_0_0_1_n_n none a b (Body.zero S8x1024))
      (fun i j => ∑ k ∈ range 128, f i k * g k j) := fun i j => by
  pointwise [Body.zero]; simp only [ha.eq, hb.eq]; exact sum_mul_coe (fun k => f i k) (fun k => g k j)
/-- Eight rows over 1024 lanes. -/
theorem R2.nt8 {a : FVec Ideal S8x1024 .bf16} {b : FVec Ideal S128x1024 .bf16} (ha : R2 a f) (hb : R2 b g) :
    R2 (matmul dot_S8x1024_S128x1024_S8x128_1_1_0_0_n_n none a b (Body.zero S8x128))
      (fun i j => ∑ k ∈ range 1024, f i k * g j k) := fun i j => by
  pointwise [Body.zero]; simp only [ha.eq, hb.eq]; exact sum_mul_coe (fun k => f i k) (fun k => g j k)

/-- A product with a value in three parts is the product with the value. -/
theorem R2.splitL {a b a' b' c d : ℕ} {D : DotDims ⟨2, ![a, b]⟩ ⟨2, ![a', b']⟩ ⟨2, ![c, d]⟩}
    {v : FVec Ideal ⟨2, ![a, b]⟩ .f32} {w : FVec Ideal ⟨2, ![a', b']⟩ .bf16} (hv : R2 v f)
    (G : (ℕ → ℕ → ℝ) → ℕ → ℕ → ℝ)
    (hG : ∀ (v' : FVec Ideal ⟨2, ![a, b]⟩ .bf16) (f' : ℕ → ℕ → ℝ), R2 v' f' → R2 (matmul D none v' w (Body.zero _)) (G f'))
    (h0 : ∀ i j, G (fun _ _ => 0) i j = 0) : R2 (Body.splitL D v w) (G f) :=
  ((hG _ _ hv.hi).addf (hG _ _ hv.rest.hi) |>.addf (hG _ _ hv.rest.rest.hi)).congr fun i j _ _ => by
    rw [h0, add_zero, add_zero]
/-- The same with the value on the right. -/
theorem R2.splitR {a b a' b' c d : ℕ} {D : DotDims ⟨2, ![a', b']⟩ ⟨2, ![a, b]⟩ ⟨2, ![c, d]⟩}
    {v : FVec Ideal ⟨2, ![a, b]⟩ .f32} {w : FVec Ideal ⟨2, ![a', b']⟩ .bf16} (hv : R2 v f)
    (G : (ℕ → ℕ → ℝ) → ℕ → ℕ → ℝ)
    (hG : ∀ (v' : FVec Ideal ⟨2, ![a, b]⟩ .bf16) (f' : ℕ → ℕ → ℝ), R2 v' f' → R2 (matmul D none w v' (Body.zero _)) (G f'))
    (h0 : ∀ i j, G (fun _ _ => 0) i j = 0) : R2 (Body.splitR D w v) (G f) :=
  ((hG _ _ hv.hi).addf (hG _ _ hv.rest.hi) |>.addf (hG _ _ hv.rest.rest.hi)).congr fun i j _ _ => by
    rw [h0, add_zero, add_zero]

/-- A mask times a column, in three parts. -/
theorem R2.tri {m : IVec S128x128 1} {p : ℕ → ℕ → Bool} (hm : M2 m p) {v : FVec Ideal S128x1024 .f32} (hv : R2 v f) :
    R2 (Body.splitR dot_S128x128_S128x1024_S128x1024_1_0_0_1_n_n (Body.ones m) v)
      (fun i j => ∑ k ∈ range 128, if p i k then f k j else 0) :=
  (hv.splitR (fun f i j => ∑ k ∈ range 128, (if p i k then 1 else 0) * f k j)
    (fun _ _ h => (R2_ones hm).mm1024 h) (fun _ _ => by simp)).congr fun i j _ _ =>
      Finset.sum_congr rfl fun k _ => by split <;> simp

end Products

/-! ## Sums over a head's lanes -/

/-- One in the row of a lane's head. -/
def E (h j : ℕ) : ℝ := if h = j / 64 then 1 else 0

/-- A sum over all lanes, one head at a time. -/
theorem sum_E (f : ℕ → ℝ) (h : ℕ) (hh : h < 16) :
    ∑ j ∈ range 1024, f j * E h j = ∑ p ∈ range 64, f (64 * h + p) := by
  rw [show (1024 : ℕ) = 16 * 64 from rfl, Inp.sum_group, Finset.sum_eq_single h]
  · refine Finset.sum_congr rfl fun p hp => ?_
    have := Finset.mem_range.mp hp
    rw [E, if_pos (by omega), mul_one]
  · intro h' _ hne
    refine Finset.sum_eq_zero fun p hp => ?_
    have := Finset.mem_range.mp hp
    rw [E, if_neg (by omega), mul_zero]
  · intro hn; exact absurd (Finset.mem_range.mpr hh) hn

/-- A row past the sixteen heads is zero. -/
theorem sum_E_ge (f : ℕ → ℝ) (h : ℕ) (hh : 16 ≤ h) : ∑ j ∈ range 1024, f j * E h j = 0 :=
  Finset.sum_eq_zero fun j hj => by
    have := Finset.mem_range.mp hj
    rw [E, if_neg (by omega), mul_zero]

/-- A sum over all heads of a lane's head. -/
theorem sum_E' (f : ℕ → ℝ) (j : ℕ) (hj : j < 1024) : ∑ h ∈ range 128, f h * E h j = f (j / 64) := by
  rw [Finset.sum_eq_single (j / 64)]
  · rw [E, if_pos rfl, mul_one]
  · intro h _ hne; rw [E, if_neg hne, mul_zero]
  · intro hn; exact absurd (Finset.mem_range.mpr (by omega)) hn

section HeadSums
variable {s : FVec Ideal S128x1024 .bf16} {f : ℕ → ℕ → ℝ}

/-- A head's sum over its lanes, in the head's column. -/
theorem R2.toHeads (hs : R2 s E) {v : FVec Ideal S128x1024 .f32} (hv : R2 v f) :
    R2 (Body.splitL dot_S128x1024_S128x1024_S128x128_1_1_0_0_n_n v s) (fun i h => ∑ j ∈ range 1024, f i j * E h j) :=
  hv.splitL (fun f i h => ∑ j ∈ range 1024, f i j * E h j) (fun _ _ h => h.nt1024 hs) (fun _ _ => by simp)
/-- Every head's sum over its lanes, on each of them. -/
theorem R2.headSums (hs : R2 s E) {v : FVec Ideal S128x1024 .f32} (hv : R2 v f) :
    R2 (Body.headSums s v) (fun i j => ∑ p ∈ range 64, f i (64 * (j / 64) + p)) :=
  ((hs.toHeads hv).splitL (fun f i j => ∑ h ∈ range 128, f i h * E h j) (fun _ _ h => h.mm1024 hs)
    (fun _ _ => by simp)).congr fun i j _ hj => by
      rw [sum_E' (fun h => ∑ j ∈ range 1024, f i j * E h j) j hj, sum_E _ _ (by omega)]
/-- The same of eight rows. -/
theorem R2.headSums8 (hs : R2 s E) {v : FVec Ideal S8x1024 .f32} (hv : R2 v f) :
    R2 (Body.headSums8 s v) (fun i j => ∑ p ∈ range 64, f i (64 * (j / 64) + p)) :=
  ((hv.splitL (fun f i h => ∑ j ∈ range 1024, f i j * E h j) (fun _ _ h => h.nt8 hs) (fun _ _ => by simp)).splitL
    (fun f i j => ∑ h ∈ range 128, f i h * E h j) (fun _ _ h => h.mm8 hs)
    (fun _ _ => by simp)).congr fun i j _ hj => by
      rw [sum_E' (fun h => ∑ j ∈ range 1024, f i j * E h j) j hj, sum_E _ _ (by omega)]

end HeadSums

/-! ## One head -/

/-- A head's one value per row. -/
theorem R2.col {m : IVec S128x128 1} {p : ℕ → ℕ → Bool} {t : FVec Ideal S128x128 .f32} {f : ℕ → ℕ → ℝ} (x : ℕ → ℝ)
    (hm : M2 m p) (ht : R2 t f) (hx : ∀ i j, j < 128 → p i j = true → f i j = x i)
    (j0 : Fin 128) (h0 : ∀ i, p i j0 = true) : R2 (Body.col m t) (fun i _ => x i) := fun i j => by
  pointwise [Body.col]
  rw [ofBits_bot]
  refine fold_max _ _ (fun k => ?_) j0 ?_
  · rw [hm.eq, ht.eq]
    rcases hp : p i k with _ | _
    · exact Or.inr rfl
    · left
      rw [← hx i k k.2 hp]; rfl
  · rw [hm.eq, ht.eq, h0, ← hx i j0 j0.2 (h0 _)]; rfl
/-- The decay between the chunk's steps. -/
theorem R2.decay {m : IVec S128x128 1} {p : ℕ → ℕ → Bool} {t : FVec Ideal S128x128 .f32} {f : ℕ → ℕ → ℝ} (x : ℕ → ℝ)
    (hm : M2 m p) (ht : R2 t f) (hx : ∀ i j, j < 128 → p i j = true → f i j = x i)
    (j0 : Fin 128) (h0 : ∀ i, p i j0 = true) :
    R2 (Body.decay m t) (fun i j => if j ≤ i then Real.exp (x i - x j) else 0) := by
  have hc := R2.col x hm ht hx j0 h0
  have htr : R2 (transpose S128x128 [1, 0] (Body.col m t) transposes_S128x128_p1_0_S128x128) (fun _ j => x j) :=
    fun i j => by pointwise; rw [hc.eq]
  exact (R2.select M2_ge (hc.subf htr).exp R2_zeroB).congr fun i j _ _ => by simp
/-- A head's lanes. -/
theorem R2.half {m : IVec S128x128 1} {p : ℕ → ℕ → Bool} {t : FVec Ideal S128x128 .f32} {f : ℕ → ℕ → ℝ}
    (hm : M2 m p) (ht : R2 t f) : R2 (Body.half m t) (fun i j => if p i j then f i j else 0) :=
  (R2.select hm ht R2_zeroB).hi
/-- The pair weights between which a row lies. -/
theorem R2.between {w : FVec Ideal S128x128 .f32} {f : ℕ → ℕ → ℝ} (hw : R2 w f) :
    R2 (Body.between w) (fun i _ => ∑ s ∈ range i, ∑ l ∈ Ico i 128, f l s) := fun i j => by
  have h1 := R2_ones M2_le
  have h2 := hw.rest
  pointwise [Body.between, Body.later2, Body.zero, Body.zeroB, Body.hi]
  simp only [h1.eq, hw.eq, h2.eq, M2_lt.eq, cmpi]
  have e : ∀ x : Fin 128, (∑ k : Fin 128, (((if decide (i.val ≤ k.val) = true then 1 else 0 : ℝ)) : EReal) * ((f k x : ℝ) : EReal)
        + ∑ k : Fin 128, (((if decide (i.val ≤ k.val) = true then 1 else 0 : ℝ)) : EReal) * ((0 : ℝ) : EReal))
      = ((∑ l ∈ Ico i.val 128, f l x : ℝ) : EReal) := fun x => by
    rw [sum_mul_coe (fun k => if decide (i.val ≤ k) = true then 1 else 0) (fun k => f k x),
      sum_mul_coe (fun k => if decide (i.val ≤ k) = true then 1 else 0) (fun k => 0), ← EReal.coe_add]
    congr 1
    simp only [mul_zero, Finset.sum_const_zero, add_zero, ite_mul, one_mul, zero_mul, decide_eq_true_eq]
    rw [← Finset.sum_filter]
    refine Finset.sum_congr ?_ fun _ _ => rfl
    ext k; simp only [Finset.mem_filter, Finset.mem_range, Finset.mem_Ico]; omega
  simp only [e]
  have m : ∀ x : Fin 128, IntOp.cmpi .slt (Body.cI (ix2 i x)) (Body.rI (ix2 i x)) = BitVec.ofBool (decide (x.val < i.val)) :=
    fun x => M2_lt i x
  simp only [m]
  have z : (0 : EReal) = ((0 : ℝ) : EReal) := rfl
  rw [z]
  simp only [select_coe]
  rw [sum_coe (fun x => if decide (x < i.val) = true then ∑ l ∈ Ico i.val 128, f l x else 0)]
  congr 1
  simp only [decide_eq_true_eq]
  have hi := i.2
  rw [← Finset.sum_filter]
  refine Finset.sum_congr ?_ fun _ _ => rfl
  ext k; simp only [Finset.mem_filter, Finset.mem_range]; omega

end Ssd
-- ==== Proof.Chunk.lean ====
module

public import proofs.«01_k».proof.Proof.Ops

/-!
# One grid point computes its block of the gradient

When a grid point reads its block of the inputs, the state that enters the block and the gradient of
the state that leaves it, what it stores is the block of the gradient that the mathematics names.
-/

@[expose] public section

set_option maxRecDepth 16384

noncomputable section

namespace Ssd

open Idealize.ShloMosaic Cert.KernelIdeal Cert.KernelIdeal.Gen
open Finset (range Ico)

/-- The loads of the grid point that works on the 128 steps from `b` on. -/
structure Good (k : Body.Blk Ideal) (I : Inp) (b : ℕ) : Prop where
  hb : b + 128 ≤ I.L
  xs : R2 k.xs (fun i j => I.xc (b + i) j)
  b0 : R2 k.b0 (fun i n => I.B (b + i) 0 n)
  c0 : R2 k.c0 (fun i n => I.C (b + i) 0 n)
  b1 : R2 k.b1 (fun i n => I.B (b + i) 1 n)
  c1 : R2 k.c1 (fun i n => I.C (b + i) 1 n)
  dtt : ∀ i j : Fin 128, j.val < 16 → k.dtt (ix2 i j) = ((I.tile (b + i) j : ℝ) : EReal)
  spr : R2 k.spr E
  dtb : R2 k.dtb (fun _ j => I.bias (j / 64))
  al : R2 k.al (fun _ j => I.al (j / 64))
  gy : R2 k.gy (fun i j => I.dy (b + i) j)
  sp : ∀ (n : Fin 128) (j : Fin 1024), k.sp (ix3 0 n j) = ((I.S b n j : ℝ) : EReal)
  ds : R2 k.ds (fun n j => I.D (b + 128) n j)

/-! ## One pair of heads -/

section Pair

variable {I : Inp} {b o g : ℕ} {sc ac xg gy : FVec Ideal S128x128 .f32}

/-- The decay of a pair's first head. -/
theorem decay_lo (ho : o % 128 = 0)
    (hac : R2 ac (fun i j => I.cum (b + i + 1) ((o + j) / 64) - I.cum b ((o + j) / 64))) :
    R2 (Body.decay Body.lo ac) (fun l s => I.W (b + l) (b + s) (o / 64)) :=
  (R2.decay (fun i => I.cum (b + i + 1) (o / 64) - I.cum b (o / 64)) M2_lo hac
    (fun i j _ h => by
      have : j < 64 := of_decide_eq_true h
      rw [show (o + j) / 64 = o / 64 by omega]) 0 (fun _ => rfl)).congr fun l s _ _ => by
    show _ = I.W _ _ _
    rcases le_or_gt s l with h | h
    · rw [if_pos h, Inp.W_of_le I (by omega)]; congr 1; ring
    · rw [if_neg (by omega), Inp.W_of_lt I (by omega)]
/-- The decay of a pair's second head. -/
theorem decay_up (ho : o % 128 = 0)
    (hac : R2 ac (fun i j => I.cum (b + i + 1) ((o + j) / 64) - I.cum b ((o + j) / 64))) :
    R2 (Body.decay Body.up ac) (fun l s => I.W (b + l) (b + s) (o / 64 + 1)) :=
  (R2.decay (fun i => I.cum (b + i + 1) (o / 64 + 1) - I.cum b (o / 64 + 1)) M2_up hac
    (fun i j hj h => by
      have : 64 ≤ j := of_decide_eq_true h
      rw [show (o + j) / 64 = o / 64 + 1 by omega]) 64 (fun _ => rfl)).congr fun l s _ _ => by
    show _ = I.W _ _ _
    rcases le_or_gt s l with h | h
    · rw [if_pos h, Inp.W_of_le I (by omega)]; congr 1; ring
    · rw [if_neg (by omega), Inp.W_of_lt I (by omega)]
/-- A head's share in the gradient of the scaled values. -/
theorem R2.accStep {m : IVec S128x128 1} {acc : FVec Ideal S128x128 .f32} {fa fs fw fg : ℕ → ℕ → ℝ} {p : ℕ → ℕ → Bool}
    (hm : M2 m p) (ha : R2 acc fa) (hs : R2 sc fs) (hd : R2 (Body.decay m ac) fw) (hg : R2 gy fg) :
    R2 (Body.accStep m acc sc ac gy)
      (fun i j => fa i j + ∑ k ∈ range 128, fs k i * fw k i * (if p k j then fg k j else 0)) :=
  ha.addf (R2.tn (hs.mulf hd).hi (R2.half hm hg))
/-- A pair's gradient of its scaled values, from inside the block. -/
theorem pairAcc_eq (ho : o % 128 = 0)
    (hac : R2 ac (fun i j => I.cum (b + i + 1) ((o + j) / 64) - I.cum b ((o + j) / 64)))
    (hsc : R2 sc (fun l s => I.sc (b + l) (b + s) g)) (hgy : R2 gy (fun i j => I.dy (b + i) (o + j))) :
    R2 (Body.pairAcc sc ac gy) (fun r j => ∑ i ∈ range 128,
      I.sc (b + i) (b + r) g * I.W (b + i) (b + r) ((o + j) / 64) * I.dy (b + i) (o + j)) :=
  (R2.accStep M2_up (R2.accStep M2_lo R2_zeroB hsc (decay_lo ho hac) hgy) hsc (decay_up ho hac) hgy).congr
    fun r j _ hj => by
      rcases lt_or_ge j 64 with h | h
      · have h' : ¬ 64 ≤ j := by omega
        simp only [h, h', decide_true, decide_false, if_true, Bool.false_eq_true, if_false, mul_zero,
          Finset.sum_const_zero, add_zero, zero_add]
        rw [show (o + j) / 64 = o / 64 by omega]
      · have h' : ¬ j < 64 := by omega
        simp only [h, h', decide_true, decide_false, if_true, Bool.false_eq_true, if_false, mul_zero,
          Finset.sum_const_zero, add_zero, zero_add]
        rw [show (o + j) / 64 = o / 64 + 1 by omega]
/-- The first head's product of cotangents and values, with its decay. -/
theorem dm_lo (ho : o % 128 = 0)
    (hac : R2 ac (fun i j => I.cum (b + i + 1) ((o + j) / 64) - I.cum b ((o + j) / 64)))
    (hxg : R2 xg (fun i j => I.xg (b + i) (o + j))) (hgy : R2 gy (fun i j => I.dy (b + i) (o + j))) :
    R2 (Body.dm Body.lo ac xg gy) (fun l s => I.q (b + l) (b + s) (o / 64) * I.W (b + l) (b + s) (o / 64)) :=
  ((R2.nt (R2.half M2_lo hgy) hxg.hi).mulf (decay_lo ho hac)).congr fun l s _ _ => by
    congr 1
    rw [show (128 : ℕ) = 64 + 64 from rfl, Finset.sum_range_add, Finset.sum_eq_zero (s := range 64)
      (f := fun x => (if decide (64 + x < 64) = true then I.dy (b + l) (o + (64 + x)) else 0) * I.xg (b + s) (o + (64 + x))),
      add_zero, Inp.q]
    · refine Finset.sum_congr rfl fun k hk => ?_
      have := Finset.mem_range.mp hk
      simp only [this, decide_true, if_true]
      rw [show 64 * (o / 64) = o by omega]
    · intro k _
      have : ¬ 64 + k < 64 := by omega
      simp only [this, decide_false, Bool.false_eq_true, if_false, zero_mul]
/-- The second head's product of cotangents and values, with its decay. -/
theorem dm_up (ho : o % 128 = 0)
    (hac : R2 ac (fun i j => I.cum (b + i + 1) ((o + j) / 64) - I.cum b ((o + j) / 64)))
    (hxg : R2 xg (fun i j => I.xg (b + i) (o + j))) (hgy : R2 gy (fun i j => I.dy (b + i) (o + j))) :
    R2 (Body.dm Body.up ac xg gy) (fun l s => I.q (b + l) (b + s) (o / 64 + 1) * I.W (b + l) (b + s) (o / 64 + 1)) :=
  ((R2.nt (R2.half M2_up hgy) hxg.hi).mulf (decay_up ho hac)).congr fun l s _ _ => by
    congr 1
    rw [show (128 : ℕ) = 64 + 64 from rfl, Finset.sum_range_add, Finset.sum_eq_zero (s := range 64)
      (f := fun x => (if decide (64 ≤ x) = true then I.dy (b + l) (o + x) else 0) * I.xg (b + s) (o + x)),
      zero_add, Inp.q]
    · refine Finset.sum_congr rfl fun k hk => ?_
      have : 64 ≤ 64 + k := by omega
      simp only [this, decide_true, if_true]
      rw [show 64 * (o / 64 + 1) + k = o + (64 + k) by omega]
    · intro k hk
      have : ¬ 64 ≤ k := by have := Finset.mem_range.mp hk; omega
      simp only [this, decide_false, Bool.false_eq_true, if_false, zero_mul]
/-- A pair's gradient of the log decays, from inside the block. -/
theorem pairDadt_eq (ho : o % 128 = 0) (hg : o / 512 = g)
    (hac : R2 ac (fun i j => I.cum (b + i + 1) ((o + j) / 64) - I.cum b ((o + j) / 64)))
    (hsc : R2 sc (fun l s => I.sc (b + l) (b + s) g))
    (hxg : R2 xg (fun i j => I.xg (b + i) (o + j))) (hgy : R2 gy (fun i j => I.dy (b + i) (o + j))) :
    R2 (Body.pairDadt sc ac xg gy) (fun i j => ∑ s ∈ range i, ∑ l ∈ Ico i 128, I.wq (b + l) (b + s) ((o + j) / 64)) :=
  (R2.select M2_lo (R2.over (R2.between ((dm_lo ho hac hxg hgy).mulf hsc)))
    (R2.over (R2.between ((dm_up ho hac hxg hgy).mulf hsc)))).congr fun i j _ hj => by
      simp only [decide_eq_true_eq, Inp.wq]
      split
      · rw [show (o + j) / 64 = o / 64 by omega, show o / 64 / 8 = g by omega]
      · rw [show (o + j) / 64 = o / 64 + 1 by omega, show (o / 64 + 1) / 8 = g by omega]

end Pair

/-! ## The decays -/

section Block

variable {k : Body.Blk Ideal} {I : Inp} {b : ℕ} (G : Good k I b)
include G

/-- The heads' lanes. -/
theorem spread_eq : R2 (Body.spread k) E := fun i j => by pointwise [Body.spread]; exact G.spr i j
/-- A product that picks the head of a lane. -/
theorem pick (v : FVec Ideal S128x128 .bf16) (i : Fin 128) (j : Fin 1024) :
    matmul dot_S128x128_S128x1024_S128x1024_1_0_0_1_n_n none v (Body.spread k) (Body.zero S128x1024) (ix2 i j)
      = v (ix2 i ⟨j.val / 64, by omega⟩) := by
  pointwise [Body.zero]
  rw [Finset.sum_eq_single (⟨j.val / 64, by omega⟩ : Fin 128)]
  · rw [(spread_eq G).eq]; simp [E]
  · intro h _ hne
    rw [(spread_eq G).eq, E, if_neg (fun e => hne (Fin.ext e))]
    exact mul_zero _
  · intro h; exact absurd (Finset.mem_univ _) h
/-- The step sizes before the softplus. -/
theorem raw_eq : R2 (Body.raw k) (fun i j => I.raw (b + i) (j / 64)) := fun i j => by
  have hj : j.val / 64 < 16 := by omega
  have h0 : ∀ x : FVec Ideal S128x128 .f32, Body.rest x (ix2 i ⟨j.val / 64, by omega⟩) = x (ix2 i ⟨j.val / 64, by omega⟩) - x (ix2 i ⟨j.val / 64, by omega⟩) := fun _ => rfl
  have hd := G.dtt i ⟨j.val / 64, by omega⟩ hj
  have hs : Body.splitL dot_S128x128_S128x1024_S128x1024_1_0_0_1_n_n k.dtt (Body.spread k) (ix2 i j)
      = ((I.tile (b + i) (j / 64) : ℝ) : EReal) := by
    show (matmul dot_S128x128_S128x1024_S128x1024_1_0_0_1_n_n none (Body.hi k.dtt) (Body.spread k) (Body.zero S128x1024) (ix2 i j)
      + matmul dot_S128x128_S128x1024_S128x1024_1_0_0_1_n_n none (Body.hi (Body.rest k.dtt)) (Body.spread k) (Body.zero S128x1024) (ix2 i j))
      + matmul dot_S128x128_S128x1024_S128x1024_1_0_0_1_n_n none (Body.hi (Body.rest (Body.rest k.dtt))) (Body.spread k) (Body.zero S128x1024) (ix2 i j) = _
    rw [pick G, pick G, pick G]
    show ((k.dtt (ix2 i ⟨j.val / 64, by omega⟩) : EReal) + Body.rest (F := Ideal) k.dtt (ix2 i ⟨j.val / 64, by omega⟩))
      + Body.rest (F := Ideal) (Body.rest (F := Ideal) k.dtt) (ix2 i ⟨j.val / 64, by omega⟩) = _
    rw [h0, h0, h0, hd, sub_self_coe, ← EReal.coe_zero, ← EReal.coe_sub, ← EReal.coe_add, ← EReal.coe_add]
    simp
  show Body.splitL dot_S128x128_S128x1024_S128x1024_1_0_0_1_n_n k.dtt (Body.spread k) (ix2 i j) + _ = _
  rw [hs]
  have hb : broadcastTo S128x1024 (shapeCast S1x1024 k.dtb shapeCasts_S1x1024_S1x1024) broadcasts_S1x1024_S128x1024 (ix2 i j)
      = ((I.bias (j / 64) : ℝ) : EReal) := (R2.rows (R2.row G.dtb)) i j
  rw [hb, ← EReal.coe_add]; rfl
/-- The step sizes. -/
theorem dt_eq : R2 (Body.dt k) (fun i j => I.dt (b + i) (j / 64)) :=
  (((raw_eq G).maximumf R2_zeroB).addf (R2.log1p (R2.exp (R2.subf R2_zeroB (R2.absf (raw_eq G))))
    (fun i j => by positivity))).congr fun i j _ _ => by simp only [zero_sub]; rfl
/-- The decay rates. -/
theorem ax_eq : R2 (Body.ax k) (fun _ j => I.a (j / 64)) :=
  (R2.subf R2_zeroB (R2.exp (R2.row G.al))).congr fun i j _ _ => zero_sub _
/-- The steps' log decays. -/
theorem adt_eq : R2 (Body.adt k) (fun i j => I.u (b + i) (j / 64)) := (R2.rows (ax_eq G)).mulf (dt_eq G)
/-- The log decays from the block's first step on. -/
theorem acs_eq : R2 (Body.acs k) (fun i j => I.cum (b + i + 1) (j / 64) - I.cum b (j / 64)) :=
  (R2.tri M2_ge (adt_eq G)).congr fun i j hi _ => by
    rw [Nat.add_assoc b, Inp.cum_add, add_sub_cancel_left]
    simp only [decide_eq_true_eq]
    rw [← Finset.sum_filter]
    refine Finset.sum_congr ?_ fun _ _ => rfl
    ext x; simp only [Finset.mem_filter, Finset.mem_range]; omega
/-- The block's log decay. -/
theorem atot_eq : R2 (Body.atot k) (fun _ j => I.cum (b + 128) (j / 64) - I.cum b (j / 64)) :=
  (R2.colsum (adt_eq G)).congr fun i j _ _ => by rw [Inp.cum_add, add_sub_cancel_left]
/-- The decay from the block's first step on. -/
theorem ea_eq : R2 (Body.ea k) (fun i j => Real.exp (I.cum (b + i + 1) (j / 64) - I.cum b (j / 64))) := R2.exp (acs_eq G)
/-- The decay up to the block's last step. -/
theorem dsx_eq : R2 (Body.dsx k) (fun i j => Real.exp (I.cum (b + 128) (j / 64) - I.cum (b + i + 1) (j / 64))) :=
  (R2.exp ((R2.rows (atot_eq G)).subf (acs_eq G))).congr fun i j _ _ => by congr 1; ring
/-- The block's decay. -/
theorem eatot_eq : R2 (Body.eatot k) (fun _ j => Real.exp (I.cum (b + 128) (j / 64) - I.cum b (j / 64))) := R2.exp (atot_eq G)
/-- The scaled values. -/
theorem xg_eq : R2 (Body.xg k) (fun i j => I.xg (b + i) j) := G.xs.mulf (dt_eq G)
/-- The state that enters. -/
theorem sprev_eq : R2 (Body.sprev k) (fun n j => I.S b n j) := fun n j => by pointwise [Body.sprev]; exact G.sp n j
/-- The cotangents with the decay to the block's start. -/
theorem gea_eq : R2 (Body.gea k) (fun i j => I.dy (b + i) j * Real.exp (I.cum (b + i + 1) (j / 64) - I.cum b (j / 64))) :=
  G.gy.mulf (ea_eq G)
/-- The values with the decay to the block's end. -/
theorem xds_eq : R2 (Body.xds k) (fun i j => I.xg (b + i) j * Real.exp (I.cum (b + 128) (j / 64) - I.cum (b + i + 1) (j / 64))) :=
  (xg_eq G).mulf (dsx_eq G)

/-! ## A group of eight heads -/

section Group

variable {g o o0 o1 o2 o3 : ℕ} {bb cc : FVec Ideal S128x128 .f32} {ho : S128x1024.Slices ![0, o] S128x512}
  {ho1 : S1x1024.Slices ![0, o] S1x512}
  {h0 : S128x1024.Slices ![0, o0] S128x128} {h1 : S128x1024.Slices ![0, o1] S128x128}
  {h2 : S128x1024.Slices ![0, o2] S128x128} {h3 : S128x1024.Slices ![0, o3] S128x128}
  (hg : g < 2) (eo : o = 512 * g) (e0 : o0 = 512 * g) (e1 : o1 = 512 * g + 128) (e2 : o2 = 512 * g + 256)
  (e3 : o3 = 512 * g + 384) (hbb : R2 bb (fun i n => I.B (b + i) g n)) (hcc : R2 cc (fun i n => I.C (b + i) g n))

omit G in
include hbb hcc in
/-- The scores. -/
theorem scores_eq : R2 (Body.scores bb cc) (fun l s => I.sc (b + l) (b + s) g) := R2.nt hcc.hi hbb.hi
include eo hbb in
/-- The gradient of the scaled values that comes through the state. -/
theorem dxgState_eq : R2 (Body.dxgState k o bb ho) (fun r j => (∑ n ∈ range 128, I.B (b + r) g n * I.D (b + 128) n (o + j))
    * Real.exp (I.cum (b + 128) ((o + j) / 64) - I.cum (b + r + 1) ((o + j) / 64))) :=
  (R2.mm512 hbb.hi (R2.sg G.ds o ho).hi).mulf (R2.sg (dsx_eq G) o ho)
include eo hcc in
/-- The outputs that come through the state. -/
theorem yoff_eq : R2 (Body.yoff k o cc ho) (fun r j => (∑ n ∈ range 128, I.C (b + r) g n * I.S b n (o + j))
    * Real.exp (I.cum (b + r + 1) ((o + j) / 64) - I.cum b ((o + j) / 64))) :=
  (R2.mm512 hcc.hi (R2.sg (sprev_eq G) o ho).hi).mulf (R2.sg (ea_eq G) o ho)
include e0 e1 e2 e3 in
/-- The gradient of the scores. -/
theorem dscores_eq : R2 (Body.dscores k o0 o1 o2 o3 h0 h1 h2 h3) (fun l s => I.dS (b + l) (b + s) g) := by
  have P : ∀ (o : ℕ) (ho : o % 128 = 0) (h : S128x1024.Slices ![0, o] S128x128) (d : FVec Ideal S128x128 .f32)
      (f : ℕ → ℕ → ℝ), R2 d f → R2 (Body.pairDs d (Body.sl o h (Body.acs k)) (Body.sl o h (Body.xg k)) (Body.sl o h k.gy))
        (fun l s => f l s + I.q (b + l) (b + s) (o / 64) * I.W (b + l) (b + s) (o / 64)
          + I.q (b + l) (b + s) (o / 64 + 1) * I.W (b + l) (b + s) (o / 64 + 1)) := fun o ho h d f hd =>
    (hd.addf (dm_lo ho ((acs_eq G).sl o h) ((xg_eq G).sl o h) (G.gy.sl o h))).addf
      (dm_up ho ((acs_eq G).sl o h) ((xg_eq G).sl o h) (G.gy.sl o h))
  refine (P o3 (by omega) h3 _ _ (P o2 (by omega) h2 _ _ (P o1 (by omega) h1 _ _ (P o0 (by omega) h0 _ _
    R2_zeroB)))).congr fun l s _ _ => ?_
  rw [Inp.dS, show o0 / 64 = 8 * g by omega, show o1 / 64 = 8 * g + 2 by omega, show o2 / 64 = 8 * g + 4 by omega,
    show o3 / 64 = 8 * g + 6 by omega]
  simp only [Finset.sum_range_succ, Finset.sum_range_zero, add_zero]
include hg eo e0 e1 e2 e3 hbb in
/-- The gradient of `C`. -/
theorem dC_eq : R2 (Body.dC k o bb ho o0 o1 o2 o3 h0 h1 h2 h3) (fun i n => I.dC (b + i) g n) :=
  ((R2.nt512 (R2.sg (gea_eq G) o ho) (R2.sg (sprev_eq G) o ho)).addf
    (R2.nn (dscores_eq G e0 e1 e2 e3).hi hbb.hi)).congr fun i n hi _ => by
      rw [← Inp.dC_block I b i g n G.hb hi hg, eo]
include hg eo e0 e1 e2 e3 hcc in
/-- The gradient of `B`. -/
theorem dB_eq : R2 (Body.dB k o cc ho o0 o1 o2 o3 h0 h1 h2 h3) (fun i n => I.dB (b + i) g n) :=
  ((R2.nt512 (R2.sg (xds_eq G) o ho) (R2.sg G.ds o ho)).addf
    (R2.tn (dscores_eq G e0 e1 e2 e3).hi hcc.hi)).congr fun i n hi _ => by
      rw [← Inp.dB_block I b i g n G.hb hi hg, eo]
include eo e0 e1 e2 e3 hbb hcc in
/-- The gradient of the scaled values. -/
theorem dxgG_eq : R2 (Body.dxgG k o bb cc ho o0 o1 o2 o3 h0 h1 h2 h3) (fun r j => I.dxg (b + r) (o + j)) := by
  have P : ∀ (o : ℕ) (ho : o % 128 = 0) (h : S128x1024.Slices ![0, o] S128x128),
      R2 (Body.pairAcc (Body.scores bb cc) (Body.sl o h (Body.acs k)) (Body.sl o h k.gy)) (fun r j => ∑ i ∈ range 128,
        I.sc (b + i) (b + r) g * I.W (b + i) (b + r) ((o + j) / 64) * I.dy (b + i) (o + j)) := fun o ho h =>
    pairAcc_eq ho ((acs_eq G).sl o h) (scores_eq hbb hcc) (G.gy.sl o h)
  have hs := dxgState_eq G eo hbb (ho := ho)
  intro r j
  have hr := r.2
  have hj := j.2
  show _ = ((I.dxg (b + r) (o + j) : ℝ) : EReal)
  rw [← Inp.dxg_block I b r (o + j) G.hb hr, EReal.coe_add, show (o + j) / 512 = g by omega, ← hs.eq r j]
  show _ + Body.dxgState k o bb ho (ix2 r j) = _
  congr 1
  pointwise
  split
  · rw [(P o0 (by omega) h0).eq]; simp only [e0, eo]
  split
  · rw [(P o1 (by omega) h1).eq]; simp only; rw [show o1 + (j.val - 128) = o + j by omega]
  split
  · rw [(P o2 (by omega) h2).eq]; simp only; rw [show o2 + (j.val - 128 - 128) = o + j by omega]
  · rw [(P o3 (by omega) h3).eq]; simp only; rw [show o3 + (j.val - 128 - 128 - 128) = o + j by omega]
include eo hcc in
/-- The gradient of the state that enters. -/
theorem dstate_eq : R2 (Body.dstate k o cc ho ho1) (fun n j => I.D b n (o + j)) := by
  have h1 : R2 (broadcastTo S128x512 (extractStridedSlice S1x512 ![0, o] (Body.eatot k) ho1) broadcasts_S1x512_S128x512)
      (fun _ j => Real.exp (I.cum (b + 128) ((o + j) / 64) - I.cum b ((o + j) / 64))) := fun n j => by
    pointwise; rw [(eatot_eq G).eq]
  have h2 := ((R2.sg G.ds o ho).mulf h1).addf (R2.tm512 hcc.hi (R2.sg (gea_eq G) o ho).hi)
  intro n j
  have hj := j.2
  show _ = ((I.D b n (o + j) : ℝ) : EReal)
  have h3 : Body.dstate k o cc ho ho1 (ix2 n j) = addf (mulf (Body.sg o ho k.ds)
      (broadcastTo S128x512 (extractStridedSlice S1x512 ![0, o] (Body.eatot k) ho1) broadcasts_S1x512_S128x512))
    (matmul dot_S128x128_S128x512_S128x512_0_0_1_1_n_n none (Body.hi cc) (Body.hi (Body.sg o ho (Body.gea k))) (Body.zero S128x512)) (ix2 n j) := by
    unfold Body.dstate; rw [shapeCast_self]
  rw [h3, h2.eq, ← Inp.D_block I b n (o + j) G.hb, show (o + j.val) / 512 = g by omega]

end Group

/-! ## The two groups together -/

/-- The gradient of the scaled values. -/
theorem dxg_eq : R2 (Body.dxg k) (fun r j => I.dxg (b + r) j) :=
  R2.two ((dxgG_eq G (g := 0) rfl rfl rfl rfl rfl G.b0 G.c0).congr fun r j _ _ => by rw [Nat.zero_add])
    (dxgG_eq G (g := 1) rfl rfl rfl rfl rfl G.b1 G.c1)
/-- The gradient of `B`, first group. -/
theorem dB0_eq : R2 (Body.dB0 k) (fun i n => I.dB (b + i) 0 n) := dB_eq G (g := 0) (by omega) rfl rfl rfl rfl rfl G.c0
/-- The gradient of `B`, second group. -/
theorem dB1_eq : R2 (Body.dB1 k) (fun i n => I.dB (b + i) 1 n) := dB_eq G (g := 1) (by omega) rfl rfl rfl rfl rfl G.c1
/-- The gradient of `C`, first group. -/
theorem dC0_eq : R2 (Body.dC0 k) (fun i n => I.dC (b + i) 0 n) := dC_eq G (g := 0) (by omega) rfl rfl rfl rfl rfl G.b0
/-- The gradient of `C`, second group. -/
theorem dC1_eq : R2 (Body.dC1 k) (fun i n => I.dC (b + i) 1 n) := dC_eq G (g := 1) (by omega) rfl rfl rfl rfl rfl G.b1
/-- The gradient of the state that enters, first group. -/
theorem dstate0_eq : R2 (Body.dstate0 k) (fun n j => I.D b n j) :=
  (dstate_eq G (g := 0) rfl G.c0).congr fun n j _ _ => by rw [Nat.zero_add]
/-- The gradient of the state that enters, second group. -/
theorem dstate1_eq : R2 (Body.dstate1 k) (fun n j => I.D b n (512 + j)) := dstate_eq G (g := 1) rfl G.c1
/-- The gradient of the values. -/
theorem dxDt_eq : R2 (Body.dxDt k) (fun i j => I.dxg (b + i) j * I.dt (b + i) (j / 64)) := (dxg_eq G).mulf (dt_eq G)

/-- The weights of the pairs that begin before the block and end in it. -/
theorem throughOut_eq : R2 (Body.throughOut k) (fun i j => ∑ l ∈ Ico i 128, I.dy (b + l) j
    * ((∑ n ∈ range 128, I.C (b + l) (j / 512) n * I.S b n j)
      * Real.exp (I.cum (b + l + 1) (j / 64) - I.cum b (j / 64)))) := by
  have h : R2 (Body.two (Body.yoff k 0 k.c0 slices_S128x1024_o0_0_S128x512) (Body.yoff k 512 k.c1 slices_S128x1024_o0_512_S128x512))
      (fun l j => (∑ n ∈ range 128, I.C (b + l) (j / 512) n * I.S b n j)
        * Real.exp (I.cum (b + l + 1) (j / 64) - I.cum b (j / 64))) :=
    R2.two ((yoff_eq G (g := 0) rfl G.c0).congr fun r j _ hj => by rw [Nat.zero_add, show j / 512 = 0 by omega])
      ((yoff_eq G (g := 1) rfl G.c1).congr fun r j _ hj => by rw [show (512 + j) / 512 = 1 by omega])
  refine (R2.tri M2_le (G.gy.mulf h)).congr fun i j _ _ => ?_
  simp only [decide_eq_true_eq]
  rw [← Finset.sum_filter]
  refine Finset.sum_congr ?_ fun _ _ => rfl
  ext x; simp only [Finset.mem_filter, Finset.mem_range, Finset.mem_Ico]; omega
/-- The weights of the pairs that begin in the block and end after it. -/
theorem throughIn_eq : R2 (Body.throughIn k) (fun i j => ∑ s ∈ range i, I.xg (b + s) j
    * ((∑ n ∈ range 128, I.B (b + s) (j / 512) n * I.D (b + 128) n j)
      * Real.exp (I.cum (b + 128) (j / 64) - I.cum (b + s + 1) (j / 64)))) := by
  have h : R2 (Body.two (Body.dxgState k 0 k.b0 slices_S128x1024_o0_0_S128x512) (Body.dxgState k 512 k.b1 slices_S128x1024_o0_512_S128x512))
      (fun s j => (∑ n ∈ range 128, I.B (b + s) (j / 512) n * I.D (b + 128) n j)
        * Real.exp (I.cum (b + 128) (j / 64) - I.cum (b + s + 1) (j / 64))) :=
    R2.two ((dxgState_eq G (g := 0) rfl G.b0).congr fun r j _ hj => by rw [Nat.zero_add, show j / 512 = 0 by omega])
      ((dxgState_eq G (g := 1) rfl G.b1).congr fun r j _ hj => by rw [show (512 + j) / 512 = 1 by omega])
  refine (R2.tri M2_lt ((xg_eq G).mulf h)).congr fun i j hi _ => ?_
  simp only [decide_eq_true_eq]
  rw [← Finset.sum_filter]
  refine Finset.sum_congr ?_ fun _ _ => rfl
  ext x; simp only [Finset.mem_filter, Finset.mem_range]; omega
/-- The weights of the pairs that begin before the block and end after it. -/
theorem carried_eq : R2 (Body.carried k) (fun _ j => (∑ n ∈ range 128, I.D (b + 128) n j * I.S b n j)
    * Real.exp (I.cum (b + 128) (j / 64) - I.cum b (j / 64))) := by
  have h := (R2.colsum (G.ds.mulf (sprev_eq G))).mulf (eatot_eq G)
  intro i j
  pointwise [Body.carried]
  exact h.eq 0 j
/-- The weights of the pairs inside the block. -/
theorem dadtOwn_eq : R2 (Body.dadtOwn k) (fun i j => ∑ s ∈ range i, ∑ l ∈ Ico i 128, I.wq (b + l) (b + s) (j / 64)) := by
  have P0 : ∀ (o : ℕ) (ho : o % 128 = 0) (_ : o < 512) (h : S128x1024.Slices ![0, o] S128x128),
      R2 (Body.dadtPart k k.b0 k.c0 o h)
        (fun i j => ∑ s ∈ range i, ∑ l ∈ Ico i 128, I.wq (b + l) (b + s) ((o + j) / 64)) := fun o ho hlt h =>
    pairDadt_eq (g := 0) ho (by omega) ((acs_eq G).sl o h) (scores_eq G.b0 G.c0) ((xg_eq G).sl o h) (G.gy.sl o h)
  have P1 : ∀ (o : ℕ) (ho : o % 128 = 0) (_ : o / 512 = 1) (h : S128x1024.Slices ![0, o] S128x128),
      R2 (Body.dadtPart k k.b1 k.c1 o h)
        (fun i j => ∑ s ∈ range i, ∑ l ∈ Ico i 128, I.wq (b + l) (b + s) ((o + j) / 64)) := fun o ho hlt h =>
    pairDadt_eq (g := 1) ho (by omega) ((acs_eq G).sl o h) (scores_eq G.b1 G.c1) ((xg_eq G).sl o h) (G.gy.sl o h)
  intro i j
  have hj := j.2
  pointwise [Body.dadtOwn]
  split
  · rw [(P0 0 rfl (by omega) _).eq]; simp only [Nat.zero_add]
  split
  · rw [(P0 128 rfl (by omega) _).eq]; simp only; rw [show 128 + (j.val - 128) = j by omega]
  split
  · rw [(P0 256 rfl (by omega) _).eq]; simp only; rw [show 256 + (j.val - 128 - 128) = j by omega]
  split
  · rw [(P0 384 rfl (by omega) _).eq]; simp only; rw [show 384 + (j.val - 128 - 128 - 128) = j by omega]
  split
  · rw [(P1 512 rfl rfl _).eq]; simp only; rw [show 512 + (j.val - 128 - 128 - 128 - 128) = j by omega]
  split
  · rw [(P1 640 rfl rfl _).eq]; simp only; rw [show 640 + (j.val - 128 - 128 - 128 - 128 - 128) = j by omega]
  split
  · rw [(P1 768 rfl rfl _).eq]; simp only; rw [show 768 + (j.val - 128 - 128 - 128 - 128 - 128 - 128) = j by omega]
  · rw [(P1 896 rfl rfl _).eq]; simp only; rw [show 896 + (j.val - 128 - 128 - 128 - 128 - 128 - 128 - 128) = j by omega]
/-- The gradient of the steps' log decays. -/
theorem dadt_eq : R2 (Body.dadt k) (fun i j => I.du (b + i) (j / 64)) := by
  have hS := R2.headSums (spread_eq G) ((throughOut_eq G).addf (throughIn_eq G))
  have h8 := R2.headSums8 (spread_eq G) (carried_eq G)
  have hM : R2 (shapeCast S1x1024 (multiReduction .maximumf [0] S1024 (Body.headSums8 (Body.spread k) (Body.carried k)) 0xFF800000#32
      reduces_S8x1024_S1024 (.inl rfl) rfl) shapeCasts_S1024_S1x1024) (fun _ j => ∑ s ∈ range b, ∑ l ∈ Ico (b + 128) I.L, I.wq l s (j / 64)) := fun i j => by
    pointwise
    rw [ofBits_bot]
    refine fold_max _ _ (fun r => Or.inl ?_) 0 ?_ <;> rw [h8.eq] <;> exact congrArg _ (Inp.carried I b (j / 64))
  refine (((dadtOwn_eq G).addf hS).addf (R2.rows hM)).congr fun i j hi _ => ?_
  show _ = I.du (b + i) (j / 64)
  rw [← Inp.du_block I b i (j / 64) G.hb hi]
  congr 2
  rw [Finset.sum_add_distrib, Finset.sum_comm, Finset.sum_comm (s := range 64)]
  congr 1
  · exact Finset.sum_congr rfl fun l _ => Inp.through_out I b l (j / 64)
  · refine Finset.sum_congr rfl fun s hs => ?_
    have := Finset.mem_range.mp hs
    exact Inp.through_in I (b + 128) (b + s) (j / 64) (by omega)
/-- The gradient of the step sizes before the softplus. -/
theorem draw_eq : R2 (Body.draw k) (fun i j => I.draw (b + i) (j / 64)) :=
  ((((R2.rows (ax_eq G)).mulf (dadt_eq G)).addf (R2.headSums (spread_eq G) ((dxg_eq G).mulf G.xs))).mulf
    (R2.logistic (raw_eq G))).congr fun i j _ _ => rfl
/-- The gradient of the step sizes' columns. -/
theorem ddtTile_eq : R2 (Body.ddtTile k) (fun i h => I.ddtTile (b + i) h) := by
  have h64 : R2 (broadcast S128x128 (Scalar.ofBits (F := Ideal) .f32 0x3C800000#32)) (fun _ _ => 1 / 64) := fun i j => by
    show Ideal.ofBits .f32 0x3C800000#32 = _
    simp [Ideal.ofBits, Ideal.ieee]
    rw [← EReal.coe_mul]; norm_num
  refine ((R2.toHeads (spread_eq G) (draw_eq G)).mulf h64).congr fun i h _ _ => ?_
  show _ = I.ddtTile (b + i) h
  unfold Inp.ddtTile
  split
  · rename_i hh
    rw [sum_E (fun j => I.draw (b + i) (j / 64)) h hh, Finset.sum_congr rfl (g := fun _ => I.draw (b + i) h)
      fun p hp => by have := Finset.mem_range.mp hp; rw [show (64 * h + p) / 64 = h by omega]]
    simp
    ring
  · rw [sum_E_ge _ h (by omega), zero_mul]

/-! ## The sums over all steps -/

variable {r : FVec Ideal S1x1024 .f32} {f : ℕ → ℝ} (hr : R2 r (fun _ j => f j))
include hr
/-- The gradient of `a_log`, a block's steps added. -/
theorem st0_eq : R2 (Body.st0 k r) (fun _ j => f j + (∑ i ∈ range 128, I.dt (b + i) (j / 64) * I.du (b + i) (j / 64)) * I.a (j / 64)) :=
  (R2.row hr).addf ((R2.colsum ((dt_eq G).mulf (dadt_eq G))).mulf (ax_eq G))
/-- The gradient of `dt_bias`, a block's steps added. -/
theorem st1_eq : R2 (Body.st1 k r) (fun _ j => f j + ∑ i ∈ range 128, I.draw (b + i) (j / 64)) :=
  (R2.row hr).addf (R2.colsum (draw_eq G))
/-- The gradient of the skip weight, a block's steps added. -/
theorem st2_eq : R2 (Body.st2 k r) (fun _ j => f j + ∑ i ∈ range 128, I.dy (b + i) j * I.xc (b + i) j) :=
  (R2.row hr).addf (R2.colsum (G.gy.mulf G.xs))
omit hr
/-- The sums over each head's lanes. -/
theorem hs_eq {s : FVec Ideal S8x1024 .f32} {f : ℕ → ℕ → ℝ} (hs : R2 s f) :
    R2 (Body.hs k s) (fun i j => ∑ p ∈ range 64, f i (64 * (j / 64) + p)) :=
  R2.headSums8 (spread_eq G) (v := shapeCast S8x1024 s shapeCasts_S8x1024_S8x1024) (by rw [shapeCast_self]; exact hs)

end Block

end Ssd
-- ==== Proof.Cases.lean ====
module

public import proofs.«01_k».proof.Proof.Lists
public import proofs.«01_k».proof.Proof.Chunk
public import Idealize.ShloMosaic.Lib.WritesUnit

/-!
# What each case of the body leaves

With the inputs' blocks real numbers, the carried gradient and the sums of the later steps given, each case leaves the
block's gradients, the gradient carried on and the sums with the block's steps added.
-/

@[expose] public section

set_option maxRecDepth 16384

noncomputable section

namespace Ssd

open Idealize.ShloMosaic Idealize.SL.Sem Cert.KernelIdeal Cert.KernelIdeal.Gen Finset

namespace Inp

variable (I : Inp)

/-- The sums over the steps from `e` on: a row each for `a_log`, `dt_bias` and the skip weight. -/
def stFrom (e i j : ℕ) : ℝ :=
  if i = 0 then (∑ t ∈ Ico e I.L, I.dt t (j / 64) * I.du t (j / 64)) * I.a (j / 64)
  else if i = 1 then ∑ t ∈ Ico e I.L, I.draw t (j / 64)
  else if i = 2 then ∑ t ∈ Ico e I.L, I.dy t j * I.xc t j
  else 0

/-- No steps from the end on. -/
theorem stFrom_end (i j : ℕ) : I.stFrom I.L i j = 0 := by
  simp [stFrom]

/-- All steps from the start on. -/
theorem stFrom_zero (i j : ℕ) : I.stFrom 0 i j = I.st i j := by
  simp only [stFrom, st, Finset.range_eq_Ico]

/-- The steps from `b` on are a block and the steps behind it. -/
theorem sum_from {b : ℕ} (hb : b + 128 ≤ I.L) (f : ℕ → ℝ) :
    ∑ t ∈ Ico b I.L, f t = ∑ t ∈ Ico (b + 128) I.L, f t + ∑ i ∈ range 128, f (b + i) := by
  rw [← Finset.sum_Ico_consecutive f (Nat.le_add_right b 128) hb, Finset.sum_Ico_eq_sum_range f b (b + 128),
    Nat.add_sub_cancel_left, add_comm]

/-- No step is left behind the end. -/
theorem D_end (n j : ℕ) : I.D I.L n j = 0 := by
  simp [D]

end Inp

section Views

variable {sig : RefSig} {κ : Kind} {sp : Space} {A B : ℕ} {e : EltTy} {Val : EltTy → Type}

/-- A load of a window of a whole rank-2 buffer reads the shifted entry. -/
theorem readAt_ix2 {m : Memref sig κ sp ⟨2, ![A, B]⟩ e} (h : m.IsWhole) (X : (⟨2, ![A, B]⟩ : Shape).Idx → Val e)
    {o p a b : ℕ} (inb : ∀ x, (![o, p] : Fin 2 → ℕ) x + (![a, b] : Fin 2 → ℕ) x ≤ (![A, B] : Fin 2 → ℕ) x) (i : Fin a) (j : Fin b) :
    View.readAt Val m.view (Rect.unit (s := ⟨2, ![A, B]⟩) ![o, p] ![a, b] inb).toLoadRect (h.unread X) (ix2 i j)
      = X (ix2 ⟨o + i.val, (Nat.add_lt_add_left i.isLt o).trans_le (inb 0)⟩ ⟨p + j.val, (Nat.add_lt_add_left j.isLt p).trans_le (inb 1)⟩) := by
  refine (Memref.IsWhole.readAt_unread h X _ _).trans (congrArg X ?_)
  funext x
  refine Fin.ext ?_
  match x with
  | ⟨0, _⟩ => show o + 1 * i.val = o + i.val; rw [Nat.one_mul]
  | ⟨1, _⟩ => show p + 1 * j.val = p + j.val; rw [Nat.one_mul]

variable (v : View sig κ sp ⟨2, ![A, B]⟩ e) (f : v.ty.Contents Val)
  {o p a b : ℕ} (inb : ∀ x, (![o, p] : Fin 2 → ℕ) x + (![a, b] : Fin 2 → ℕ) x ≤ (![A, B] : Fin 2 → ℕ) x)
  (w : (Rect.unit (s := ⟨2, ![A, B]⟩) ![o, p] ![a, b] inb).shape.Idx → Val e) (L : List (View.Piece Val ⟨2, ![A, B]⟩ e))
  (i : Fin A) (j : Fin B)

/-- Inside the newest piece its payload is read. -/
theorem read_in (i' : Fin a) (j' : Fin b) (hi : i.val = o + i'.val) (hj : j.val = p + j'.val) :
    v.read Val (v.writes Val f (⟨Rect.unit (s := ⟨2, ![A, B]⟩) ![o, p] ![a, b] inb, w⟩ :: L)) (ix2 i j) = w (ix2 i' j') :=
  View.read_writes_cons_unit_of_mem v f inb w L (ix2 i j) (ix2 i' j') rfl fun x => match x with
    | ⟨0, _⟩ => hi
    | ⟨1, _⟩ => hj

/-- Beside the newest piece the older ones are read. -/
theorem read_out (h : (i.val < o ∨ o + a ≤ i.val) ∨ (j.val < p ∨ p + b ≤ j.val)) :
    v.read Val (v.writes Val f (⟨Rect.unit (s := ⟨2, ![A, B]⟩) ![o, p] ![a, b] inb, w⟩ :: L)) (ix2 i j)
      = v.read Val (v.writes Val f L) (ix2 i j) :=
  h.elim (fun h => View.read_writes_cons_unit_of_not_mem v f inb w L (ix2 i j) rfl 0 h)
    fun h => View.read_writes_cons_unit_of_not_mem v f inb w L (ix2 i j) rfl 1 h

end Views

/-- The inputs' blocks at the block of steps that begins at `b`. -/
structure Blocks (I : Inp) (b : ℕ) (x0 : Vec Ideal S128x1536 .f32) (x1 : Vec Ideal S128x128 .f32) (x2 : Vec Ideal S128x1024 .bf16)
    (x3 : Vec Ideal S1x1024 .f32) (x4 : Vec Ideal S1x1024 .f32) (x5 : Vec Ideal S128x1024 .f32) (x6 : Vec Ideal S1x128x1024 .f32) : Prop where
  hb : b + 128 ≤ I.L
  x0 : R2 x0 (fun i j => I.xc (b + i) j)
  x1 : ∀ i j : Fin 128, j.val < 16 → x1 (ix2 i j) = ((I.tile (b + i) j : ℝ) : EReal)
  x2 : R2 x2 E
  x3 : R2 x3 (fun _ j => I.bias (j / 64))
  x4 : R2 x4 (fun _ j => I.al (j / 64))
  x5 : R2 x5 (fun i j => I.dy (b + i) j)
  x6 : ∀ (n : Fin 128) (j : Fin 1024), x6 (ix3 0 n j) = ((I.S b n j : ℝ) : EReal)

section Pieces

variable {k : Body.Blk Ideal} {I : Inp} {b : ℕ} (G : Good k I b) {sg : RefSig} {κ : Kind} {sp : Space}
include G

/-- The first result's block, read back. -/
theorem read7 (v : View sg κ sp S128x1536 .f32) (f : v.ty.Contents (Elt Ideal)) :
    R2 (v.read (Elt Ideal) (v.writes (Elt Ideal) f (Body.pieces7 k))) (fun i j => I.dxc (b + i) j) := fun i j => by
  unfold Body.pieces7 Inp.dxc
  dsimp only
  by_cases h1 : j.val < 1024
  · exact (read_in v f _ _ _ i j i ⟨j.val, h1⟩ (Nat.zero_add _).symm (Nat.zero_add _).symm).trans
      ((dxDt_eq G i ⟨j.val, h1⟩).trans (by simp only [if_pos h1]))
  rw [if_neg h1]
  refine (read_out v f _ _ _ i j (.inr (.inr (by omega)))).trans ?_
  by_cases h2 : 1408 ≤ j.val
  · refine (read_in v f _ _ _ i j i ⟨j.val - 1408, by omega⟩ (Nat.zero_add _).symm (by simp only; omega)).trans
      ((dC1_eq G i ⟨j.val - 1408, by omega⟩).trans ?_)
    rw [if_neg (by omega), show (j.val - 1280) / 128 = 1 by omega, show (j.val - 1280) % 128 = j.val - 1408 by omega]
  refine (read_out v f _ _ _ i j (.inr (.inl (by omega)))).trans ?_
  by_cases h3 : 1152 ≤ j.val ∧ j.val < 1280
  · refine (read_in v f _ _ _ i j i ⟨j.val - 1152, by omega⟩ (Nat.zero_add _).symm (by simp only; omega)).trans
      ((dB1_eq G i ⟨j.val - 1152, by omega⟩).trans ?_)
    rw [if_pos (by omega), show (j.val - 1024) / 128 = 1 by omega, show (j.val - 1024) % 128 = j.val - 1152 by omega]
  refine (read_out v f _ _ _ i j (.inr (by omega))).trans ?_
  by_cases h4 : 1280 ≤ j.val
  · refine (read_in v f _ _ _ i j i ⟨j.val - 1280, by omega⟩ (Nat.zero_add _).symm (by simp only; omega)).trans
      ((dC0_eq G i ⟨j.val - 1280, by omega⟩).trans ?_)
    rw [if_neg (by omega), show (j.val - 1280) / 128 = 0 by omega, show (j.val - 1280) % 128 = j.val - 1280 by omega]
  refine (read_out v f _ _ _ i j (.inr (.inl (by omega)))).trans ?_
  refine (read_in v f _ _ _ i j i ⟨j.val - 1024, by omega⟩ (Nat.zero_add _).symm (by simp only; omega)).trans
    ((dB0_eq G i ⟨j.val - 1024, by omega⟩).trans ?_)
  rw [if_pos (by omega), show (j.val - 1024) / 128 = 0 by omega, show (j.val - 1024) % 128 = j.val - 1024 by omega]

/-- The second result's block, read back. -/
theorem read8 (v : View sg κ sp S128x128 .f32) (f : v.ty.Contents (Elt Ideal)) :
    R2 (v.read (Elt Ideal) (v.writes (Elt Ideal) f (Body.pieces8 k))) (fun i j => I.ddtTile (b + i) j) := fun i j =>
  (read_in v f _ _ _ i j i j (Nat.zero_add _).symm (Nat.zero_add _).symm).trans (ddtTile_eq G i j)

/-- The carried gradient, read back. -/
theorem readS (v : View sg κ sp S128x1024 .f32) (f : v.ty.Contents (Elt Ideal)) (L : List (View.Piece (Elt Ideal) S128x1024 .f32)) :
    R2 (v.read (Elt Ideal) (v.writes (Elt Ideal) f (Body.piecesS k L))) (fun n j => I.D b n j) := fun i j => by
  unfold Body.piecesS
  by_cases h1 : 512 ≤ j.val
  · refine (read_in v f _ _ _ i j i ⟨j.val - 512, by omega⟩ (Nat.zero_add _).symm (by simp only; omega)).trans
      ((dstate1_eq G i ⟨j.val - 512, by omega⟩).trans ?_)
    dsimp only
    rw [show 512 + (j.val - 512) = j.val by omega]
  · refine (read_out v f _ _ _ i j (.inr (.inl (by omega)))).trans ?_
    refine (read_in (b := 512) v f _ _ _ i j i ⟨j.val, by omega⟩ (Nat.zero_add _).symm (Nat.zero_add _).symm).trans ?_
    exact dstate0_eq G i ⟨j.val, by omega⟩

/-- The sums, read back. -/
theorem read9 (v : View sg κ sp S8x1024 .f32) (f : v.ty.Contents (Elt Ideal)) (L : List (View.Piece (Elt Ideal) S8x1024 .f32))
    (hL : ∀ (i : Fin 8) (j : Fin 1024), 3 ≤ i.val → v.read (Elt Ideal) (v.writes (Elt Ideal) f L) (ix2 i j) = ((0 : ℝ) : EReal))
    {r0 r1 r2 : FVec Ideal S1x1024 .f32} (h0 : R2 r0 (fun _ j => I.stFrom (b + 128) 0 j))
    (h1 : R2 r1 (fun _ j => I.stFrom (b + 128) 1 j)) (h2 : R2 r2 (fun _ j => I.stFrom (b + 128) 2 j)) :
    R2 (v.read (Elt Ideal) (v.writes (Elt Ideal) f (Body.row2 k r2 (Body.row1 k r1 (Body.row0 k r0 L))))) (I.stFrom b) := fun i j => by
  unfold Body.row2 Body.row1 Body.row0
  by_cases e2 : i.val = 2
  · refine (read_in v f _ _ _ i j 0 j e2 (Nat.zero_add _).symm).trans ((st2_eq G h2 0 j).trans ?_)
    rw [e2]; simp only [Inp.stFrom, if_pos, if_neg, reduceCtorEq, OfNat.ofNat_ne_zero, OfNat.ofNat_ne_one, if_false, if_true]
    rw [I.sum_from G.hb]
  refine (read_out v f _ _ _ i j (.inl (by omega))).trans ?_
  by_cases e1 : i.val = 1
  · refine (read_in v f _ _ _ i j 0 j e1 (Nat.zero_add _).symm).trans ((st1_eq G h1 0 j).trans ?_)
    rw [e1]; simp only [Inp.stFrom, one_ne_zero, if_false, if_true]
    rw [I.sum_from G.hb]
  refine (read_out v f _ _ _ i j (.inl (by omega))).trans ?_
  by_cases e0 : i.val = 0
  · refine (read_in v f _ _ _ i j 0 j e0 (Nat.zero_add _).symm).trans ((st0_eq G h0 0 j).trans ?_)
    rw [e0]; simp only [Inp.stFrom, if_true]
    rw [I.sum_from G.hb, add_mul]
  refine (read_out v f _ _ _ i j (.inl (by omega))).trans ((hL i j (by omega)).trans ?_)
  simp only [Inp.stFrom, e0, e1, e2, if_false]

/-- The sums reduced to heads, read back. -/
theorem read10 (v : View sg κ sp S8x1024 .f32) (f : v.ty.Contents (Elt Ideal)) {s : FVec Ideal S8x1024 .f32} (hs : R2 s (I.stFrom b)) :
    R2 (v.read (Elt Ideal) (v.writes (Elt Ideal) f (Body.pieces10 k s))) (fun i j => ∑ p ∈ range 64, I.stFrom b i (64 * (j / 64) + p)) := fun i j =>
  (read_in v f _ _ _ i j i j (Nat.zero_add _).symm (Nat.zero_add _).symm).trans (hs_eq G hs i j)

end Pieces

variable (c : Dev nD) (i : grid0.Coords)
  (arg1 : Memref Cert.KernelIdeal.sig .tc .vmem S128x1536 .f32) (harg1 : arg1.IsWhole) (arg2 : Memref Cert.KernelIdeal.sig .tc .vmem S128x128 .f32) (harg2 : arg2.IsWhole) (arg3 : Memref Cert.KernelIdeal.sig .tc .vmem S128x1024 .bf16) (harg3 : arg3.IsWhole) (arg4 : Memref Cert.KernelIdeal.sig .tc .vmem S1x1024 .f32) (harg4 : arg4.IsWhole) (arg5 : Memref Cert.KernelIdeal.sig .tc .vmem S1x1024 .f32) (harg5 : arg5.IsWhole) (arg6 : Memref Cert.KernelIdeal.sig .tc .vmem S128x1024 .f32) (harg6 : arg6.IsWhole) (arg7 : Memref Cert.KernelIdeal.sig .tc .vmem S1x128x1024 .f32) (harg7 : arg7.IsWhole) (arg8 : Memref Cert.KernelIdeal.sig .tc .vmem S128x1536 .f32) (harg8 : arg8.IsWhole) (arg9 : Memref Cert.KernelIdeal.sig .tc .vmem S128x128 .f32) (harg9 : arg9.IsWhole) (arg10 : Memref Cert.KernelIdeal.sig .tc .vmem S8x1024 .f32) (harg10 : arg10.IsWhole) (arg11 : Memref Cert.KernelIdeal.sig .tc .vmem S8x1024 .f32) (harg11 : arg11.IsWhole) (arg12 : Memref Cert.KernelIdeal.sig .tc .vmem S128x1024 .f32) (harg12 : arg12.IsWhole)
  {x0 : Vec Ideal S128x1536 .f32} {x1 : Vec Ideal S128x128 .f32} {x2 : Vec Ideal S128x1024 .bf16} {x3 : Vec Ideal S1x1024 .f32}
  {x4 : Vec Ideal S1x1024 .f32} {x5 : Vec Ideal S128x1024 .f32} {x6 : Vec Ideal S1x128x1024 .f32} {xo9 : Vec Ideal S8x1024 .f32}
  {xs0 ds : Vec Ideal S128x1024 .f32} {I : Inp} {b : ℕ} (H : Blocks I b x0 x1 x2 x3 x4 x5 x6)

section Reads

include H

set_option maxHeartbeats 2000000 in
/-- What a grid point reads of its blocks. -/
theorem good_reads (hd : R2 ds (fun n j => I.D (b + 128) n j)) : Good (Body.reads arg1 harg1 arg2 harg2 arg3 harg3 arg4 harg4 arg5 harg5 arg6 harg6 arg7 harg7 x0 x1 x2 x3 x4 x5 x6 ds) I b where
  hb := H.hb
  xs := fun i j => (readAt_ix2 harg1 x0 _ i j).trans ((H.x0 _ _).trans (by simp only [Nat.zero_add]))
  b0 := fun i j => (readAt_ix2 harg1 x0 _ i j).trans ((H.x0 _ _).trans (by simp only [Nat.zero_add, Inp.B]))
  c0 := fun i j => (readAt_ix2 harg1 x0 _ i j).trans ((H.x0 _ _).trans (by simp only [Nat.zero_add, Inp.C]))
  b1 := fun i j => (readAt_ix2 harg1 x0 _ i j).trans ((H.x0 _ _).trans (by simp only [Nat.zero_add, Inp.B]))
  c1 := fun i j => (readAt_ix2 harg1 x0 _ i j).trans ((H.x0 _ _).trans (by simp only [Nat.zero_add, Inp.C]))
  dtt := fun i j hj => (readAt_ix2 harg2 x1 _ i j).trans ((H.x1 _ _ (by simpa using hj)).trans (by simp only [Nat.zero_add]))
  spr := fun i j => (readAt_ix2 harg3 x2 _ i j).trans ((H.x2 _ _).trans (by simp only [Nat.zero_add]))
  dtb := fun i j => (readAt_ix2 harg4 x3 _ i j).trans ((H.x3 _ _).trans (by simp only [Nat.zero_add]))
  al := fun i j => (readAt_ix2 harg5 x4 _ i j).trans ((H.x4 _ _).trans (by simp only [Nat.zero_add]))
  gy := fun i j => (readAt_ix2 harg6 x5 _ i j).trans ((H.x5 _ _).trans (by simp only [Nat.zero_add]))
  sp := fun n j => ((Memref.IsWhole.readAt_unread harg7 x6 _ _).trans (congrArg x6 (Rect.emb_unit_full _ _))).trans (H.x6 n j)
  ds := hd

end Reads

/-- A row of the sums read. -/
theorem row_read {f : ℕ → ℕ → ℝ} (ho : R2 xo9 f) (p : ℕ) (inb : ∀ a, (![p, 0] : Fin 2 → ℕ) a + S1x1024.size a ≤ S8x1024.size a) :
    R2 (Body.rowOf arg10 harg10 xo9 p inb) (fun _ j => f p j) := fun i j =>
  (readAt_ix2 harg10 xo9 inb i j).trans ((ho _ _).trans (by
    have hi : i.val = 0 := by omega
    simp only [hi, Nat.zero_add, Nat.add_zero]))

/-- The sums held before any store are read as they are. -/
theorem held_read {f : ℕ → ℕ → ℝ} (ho : R2 xo9 f) :
    R2 (arg10.view.read (Elt Ideal) (arg10.view.writes (Elt Ideal) (harg10.unread xo9) [])) f := fun i j =>
  (congrFun (harg10.read_unread xo9) _).trans (ho i j)

include H

/-- Case B: the first result's block. -/
theorem outB_7 (hc0 : ¬cond0_0 i) (hc1 : ¬cond0_1 i) (hd : R2 xs0 (fun n j => I.D (b + 128) n j)) :
    R2 (out0_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0) (fun i j => I.dxc (b + i) j) := by
  unfold out0_B_7; rw [Body.listB_7]
  exact read7 (good_reads arg1 harg1 arg2 harg2 arg3 harg3 arg4 harg4 arg5 harg5 arg6 harg6 arg7 harg7 H hd) _ _

/-- Case B: the second result's block. -/
theorem outB_8 (hc0 : ¬cond0_0 i) (hc1 : ¬cond0_1 i) (hd : R2 xs0 (fun n j => I.D (b + 128) n j)) :
    R2 (out0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0) (fun i j => I.ddtTile (b + i) j) := by
  unfold out0_B_8; rw [Body.listB_8]
  exact read8 (good_reads arg1 harg1 arg2 harg2 arg3 harg3 arg4 harg4 arg5 harg5 arg6 harg6 arg7 harg7 H hd) _ _

/-- Case B: the sums. -/
theorem outB_9 (hc0 : ¬cond0_0 i) (hc1 : ¬cond0_1 i) (hd : R2 xs0 (fun n j => I.D (b + 128) n j)) (ho : R2 xo9 (I.stFrom (b + 128))) :
    R2 (out0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0) (I.stFrom b) := by
  unfold out0_B_9; rw [Body.listB_9]
  exact read9 (good_reads arg1 harg1 arg2 harg2 arg3 harg3 arg4 harg4 arg5 harg5 arg6 harg6 arg7 harg7 H hd) _ _ _
    (fun i j hi => (held_read arg10 harg10 ho i j).trans (by
      simp only [Inp.stFrom, show ¬i.val = 0 by omega, show ¬i.val = 1 by omega, show ¬i.val = 2 by omega, if_false]))
    (row_read arg10 harg10 ho 0 _) (row_read arg10 harg10 ho 1 _) (row_read arg10 harg10 ho 2 _)

/-- Case B: the gradient carried on. -/
theorem soutB (hc0 : ¬cond0_0 i) (hc1 : ¬cond0_1 i) (hd : R2 xs0 (fun n j => I.D (b + 128) n j)) :
    R2 (sout0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0) (fun n j => I.D b n j) := by
  unfold sout0_B_0; rw [Body.listB_S]
  exact readS (good_reads arg1 harg1 arg2 harg2 arg3 harg3 arg4 harg4 arg5 harg5 arg6 harg6 arg7 harg7 H hd) _ _ _

/-- Case C: the first result's block. -/
theorem outC_7 (hc0 : ¬cond0_0 i) (hc1 : cond0_1 i) (hd : R2 xs0 (fun n j => I.D (b + 128) n j)) :
    R2 (out0_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0) (fun i j => I.dxc (b + i) j) := by
  unfold out0_C_7; rw [Body.listC_7]
  exact read7 (good_reads arg1 harg1 arg2 harg2 arg3 harg3 arg4 harg4 arg5 harg5 arg6 harg6 arg7 harg7 H hd) _ _

/-- Case C: the second result's block. -/
theorem outC_8 (hc0 : ¬cond0_0 i) (hc1 : cond0_1 i) (hd : R2 xs0 (fun n j => I.D (b + 128) n j)) :
    R2 (out0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0) (fun i j => I.ddtTile (b + i) j) := by
  unfold out0_C_8; rw [Body.listC_8]
  exact read8 (good_reads arg1 harg1 arg2 harg2 arg3 harg3 arg4 harg4 arg5 harg5 arg6 harg6 arg7 harg7 H hd) _ _

/-- Case C: the sums. -/
theorem outC_9 (hc0 : ¬cond0_0 i) (hc1 : cond0_1 i) (hd : R2 xs0 (fun n j => I.D (b + 128) n j)) (ho : R2 xo9 (I.stFrom (b + 128))) :
    R2 (out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0) (I.stFrom b) := by
  unfold out0_C_9; rw [Body.listC_9]
  exact read9 (good_reads arg1 harg1 arg2 harg2 arg3 harg3 arg4 harg4 arg5 harg5 arg6 harg6 arg7 harg7 H hd) _ _ _
    (fun i j hi => (held_read arg10 harg10 ho i j).trans (by
      simp only [Inp.stFrom, show ¬i.val = 0 by omega, show ¬i.val = 1 by omega, show ¬i.val = 2 by omega, if_false]))
    (row_read arg10 harg10 ho 0 _) (row_read arg10 harg10 ho 1 _) (row_read arg10 harg10 ho 2 _)

/-- Case C: the gradient carried on. -/
theorem soutC (hc0 : ¬cond0_0 i) (hc1 : cond0_1 i) (hd : R2 xs0 (fun n j => I.D (b + 128) n j)) :
    R2 (sout0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0) (fun n j => I.D b n j) := by
  unfold sout0_C_0; rw [Body.listC_S]
  exact readS (good_reads arg1 harg1 arg2 harg2 arg3 harg3 arg4 harg4 arg5 harg5 arg6 harg6 arg7 harg7 H hd) _ _ _

/-- Case C: the sums reduced to heads. -/
theorem outC_10 (hc0 : ¬cond0_0 i) (hc1 : cond0_1 i) (hd : R2 xs0 (fun n j => I.D (b + 128) n j)) (ho : R2 xo9 (I.stFrom (b + 128))) :
    R2 (out0_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 xs0) (fun i j => ∑ p ∈ range 64, I.stFrom b i (64 * (j / 64) + p)) := by
  have h9 := outC_9 c i arg1 harg1 arg2 harg2 arg3 harg3 arg4 harg4 arg5 harg5 arg6 harg6 arg7 harg7 arg8 harg8 arg9 harg9 arg10 harg10 arg11 harg11 arg12 harg12 H hc0 hc1 hd ho
  unfold out0_C_9 at h9
  unfold out0_C_10; rw [Body.listC_10]
  refine read10 (good_reads arg1 harg1 arg2 harg2 arg3 harg3 arg4 harg4 arg5 harg5 arg6 harg6 arg7 harg7 H hd) _ _ fun i j => ?_
  refine Eq.trans ?_ (h9 i j)
  exact congrArg (arg10.view.read (Elt Ideal) _) (Rect.emb_unit_full (s := S8x1024) _ (ix2 i j))

omit H
/-- Zeros are the gradient carried from the end. -/
theorem zero_end (h : b + 128 ≤ I.L) (hb : I.L = b + 128) : R2 (k0_pay2 (F := Ideal)) (fun n j => I.D (b + 128) n j) := fun n j => by
  show Ideal.ofBits .f32 0#32 = _
  simp [Ideal.ofBits, Ideal.ieee, ← hb, I.D_end]

/-- The index of a row's entry in the sums. -/
theorem idx_row (p : Fin 8) (inb : ∀ a, (![p.val, 0] : Fin 2 → ℕ) a + S1x1024.size a ≤ S8x1024.size a) (i : Fin 1) (j : Fin 1024) :
    (Rect.unit (s := S8x1024) ![p.val, 0] S1x1024.size inb).toLoadRect.idx (ix2 i j) = ix2 p j := by
  funext x
  refine Fin.ext ?_
  match x with
  | ⟨0, _⟩ => show p.val + 1 * i.val = p.val; omega
  | ⟨1, _⟩ => show 0 + 1 * j.val = j.val; omega

/-- The cleared sums. -/
theorem clear_read {f : arg10.view.ty.Contents (Elt Ideal)} (i : Fin 8) (j : Fin 1024) :
    arg10.view.read (Elt Ideal) (arg10.view.writes (Elt Ideal) f kernelRun0_A.sl.H9_1) (ix2 i j) = ((0 : ℝ) : EReal) :=
  (read_in _ _ _ _ _ i j i j (Nat.zero_add _).symm (Nat.zero_add _).symm).trans (by
    show Ideal.ofBits .f32 0#32 = _
    simp [Ideal.ofBits, Ideal.ieee])

include H
/-- Case A: the first result's block. -/
theorem outA_7 (hc0 : cond0_0 i) (hc1 : ¬cond0_1 i) (hb : I.L = b + 128) :
    R2 (out0_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6) (fun i j => I.dxc (b + i) j) := by
  unfold out0_A_7; rw [Body.listA_7]
  exact read7 (good_reads arg1 harg1 arg2 harg2 arg3 harg3 arg4 harg4 arg5 harg5 arg6 harg6 arg7 harg7 H (ds := k0_pay2 (F := Ideal)) (zero_end H.hb hb)) _ _

/-- Case A: the second result's block. -/
theorem outA_8 (hc0 : cond0_0 i) (hc1 : ¬cond0_1 i) (hb : I.L = b + 128) :
    R2 (out0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6) (fun i j => I.ddtTile (b + i) j) := by
  unfold out0_A_8; rw [Body.listA_8]
  exact read8 (good_reads arg1 harg1 arg2 harg2 arg3 harg3 arg4 harg4 arg5 harg5 arg6 harg6 arg7 harg7 H (ds := k0_pay2 (F := Ideal)) (zero_end H.hb hb)) _ _

/-- Case A: the gradient carried on. -/
theorem soutA (hc0 : cond0_0 i) (hc1 : ¬cond0_1 i) (hb : I.L = b + 128) :
    R2 (sout0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6) (fun n j => I.D b n j) := by
  unfold sout0_A_0; rw [Body.listA_S]
  exact readS (good_reads arg1 harg1 arg2 harg2 arg3 harg3 arg4 harg4 arg5 harg5 arg6 harg6 arg7 harg7 H (ds := k0_pay2 (F := Ideal)) (zero_end H.hb hb)) _ _ _

/-- Case A: the sums. -/
theorem outA_9 (hc0 : cond0_0 i) (hc1 : ¬cond0_1 i) (hb : I.L = b + 128) :
    R2 (out0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6) (I.stFrom b) := by
  unfold out0_A_9; rw [Body.listA_9, Body.listA_r1 c arg1 harg1 arg2 harg2 arg3 harg3 arg4 harg4 arg5 harg5 arg6 harg6 arg7 harg7 arg10 arg12 harg12, Body.listA_r0 c arg1 harg1 arg2 harg2 arg3 harg3 arg4 harg4 arg5 harg5 arg6 harg6 arg7 harg7 arg10 arg12 harg12]
  have e : ∀ p (j : ℕ), ((0 : ℝ) : EReal) = ((I.stFrom (b + 128) p j : ℝ) : EReal) := fun p j => by rw [← hb, I.stFrom_end]
  refine read9 (good_reads arg1 harg1 arg2 harg2 arg3 harg3 arg4 harg4 arg5 harg5 arg6 harg6 arg7 harg7 H (ds := k0_pay2 (F := Ideal)) (zero_end H.hb hb)) _ _ _ (fun i j _ => ?_) (fun i j => ?_) (fun i j => ?_) (fun i j => ?_)
  · exact (read_in _ _ _ _ _ i j i j (Nat.zero_add _).symm (Nat.zero_add _).symm).trans (by
      show Ideal.ofBits .f32 0#32 = _
      simp [Ideal.ofBits, Ideal.ieee])
  all_goals refine Eq.trans ?_ (e _ _)
  · exact (congrArg (arg10.view.read (Elt Ideal) _) (idx_row 0 _ i j)).trans (clear_read arg10 _ j)
  · rw [kernelRun0_A.sl.v959, Body.listA_r0 c arg1 harg1 arg2 harg2 arg3 harg3 arg4 harg4 arg5 harg5 arg6 harg6 arg7 harg7 arg10 arg12 harg12]
    exact (congrArg (arg10.view.read (Elt Ideal) _) (idx_row 1 _ i j)).trans
      ((read_out _ _ _ _ _ _ j (.inl (.inr (by simp)))).trans (clear_read arg10 _ j))
  · rw [kernelRun0_A.sl.v965, Body.listA_r1 c arg1 harg1 arg2 harg2 arg3 harg3 arg4 harg4 arg5 harg5 arg6 harg6 arg7 harg7 arg10 arg12 harg12, Body.listA_r0 c arg1 harg1 arg2 harg2 arg3 harg3 arg4 harg4 arg5 harg5 arg6 harg6 arg7 harg7 arg10 arg12 harg12]
    exact (congrArg (arg10.view.read (Elt Ideal) _) (idx_row 2 _ i j)).trans
      ((read_out _ _ _ _ _ _ j (.inl (.inr (by simp)))).trans
        ((read_out _ _ _ _ _ _ j (.inl (.inr (by simp)))).trans (clear_read arg10 _ j)))

end Ssd
-- ==== Proof.Grid.lean ====
module

public import proofs.«01_k».proof.Proof.Cases
public import proofs.«01_k».proof.Proof.Gen.KernelIdeal.Value
public import Idealize.ShloMosaic.Lib.Pipeline.ValueKit

/-!
# The sweep over the blocks, last block first

After point `n` of the grid the carried gradient is that of the state entering block `31 - n`, and the sums run over
the steps from that block on.
-/

@[expose] public section

set_option maxRecDepth 16384

noncomputable section

namespace Ssd

open Idealize.ShloMosaic Idealize.SL.Sem Cert.KernelIdeal Cert.KernelIdeal.Gen Finset

variable (m : (l : Loc nD τ Cert.KernelIdeal.sig) → Buf (Elt Ideal) l) (c : Dev nD) {I : Inp} (hL : I.L = 4096)
  (hB : ∀ t : Fin cfg0.N, Blocks I (128 * (31 - t.val)) (iblk m c 0 t) (iblk m c 1 t) (iblk m c 2 t) (iblk m c 3 t)
    (iblk m c 4 t) (iblk m c 5 t) (iblk m c 6 t))

/-- What the body leaves at a point whose block begins at `b`. -/
structure Left (I : Inp) (n b : ℕ) (o : Vec Ideal S128x1536 .f32 × Vec Ideal S128x128 .f32 × Vec Ideal S8x1024 .f32 × Vec Ideal S8x1024 .f32 × Vec Ideal S128x1024 .f32) : Prop where
  o7 : R2 o.1 (fun i j => I.dxc (b + i) j)
  o8 : R2 o.2.1 (fun i j => I.ddtTile (b + i) j)
  o9 : R2 o.2.2.1 (I.stFrom b)
  o10 : n = 31 → R2 o.2.2.2.1 (fun i j => ∑ p ∈ range 64, I.stFrom b i (64 * (j / 64) + p))
  s : R2 o.2.2.2.2 (fun n j => I.D b n j)

include hL hB

/-- The first point. -/
theorem left_zero (hn : 0 < cfg0.N) : Left I 0 (128 * (31 - 0)) (outsAt0 m c 0 hn) := by
  have h0 : (⟨0, hn⟩ : Fin cfg0.N).val % 32 = 0 := rfl
  have h1 : ¬(⟨0, hn⟩ : Fin cfg0.N).val % 32 = 31 := by simp
  have e := outsAt0_A m c ⟨0, hn⟩ h0 h1
  have he : I.L = 128 * (31 - 0) + 128 := by rw [hL]
  rw [show outsAt0 m c 0 hn = _ from e]
  constructor
  all_goals dsimp only
  · exact outA_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) (hB ⟨0, hn⟩) _ _ he
  · exact outA_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) (hB ⟨0, hn⟩) _ _ he
  · exact outA_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) (hB ⟨0, hn⟩) _ _ he
  · exact fun h => absurd h (by decide)
  · exact soutA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) (hB ⟨0, hn⟩) _ _ he

omit hL in
/-- A later point, from the one before. -/
theorem left_succ (n : ℕ) (hn : n + 1 < cfg0.N)
    (ih : Left I n (128 * (31 - (n + 1)) + 128) (outsAt0 m c n (Nat.lt_of_succ_lt hn))) :
    Left I (n + 1) (128 * (31 - (n + 1))) (outsAt0 m c (n + 1) hn) := by
  have hN : n + 1 < 32 := lt_of_lt_of_eq hn N_0
  have h0 : ¬(⟨n + 1, hn⟩ : Fin cfg0.N).val % 32 = 0 := by dsimp only; omega
  by_cases h1 : (⟨n + 1, hn⟩ : Fin cfg0.N).val % 32 = 31
  · rw [show outsAt0 m c (n + 1) hn = _ from outsAt0_C m c ⟨n + 1, hn⟩ h0 h1]
    constructor
    all_goals dsimp only
    · exact outC_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB ⟨n + 1, hn⟩) _ _ ih.s
    · exact outC_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB ⟨n + 1, hn⟩) _ _ ih.s
    · exact outC_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB ⟨n + 1, hn⟩) _ _ ih.s ih.o9
    · exact fun _ => outC_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB ⟨n + 1, hn⟩) _ _ ih.s ih.o9
    · exact soutC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB ⟨n + 1, hn⟩) _ _ ih.s
  · rw [show outsAt0 m c (n + 1) hn = _ from outsAt0_B m c ⟨n + 1, hn⟩ h0 h1]
    constructor
    all_goals dsimp only
    · exact outB_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB ⟨n + 1, hn⟩) _ _ ih.s
    · exact outB_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB ⟨n + 1, hn⟩) _ _ ih.s
    · exact outB_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB ⟨n + 1, hn⟩) _ _ ih.s ih.o9
    · exact fun h => absurd (show (n + 1) % 32 = 31 by omega) h1
    · exact soutB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (hB ⟨n + 1, hn⟩) _ _ ih.s

/-- The sweep: what each point leaves. -/
theorem left_at (n : ℕ) (hn : n < cfg0.N) : Left I n (128 * (31 - n)) (outsAt0 m c n hn) := by
  induction n with
  | zero => exact left_zero m c hL hB hn
  | succ n ih =>
    have hN : n + 1 < 32 := lt_of_lt_of_eq hn N_0
    refine left_succ m c hB n hn ?_
    rw [show 128 * (31 - (n + 1)) + 128 = 128 * (31 - n) by omega]
    exact ih (Nat.lt_of_succ_lt hn)

omit hL hB in
/-- The windows' block indices. -/
theorem idx_out : ∀ t : Fin cfg0.N, (cfg0.win 7).index t = ![31 - t.val, 0] ∧ (cfg0.win 8).index t = ![31 - t.val, 0]
    ∧ (cfg0.win 9).index t = ![0, 0] ∧ (cfg0.win 10).index t = ![0, 0] := by
  decide +kernel

omit hL hB in
/-- A real array at any of its indices. -/
theorem R2.at {a b : ℕ} {v : (⟨2, ![a, b]⟩ : Shape).Idx → EReal} {f : ℕ → ℕ → ℝ} (h : R2 v f) (y : (⟨2, ![a, b]⟩ : Shape).Idx) :
    v y = ((f (y 0).val (y 1).val : ℝ) : EReal) := by
  rw [show y = ix2 (y 0) (y 1) from funext fun x => match x with | ⟨0, _⟩ => rfl | ⟨1, _⟩ => rfl]
  exact h _ _

omit hL hB in
/-- The last point of the grid. -/
def last : Fin cfg0.N := ⟨31, by decide⟩

/-- The first result. -/
theorem arr7 : R2 ((dats m 0 c).arrAt 7 cfg0.N) I.dxc := fun i j => by
  have := (dats m 0 c).arrAt_eq_of_covers 7 (fun y => ((I.dxc (y 0).val (y 1).val : ℝ) : EReal)) (by decide +kernel) fun t hf y => ?_
  · exact congrFun this (ix2 i j)
  blk_simp [(idx_out t).1]
  rw [after0_7, Nat.mul_comm]
  exact (left_at m c hL hB t.val t.isLt).o7.at y

/-- The second result. -/
theorem arr8 : R2 ((dats m 0 c).arrAt 8 cfg0.N) I.ddtTile := fun i j => by
  have := (dats m 0 c).arrAt_eq_of_covers 8 (fun y => ((I.ddtTile (y 0).val (y 1).val : ℝ) : EReal)) (by decide +kernel) fun t hf y => ?_
  · exact congrFun this (ix2 i j)
  blk_simp [(idx_out t).2.1]
  rw [after0_8, Nat.mul_comm]
  exact (left_at m c hL hB t.val t.isLt).o8.at y

/-- The third result. -/
theorem arr9 : R2 ((dats m 0 c).arrAt 9 cfg0.N) I.st := fun i j => by
  have := (dats m 0 c).arrAt_eq_of_after_last 9 last (by decide +kernel) (fun y => ((I.st (y 0).val (y 1).val : ℝ) : EReal)) fun y => ?_
  · exact congrFun this (ix2 i j)
  refine (congrFun (after0_9 m c last) _).trans ?_
  exact ((left_at m c hL hB 31 last.isLt).o9.at y).trans (by simp only [last, Nat.sub_self, Nat.mul_zero, I.stFrom_zero]; rfl)

/-- The fourth result. -/
theorem arr10 : R2 ((dats m 0 c).arrAt 10 cfg0.N) I.hs := fun i j => by
  have := (dats m 0 c).arrAt_eq_of_after_last 10 last (by decide +kernel) (fun y => ((I.hs (y 0).val (y 1).val : ℝ) : EReal)) fun y => ?_
  · exact congrFun this (ix2 i j)
  refine (congrFun (after0_10 m c last) _).trans ?_
  exact (((left_at m c hL hB 31 last.isLt).o10 rfl).at y).trans (by simp only [Inp.hs, last, Nat.sub_self, Nat.mul_zero, I.stFrom_zero]; rfl)

end Ssd
-- ==== Proof.Window.lean ====
module

public import proofs.«01_k».proof.Proof.Lift
public import Idealize.ShloMosaic.Lib.Routing.OpsOne

@[expose] public section

/-! # Running sums down the rows of a matrix, as the host writes them

A running sum is printed as a window sum: a window as high as the matrix, padded above (a sum from the first row) or below (a sum to the
last row). -/

noncomputable section

namespace Ssd

open Idealize.ShloMosaic Idealize.ShloMosaic.Routing

/-- A left fold that adds real terms to a real start is the start plus their sum. -/
theorem foldl_coe {ι : Type} (l : List ι) (g : ι → EReal) (f : ι → ℝ) (hg : ∀ n ∈ l, g n = ((f n : ℝ) : EReal)) (v : EReal) (z : ℝ)
    (hv : v = (z : EReal)) : l.foldl (fun r n => r + g n) v = ((z + (l.map f).sum : ℝ) : EReal) := by
  induction l generalizing v z with
  | nil => simpa using hv
  | cons a l ih =>
    rw [List.foldl_cons, ih (fun b hb => hg b (List.mem_cons_of_mem _ hb)) _ (z + f a) (by
      rw [hv, hg a List.mem_cons_self, EReal.coe_add]), List.map_cons, List.sum_cons, add_assoc]

/-- A window as high as the matrix, `lo` rows of padding above and `hi` below, over a matrix of real entries: entry `(j, c)` of the
    window sum adds the rows `j + n - lo` that exist. -/
theorem window_sum {R C lo hi : Nat} (x : FVec Ideal (shape2 R C) .f32) (f : Nat → Nat → ℝ)
    (hx : ∀ i, x i = ((f (i 0).val (i 1).val : ℝ) : EReal)) (init : FVec Ideal shape0 .f32) (hinit : ∀ i, init i = ((0 : ℝ) : EReal))
    (h : (shape2 R C).ReduceWindows (![R, 1] : Fin 2 → Nat) ![1, 1] ![lo, 0] ![hi, 0] (shape2 R C)) (hu : 0 < shape0.numel)
    (i : (shape2 R C).Idx) :
    Host.reduceWindowAdd (F := Ideal) ![R, 1] ![1, 1] ![lo, 0] ![hi, 0] x init h hu i
      = ((∑ n ∈ Finset.range R, (if lo ≤ (i 0).val + n ∧ (i 0).val + n - lo < R then f ((i 0).val + n - lo) (i 1).val else 0) : ℝ) : EReal) := by
  have hv : init (Shape.Idx.first hu) = ((0 : ℝ) : EReal) := hinit _
  obtain ⟨j, hj0⟩ : ∃ j : Fin R, j = i 0 := ⟨_, rfl⟩
  obtain ⟨c, hc0⟩ : ∃ c : Fin C, c = i 1 := ⟨_, rfl⟩
  rw [← hj0, ← hc0]
  have hj := j.isLt
  have hc := c.isLt
  unfold Host.reduceWindowAdd
  rw [Ideal.hostReduceWindowAdd_def]
  unfold Ideal.hostReduceWindowAdd Host.reduceWindow
  refine (foldl_coe _ _ (fun n => if lo ≤ j.val + n.val ∧ j.val + n.val - lo < R then f (j.val + n.val - lo) c.val else 0)
    (fun n _ => ?_) _ 0 hv).trans ?_
  · have hw0 : ((shape2 R 1).rowMajor.symm n 0).val = n.val := by rw [symm_col]; rfl
    have hw1 : ((shape2 R 1).rowMajor.symm n 1).val = 0 := by rw [symm_col]; rfl
    have hn : n.val < R := (n.cast (numel_col _)).isLt
    dsimp only
    split
    · next hin =>
      have h0 := hin 0
      change lo ≤ (i 0).val * 1 + ((shape2 R 1).rowMajor.symm n 0).val
        ∧ (i 0).val * 1 + ((shape2 R 1).rowMajor.symm n 0).val - lo < R at h0
      rw [hw0, Nat.mul_one, ← hj0] at h0
      rw [if_pos h0]
      refine (hx _).trans (congrArg (fun r : ℝ => (r : EReal)) (congrArg₂ f ?_ ?_))
      · show (i 0).val * 1 + ((shape2 R 1).rowMajor.symm n 0).val - lo = j.val + n.val - lo
        rw [hw0, Nat.mul_one, hj0]
      · show (i 1).val * 1 + ((shape2 R 1).rowMajor.symm n 1).val - 0 = c.val
        rw [hw1, hc0]
        omega
    · next hin =>
      rw [if_neg fun hle => hin fun a => by
        match a with
        | ⟨0, _⟩ =>
          show lo ≤ (i 0).val * 1 + ((shape2 R 1).rowMajor.symm n 0).val
            ∧ (i 0).val * 1 + ((shape2 R 1).rowMajor.symm n 0).val - lo < R
          rw [hw0, Nat.mul_one, ← hj0]
          exact hle
        | ⟨1, _⟩ =>
          show 0 ≤ (i 1).val * 1 + ((shape2 R 1).rowMajor.symm n 1).val ∧ (i 1).val * 1 + ((shape2 R 1).rowMajor.symm n 1).val - 0 < C
          rw [hw1, ← hc0]
          omega]
      exact hv
  · rw [zero_add]
    congr 1
    rw [← List.ofFn_eq_map, List.sum_ofFn,
      Fin.sum_univ_eq_sum_range (fun n : Nat => if lo ≤ j.val + n ∧ j.val + n - lo < R then f (j.val + n - lo) c.val else 0) _, numel_col]

/-- The running sum from the first row. -/
theorem cumsum_down (x : FVec Ideal (shape2 4096 16) .f32) (f : Nat → Nat → ℝ)
    (hx : ∀ i, x i = ((f (i 0).val (i 1).val : ℝ) : EReal)) (init : FVec Ideal shape0 .f32) (hinit : ∀ i, init i = ((0 : ℝ) : EReal))
    (h : (shape2 4096 16).ReduceWindows (![4096, 1] : Fin 2 → Nat) ![1, 1] ![4095, 0] ![0, 0] (shape2 4096 16)) (hu : 0 < shape0.numel)
    (i : (shape2 4096 16).Idx) :
    Host.reduceWindowAdd (F := Ideal) ![4096, 1] ![1, 1] ![4095, 0] ![0, 0] x init h hu i
      = ((∑ r ∈ Finset.range ((i 0).val + 1), f r (i 1).val : ℝ) : EReal) := by
  rw [window_sum x f hx init hinit h hu i]
  congr 1
  have hj : (i 0).val < 4096 := (i 0).isLt
  generalize (i 0).val = j at hj ⊢
  rw [← Finset.sum_filter]
  refine Finset.sum_bij' (fun n _ => j + n - 4095) (fun r _ => r + 4095 - j) ?_ ?_ ?_ ?_ ?_
  all_goals intro n hn
  all_goals simp only [Finset.mem_filter, Finset.mem_range] at hn ⊢
  all_goals first | omega | skip

/-- The running sum to the last row. -/
theorem cumsum_up (x : FVec Ideal (shape2 4096 16) .f32) (f : Nat → Nat → ℝ)
    (hx : ∀ i, x i = ((f (i 0).val (i 1).val : ℝ) : EReal)) (init : FVec Ideal shape0 .f32) (hinit : ∀ i, init i = ((0 : ℝ) : EReal))
    (h : (shape2 4096 16).ReduceWindows (![4096, 1] : Fin 2 → Nat) ![1, 1] ![0, 0] ![4095, 0] (shape2 4096 16)) (hu : 0 < shape0.numel)
    (i : (shape2 4096 16).Idx) :
    Host.reduceWindowAdd (F := Ideal) ![4096, 1] ![1, 1] ![0, 0] ![4095, 0] x init h hu i
      = ((∑ r ∈ Finset.Ico (i 0).val 4096, f r (i 1).val : ℝ) : EReal) := by
  rw [window_sum x f hx init hinit h hu i]
  congr 1
  have hj : (i 0).val < 4096 := (i 0).isLt
  generalize (i 0).val = j at hj ⊢
  rw [← Finset.sum_filter]
  refine Finset.sum_bij' (fun n _ => j + n - 0) (fun r _ => r - j) ?_ ?_ ?_ ?_ ?_
  all_goals intro n hn
  all_goals simp only [Finset.mem_filter, Finset.mem_range, Finset.mem_Ico] at hn ⊢
  all_goals first | omega | skip

end Ssd
-- ==== Proof.RefValue.lean ====
module

public import proofs.«01_k».proof.Proof.Window
public import proofs.«01_k».proof.Proof.Gen.ReferenceIdeal.Read

/-!
# The reference's operations, one after another, on real inputs
-/

@[expose] public section

set_option maxRecDepth 16384

noncomputable section

namespace Ssd.Ref

open Idealize.ShloMosaic Cert.ReferenceIdeal Cert.ReferenceIdeal.Read
open Finset (range)

/-! ## The operations on single real numbers -/

theorem addf_coe (a b : ℝ) : FloatOps.addf (F := Ideal) (φ := .f32) (a : EReal) (b : EReal) = ((a + b : ℝ) : EReal) := (EReal.coe_add a b).symm
theorem subf_coe (a b : ℝ) : FloatOps.subf (F := Ideal) (φ := .f32) (a : EReal) (b : EReal) = ((a - b : ℝ) : EReal) := (EReal.coe_sub a b).symm
theorem mulf_coe (a b : ℝ) : FloatOps.mulf (F := Ideal) (φ := .f32) (a : EReal) (b : EReal) = ((a * b : ℝ) : EReal) := (EReal.coe_mul a b).symm
theorem maximumf_coe (a b : ℝ) : FloatOps.maximumf (F := Ideal) (φ := .f32) (a : EReal) (b : EReal) = ((max a b : ℝ) : EReal) :=
  (EReal.coe_strictMono.monotone.map_max).symm
theorem negf_coe (a : ℝ) : FloatOps.hostNegf (F := Ideal) (φ := .f32) (a : EReal) = ((-a : ℝ) : EReal) := (EReal.coe_neg a).symm
theorem habsf_coe (a : ℝ) : FloatOps.hostAbsf (F := Ideal) (φ := .f32) (a : EReal) = ((|a| : ℝ) : EReal) := absf_coe a
theorem exp_coe (a : ℝ) : FloatOps.hostUnary (F := Ideal) (φ := .f32) .exp (a : EReal) = ((Real.exp a : ℝ) : EReal) := rfl
theorem exp_bot : FloatOps.hostUnary (F := Ideal) (φ := .f32) .exp (⊥ : EReal) = ((0 : ℝ) : EReal) := by
  rw [Ideal.hostUnary_exp_def, Ideal.exp_bot, EReal.coe_zero]
theorem zero_word : FloatOps.ofBits (F := Ideal) .f32 0x00000000#32 = ((0 : ℝ) : EReal) := by
  show Ideal.ofBits .f32 0x00000000#32 = _
  simp [Ideal.ofBits, Ideal.ieee]
theorem one_word : FloatOps.ofBits (F := Ideal) .f32 0x3F800000#32 = ((1 : ℝ) : EReal) := by
  show Ideal.ofBits .f32 0x3F800000#32 = _
  simp [Ideal.ofBits, Ideal.ieee]
  norm_num [← EReal.coe_mul]
theorem inf_word : FloatOps.ofBits (F := Ideal) .f32 0x7F800000#32 = (⊤ : EReal) := by
  show Ideal.ofBits .f32 0x7F800000#32 = _
  simp [Ideal.ofBits, Ideal.ieee]
/-- A real number is not unequal to itself. -/
theorem une_self (a : EReal) : FloatOps.cmpf (F := Ideal) (φ := .f32) .une a a = 0#1 := by
  show Ideal.cmp .une a a = 0#1
  simp [Ideal.cmp]
/-- A real number is not infinite. -/
theorem oeq_inf (a : ℝ) : FloatOps.cmpf (F := Ideal) (φ := .f32) .oeq (a : EReal) (⊤ : EReal) = 0#1 := by
  show Ideal.cmp .oeq (a : EReal) ⊤ = 0#1
  simp [Ideal.cmp]
theorem select_zero {α : Type} (a b : α) : Scalar.select 0#1 a b = b := rfl

/-- The five arguments hold the real numbers of `I`; of the second one only sixteen columns are used. -/
structure Ins (I : Inp) (x0 : (⟨S4096x1536, .f32⟩ : BufTy).Contents (Elt Ideal)) (x1 : (⟨S4096x6144, .f32⟩ : BufTy).Contents (Elt Ideal))
    (x2 x3 : (⟨S1x16, .f32⟩ : BufTy).Contents (Elt Ideal)) (x4 : (⟨S4096x1024, .f32⟩ : BufTy).Contents (Elt Ideal)) : Prop where
  hL : I.L = 4096
  x0 : ∀ i, x0 i = ((I.xc (i 0).val (i 1).val : ℝ) : EReal)
  x1 : ∀ i, 1536 ≤ (i 1).val → (i 1).val < 1552 → x1 i = ((I.tile (i 0).val ((i 1).val - 1536) : ℝ) : EReal)
  x2 : ∀ i, x2 i = ((I.bias (i 1).val : ℝ) : EReal)
  x3 : ∀ i, x3 i = ((I.al (i 1).val : ℝ) : EReal)
  x4 : ∀ i, x4 i = ((I.dy (i 0).val (i 1).val : ℝ) : EReal)

variable {I : Inp} {x0 : (⟨S4096x1536, .f32⟩ : BufTy).Contents (Elt Ideal)} {x1 : (⟨S4096x6144, .f32⟩ : BufTy).Contents (Elt Ideal)}
  {x2 x3 : (⟨S1x16, .f32⟩ : BufTy).Contents (Elt Ideal)} {x4 : (⟨S4096x1024, .f32⟩ : BufTy).Contents (Elt Ideal)}

/-- A real value at equal coordinates. -/
theorem at2 (f : ℕ → ℕ → ℝ) {a a' b b' : ℕ} (h : a = a') (h' : b = b') : ((f a b : ℝ) : EReal) = ((f a' b' : ℝ) : EReal) := by rw [h, h']

/-- The input by groups, heads and lanes. -/
theorem x_val (h : Ins I x0 x1 x2 x3 x4) (i) : val_main_v2 (F := Ideal) x0 i = ((I.xc (i 0).val (64 * (8 * (i 1).val + (i 2).val) + (i 3).val) : ℝ) : EReal) := by
  rw [val_main_v2_apply, val_main_v1_apply, h.x0]
  have h1 : (i 1).val < 2 := (i 1).isLt
  have h2 : (i 2).val < 8 := (i 2).isLt
  have h3 : (i 3).val < 64 := (i 3).isLt
  refine at2 _ ?_ ?_ <;> dsimp only [idx_main_v2, idx_main_v1] <;> omega

/-- The coordinates' bounds are used through these. -/
theorem grp_div {g h p : ℕ} (hh : h < 8) (hp : p < 64) : (64 * (8 * g + h) + p) / 64 = 8 * g + h := by omega

/-- The step sizes before the softplus. -/
theorem raw_val (h : Ins I x0 x1 x2 x3 x4) (i) : val_main_v9 (F := Ideal) x1 x2 i = ((I.raw (i 0).val (i 1).val : ℝ) : EReal) := by
  have h1 : (i 1).val < 16 := (i 1).isLt
  have e : (idx_main_v0 (idx_main_v7 i) 1).val = 1536 + (i 1).val := by dsimp only [idx_main_v0, idx_main_v7]
  rw [val_main_v9_apply, val_main_v7_apply, val_main_v0_apply, val_main_v8_apply, h.x1 _ (by omega) (by omega), h.x2, addf_coe, e,
    Nat.add_sub_cancel_left]
  rfl

/-- The step sizes. -/
theorem dt_val (h : Ins I x0 x1 x2 x3 x4) (i) : val_main_v10_0 (F := Ideal) x1 x2 i = ((I.dt (i 0).val (i 1).val : ℝ) : EReal) := by
  have e0 : ∀ j, val_main_call0_cst (F := Ideal) j = ((0 : ℝ) : EReal) := fun j => by rw [val_main_call0_cst_apply, zero_word]
  have e3 : val_main_call0_v3 (F := Ideal) x1 x2 i = ((I.raw (i 0).val (i 1).val : ℝ) : EReal) := by
    rw [val_main_call0_v3_apply, raw_val h, val_main_call0_v2_apply, e0, subf_coe, sub_zero]
  rw [val_main_v10_0_apply, val_main_call0_v4_apply, une_self, select_zero, val_main_call0_v11_apply, val_main_call0_v1_apply, raw_val h,
    val_main_call0_v0_apply, e0, maximumf_coe, val_main_call0_v10_apply, val_main_call0_v9_apply, val_main_call0_v8_apply,
    val_main_call0_v7_apply, e3, habsf_coe, negf_coe, exp_coe, Ideal.hostUnary_log1p_def, log1p_coe (by positivity), addf_coe]
  rfl

/-- The derivative of the softplus. -/
theorem sig_val (h : Ins I x0 x1 x2 x3 x4) (i) : val_main_v10_1 (F := Ideal) x1 x2 i = ((sig (I.raw (i 0).val (i 1).val) : ℝ) : EReal) := by
  rw [val_main_v10_1_apply, val_main_call0_v21_apply, val_main_call0_v16_apply, val_main_call0_v14_apply, val_main_call0_v13_apply,
    val_main_call0_cst_0_apply, inf_word, raw_val h, oeq_inf, select_zero, val_main_call0_v20_apply, val_main_call0_v18_apply,
    val_main_call0_v17_apply, val_main_call0_cst_2_apply, inf_word, dt_val h, oeq_inf, select_zero, subf_coe, exp_coe, ← exp_sub_sp]
  rfl

/-- The decay rates. -/
theorem a_val (h : Ins I x0 x1 x2 x3 x4) (i) : val_main_v12 (F := Ideal) x3 i = ((I.a (i 1).val : ℝ) : EReal) := by
  rw [val_main_v12_apply, val_main_v11_apply, h.x3, exp_coe, negf_coe]
  rfl

/-- The step sizes by groups and heads. -/
theorem dtg_val (h : Ins I x0 x1 x2 x3 x4) (i) : val_main_v13 (F := Ideal) x1 x2 i = ((I.dt (i 0).val (8 * (i 1).val + (i 2).val) : ℝ) : EReal) := by
  have h1 : (i 1).val < 2 := (i 1).isLt
  have h2 : (i 2).val < 8 := (i 2).isLt
  rw [val_main_v13_apply, dt_val h]
  refine at2 _ ?_ ?_ <;> dsimp only [idx_main_v13] <;> omega

/-- The scaled values. -/
theorem xg_val (h : Ins I x0 x1 x2 x3 x4) (i) :
    val_main_v16 (F := Ideal) x0 x1 x2 i = ((I.xg (i 0).val (64 * (8 * (i 1).val + (i 2).val) + (i 3).val) : ℝ) : EReal) := by
  rw [val_main_v16_apply, x_val h, val_main_v15_apply, val_main_v14_apply, dtg_val h, mulf_coe, Inp.xg, grp_div (i 2).isLt (i 3).isLt]

/-- The input projection. -/
theorem B_val (h : Ins I x0 x1 x2 x3 x4) (i) : val_main_v4 (F := Ideal) x0 i = ((I.B (i 0).val (i 1).val (i 2).val : ℝ) : EReal) := by
  have h1 : (i 1).val < 2 := (i 1).isLt
  have h2 : (i 2).val < 128 := (i 2).isLt
  rw [val_main_v4_apply, val_main_v3_apply, h.x0, Inp.B]
  refine at2 _ ?_ ?_ <;> dsimp only [idx_main_v4, idx_main_v3] <;> omega

/-- The output projection. -/
theorem C_val (h : Ins I x0 x1 x2 x3 x4) (i) : val_main_v6 (F := Ideal) x0 i = ((I.C (i 0).val (i 1).val (i 2).val : ℝ) : EReal) := by
  have h1 : (i 1).val < 2 := (i 1).isLt
  have h2 : (i 2).val < 128 := (i 2).isLt
  rw [val_main_v6_apply, val_main_v5_apply, h.x0, Inp.C]
  refine at2 _ ?_ ?_ <;> dsimp only [idx_main_v6, idx_main_v5] <;> omega

/-- The log decays. -/
theorem u_val (h : Ins I x0 x1 x2 x3 x4) (i) : val_main_v18 (F := Ideal) x1 x2 x3 i = ((I.u (i 0).val (i 1).val : ℝ) : EReal) := by
  rw [val_main_v18_apply, val_main_v17_apply, a_val h, dt_val h, mulf_coe]
  rfl

/-- The running log decays. -/
theorem cum_val (h : Ins I x0 x1 x2 x3 x4) (i) : val_main_v19 (F := Ideal) x1 x2 x3 i = ((I.cum ((i 0).val + 1) (i 1).val : ℝ) : EReal) :=
  cumsum_down _ I.u (u_val h) _ (fun j => by rw [val_main_call1_call0_v0_apply, val_main_call1_call0_cst_apply, zero_word]) _ _ i

/-- The running log decays by groups and heads. -/
theorem cumg_val (h : Ins I x0 x1 x2 x3 x4) (i) :
    val_main_v20 (F := Ideal) x1 x2 x3 i = ((I.cum ((i 0).val + 1) (8 * (i 1).val + (i 2).val) : ℝ) : EReal) := by
  have h1 : (i 1).val < 2 := (i 1).isLt
  have h2 : (i 2).val < 8 := (i 2).isLt
  rw [val_main_v20_apply, cum_val h]
  refine at2 _ ?_ ?_ <;> dsimp only [idx_main_v20] <;> omega

/-- The mask of the pairs in order. -/
theorem mask_val (i) : val_main_v33_1 (F := Ideal) i = BitVec.ofBool (decide ((i 1).val ≤ (i 0).val)) := by
  have h0 : (i 0).val < 4096 := (i 0).isLt
  have h1 : (i 1).val < 4096 := (i 1).isLt
  rw [val_main_v33_1_apply, val_main_v32_apply, val_main_v26_apply, val_main_v24_apply, val_main_v25_apply, val_main_v22_apply,
    val_main_v23_apply, val_main_v21_apply, val_main_v21_apply]
  exact cmpi_sge (a := (i 0).val) (b := (i 1).val) (by omega) (by omega)

/-- The decays between two steps. -/
theorem W_val (h : Ins I x0 x1 x2 x3 x4) (i) :
    val_main_v34 (F := Ideal) x1 x2 x3 i = ((I.W (i 0).val (i 1).val (8 * (i 2).val + (i 3).val) : ℝ) : EReal) := by
  rw [val_main_v34_apply, val_main_v33_0_apply, mask_val, val_main_v31_apply, val_main_v29_apply, val_main_v27_apply, val_main_v30_apply,
    val_main_v28_apply, cumg_val h, cumg_val h, subf_coe, val_main_call2_v2_apply, Inp.W]
  by_cases hm : (i 1).val ≤ (i 0).val
  · rw [if_pos hm, decide_eq_true hm]
    rfl
  · rw [if_neg hm, decide_eq_false hm]
    refine Eq.trans ?_ exp_bot
    refine congrArg (FloatOps.hostUnary (F := Ideal) (φ := .f32) .exp) ?_
    exact ofBits_bot

/-- The scores. -/
theorem sc_val (h : Ins I x0 x1 x2 x3 x4) (i) :
    val_main_v36 (F := Ideal) x0 i = ((I.sc (i 0).val (i 1).val (i 2).val : ℝ) : EReal) := by
  rw [val_main_v36_apply, val_main_v35_apply]
  refine (Finset.sum_congr rfl fun k _ => ?_).trans (sum_coe (fun k => I.C (i 0).val (i 2).val k * I.B (i 1).val (i 2).val k))
  rw [B_val h, C_val h, ← EReal.coe_mul, mul_comm]

/-- The decayed scores. -/
theorem scW_val (h : Ins I x0 x1 x2 x3 x4) (i) : val_main_v39 (F := Ideal) x0 x1 x2 x3 i
    = ((I.sc (i 0).val (i 1).val (i 2).val * I.W (i 0).val (i 1).val (8 * (i 2).val + (i 3).val) : ℝ) : EReal) := by
  rw [val_main_v39_apply, val_main_v38_apply, val_main_v37_apply, sc_val h, W_val h, mulf_coe]

/-- The cotangents by groups, heads, lanes and steps. -/
theorem dy_val (h : Ins I x0 x1 x2 x3 x4) (i) :
    val_main_v44 (F := Ideal) x4 i = ((I.dy (i 3).val (64 * (8 * (i 0).val + (i 1).val) + (i 2).val) : ℝ) : EReal) := by
  have h1 : (i 0).val < 2 := (i 0).isLt
  have h2 : (i 1).val < 8 := (i 1).isLt
  have h3 : (i 2).val < 64 := (i 2).isLt
  rw [val_main_v44_apply, val_main_v43_apply, h.x4]
  refine at2 _ ?_ ?_ <;> dsimp only [idx_main_v43, idx_main_v44] <;> omega

/-- The products of a cotangent with a value. -/
theorem q_val (h : Ins I x0 x1 x2 x3 x4) (i) : val_main_v46 (F := Ideal) x0 x1 x2 x4 i
    = ((I.q (i 0).val (i 1).val (8 * (i 2).val + (i 3).val) : ℝ) : EReal) := by
  rw [val_main_v46_apply, val_main_v45_apply]
  refine (Finset.sum_congr rfl fun k _ => ?_).trans (sum_coe (fun k => I.dy (i 0).val (64 * (8 * (i 2).val + (i 3).val) + k)
    * I.xg (i 1).val (64 * (8 * (i 2).val + (i 3).val) + k)))
  rw [dy_val h, xg_val h, ← EReal.coe_mul]

/-- The gradient of the scaled values. -/
theorem dxg_val (h : Ins I x0 x1 x2 x3 x4) (i) : val_main_v48 (F := Ideal) x0 x1 x2 x3 x4 i
    = ((I.dxg (i 0).val (64 * (8 * (i 1).val + (i 2).val) + (i 3).val) : ℝ) : EReal) := by
  have h1 : (i 1).val < 2 := (i 1).isLt
  have h2 : (i 2).val < 8 := (i 2).isLt
  have h3 : (i 3).val < 64 := (i 3).isLt
  rw [val_main_v48_apply, val_main_v47_apply]
  refine (Finset.sum_congr rfl fun k _ => ?_).trans ((sum_coe (n := 4096) (fun k => I.sc k (i 0).val (i 1).val
    * I.W k (i 0).val (8 * (i 1).val + (i 2).val) * I.dy k (64 * (8 * (i 1).val + (i 2).val) + (i 3).val))).trans ?_)
  · rw [dy_val h, scW_val h, ← EReal.coe_mul, mul_comm]
  · rw [Inp.dxg, h.hL, grp_div h2 h3, show (64 * (8 * (i 1).val + (i 2).val) + (i 3).val) / 512 = (i 1).val by omega]

/-- Zero added to a sum of one term. -/
theorem zero_add_one (f : Fin 1 → EReal) (a : EReal) (ha : a = ((0 : ℝ) : EReal)) : a + ∑ k : Fin 1, f k = f 0 := by
  rw [ha, EReal.coe_zero, zero_add, Fin.sum_univ_one]

/-- The products of a pair with its decay. -/
theorem qW_val (h : Ins I x0 x1 x2 x3 x4) (i) : val_main_v51 (F := Ideal) x0 x1 x2 x3 x4 i
    = ((I.q (i 0).val (i 1).val (8 * (i 2).val + (i 3).val) * I.W (i 0).val (i 1).val (8 * (i 2).val + (i 3).val) : ℝ) : EReal) := by
  rw [val_main_v51_apply, q_val h, W_val h, mulf_coe]

/-- The gradient of the scores. -/
theorem dS_val (h : Ins I x0 x1 x2 x3 x4) (i) : val_main_v52 (F := Ideal) x0 x1 x2 x3 x4 i
    = ((I.dS (i 0).val (i 1).val (i 2).val : ℝ) : EReal) := by
  rw [val_main_v52_apply, val_main_cst_0_apply, zero_word, EReal.coe_zero, zero_add]
  refine (Finset.sum_congr rfl fun k _ => ?_).trans (sum_coe (fun k => I.q (i 0).val (i 1).val (8 * (i 2).val + k)
    * I.W (i 0).val (i 1).val (8 * (i 2).val + k)))
  rw [qW_val h]

/-- The gradient of the scores, by groups, input steps and output steps. -/
theorem dSt_val (h : Ins I x0 x1 x2 x3 x4) (i) : val_main_v55 (F := Ideal) x0 x1 x2 x3 x4 i
    = ((I.dS (i 2).val (i 1).val (i 0).val : ℝ) : EReal) := by
  have h0 : (i 0).val < 2 := (i 0).isLt
  have h1 : (i 1).val < 4096 := (i 1).isLt
  have h2 : (i 2).val < 4096 := (i 2).isLt
  rw [val_main_v55_apply, val_main_v54_apply, zero_add_one _ _ (by rw [val_main_cst_1_apply, zero_word]), val_main_v53_apply, dS_val h]
  have e0 : (idx_main_v53 (idx_main_v54 (idx_main_v55 i) 0) 0).val = (i 2).val := by
    dsimp only [idx_main_v53, idx_main_v54, idx_main_v55, Fin.val_zero]; omega
  have e1 : (idx_main_v53 (idx_main_v54 (idx_main_v55 i) 0) 1).val = (i 1).val := by
    dsimp only [idx_main_v53, idx_main_v54, idx_main_v55, Fin.val_zero]; omega
  have e2 : (idx_main_v53 (idx_main_v54 (idx_main_v55 i) 0) 2).val = (i 0).val := by
    dsimp only [idx_main_v53, idx_main_v54, idx_main_v55, Fin.val_zero]; omega
  rw [e0, e1, e2]

/-- The gradient of the output projection. -/
theorem dC_val (h : Ins I x0 x1 x2 x3 x4) (i) : val_main_v57 (F := Ideal) x0 x1 x2 x3 x4 i
    = ((I.dC (i 0).val (i 1).val (i 2).val : ℝ) : EReal) := by
  rw [val_main_v57_apply, val_main_v56_apply, Inp.dC, h.hL]
  refine (Finset.sum_congr rfl fun k _ => ?_).trans (sum_coe (n := 4096) (fun k => I.dS (i 0).val k (i 1).val * I.B k (i 1).val (i 2).val))
  rw [dSt_val h, B_val h, ← EReal.coe_mul]

/-- The gradient of the input projection. -/
theorem dB_val (h : Ins I x0 x1 x2 x3 x4) (i) : val_main_v59 (F := Ideal) x0 x1 x2 x3 x4 i
    = ((I.dB (i 0).val (i 1).val (i 2).val : ℝ) : EReal) := by
  rw [val_main_v59_apply, val_main_v58_apply, Inp.dB, h.hL]
  refine (Finset.sum_congr rfl fun k _ => ?_).trans (sum_coe (n := 4096) (fun k => I.dS k (i 0).val (i 1).val * I.C k (i 1).val (i 2).val))
  rw [dSt_val h, C_val h, ← EReal.coe_mul]

/-- What each pair adds to the gradient of the log decay between its steps. -/
theorem wq_val (h : Ins I x0 x1 x2 x3 x4) (i) : val_main_v61 (F := Ideal) x0 x1 x2 x3 x4 i
    = ((I.wq (i 0).val (i 1).val (8 * (i 2).val + (i 3).val) : ℝ) : EReal) := by
  have h3 : (i 3).val < 8 := (i 3).isLt
  have e : (8 * (i 2).val + (i 3).val) / 8 = (i 2).val := by omega
  have e60 : val_main_v60 (F := Ideal) x0 x1 x2 x3 x4 i = ((I.wq (i 0).val (i 1).val (8 * (i 2).val + (i 3).val) : ℝ) : EReal) := by
    rw [val_main_v60_apply, val_main_v50_apply, val_main_v49_apply, val_main_v37_apply, sc_val h, q_val h, W_val h, mulf_coe, mulf_coe, Inp.wq, e]
    refine congrArg (fun r : ℝ => (r : EReal)) ?_
    show I.sc (i 0).val (i 1).val (i 2).val * _ * _ = _
    ring
  rw [val_main_v61_apply, mask_val, e60]
  by_cases hm : (i 1).val ≤ (i 0).val
  · rw [decide_eq_true hm]
    rfl
  · rw [decide_eq_false hm, Inp.wq, I.W_of_lt (not_le.mp hm), mul_zero, zero_mul, val_main_call3_v0_apply, val_main_call3_cst_apply, zero_word]
    rfl

set_option maxHeartbeats 2000000 in
/-- The gradient of the running log decays. -/
theorem dcum_val (h : Ins I x0 x1 x2 x3 x4) (i) : val_main_v69 (F := Ideal) x0 x1 x2 x3 x4 i
    = ((∑ s ∈ range I.L, I.wq (i 0).val s (8 * (i 1).val + (i 2).val) - ∑ l ∈ range I.L, I.wq l (i 0).val (8 * (i 1).val + (i 2).val) : ℝ) : EReal) := by
  have h0 : (i 0).val < 4096 := (i 0).isLt
  have h1 : (i 1).val < 2 := (i 1).isLt
  have h2 : (i 2).val < 8 := (i 2).isLt
  have e62 : ∀ j, val_main_v62 (F := Ideal) x0 x1 x2 x3 x4 j = ((∑ s ∈ range I.L, I.wq (j 0).val s (8 * (j 1).val + (j 2).val) : ℝ) : EReal) := fun j => by
    rw [val_main_v62_apply, val_main_cst_2_apply, zero_word, EReal.coe_zero, zero_add, h.hL]
    refine (Finset.sum_congr rfl fun k _ => ?_).trans (sum_coe (n := 4096) (fun s => I.wq (j 0).val s (8 * (j 1).val + (j 2).val)))
    rw [wq_val h]
  have e65 : ∀ j, val_main_v65 (F := Ideal) x0 x1 x2 x3 x4 j = ((∑ l ∈ range I.L, -I.wq l (j 0).val (8 * (j 1).val + (j 2).val) : ℝ) : EReal) := fun j => by
    rw [val_main_v65_apply, val_main_cst_3_apply, zero_word, EReal.coe_zero, zero_add, h.hL]
    refine (Finset.sum_congr rfl fun k _ => ?_).trans (sum_coe (n := 4096) (fun l => -I.wq l (j 0).val (8 * (j 1).val + (j 2).val)))
    rw [val_main_v64_apply, wq_val h, negf_coe]
  rw [val_main_v69_apply, val_main_v67_apply, zero_add_one _ _ (by rw [val_main_cst_4_apply, zero_word]), val_main_v66_apply, e65,
    val_main_v68_apply, zero_add_one _ _ (by rw [val_main_cst_5_apply, zero_word]), val_main_v63_apply, e62, addf_coe]
  have a0 : (idx_main_v66 (idx_main_v67 i 0) 0).val = (i 0).val := by dsimp only [idx_main_v66, idx_main_v67, Fin.val_zero]; omega
  have a1 : (idx_main_v66 (idx_main_v67 i 0) 1).val = (i 1).val := by dsimp only [idx_main_v66, idx_main_v67, Fin.val_zero]; omega
  have a2 : (idx_main_v66 (idx_main_v67 i 0) 2).val = (i 2).val := by dsimp only [idx_main_v66, idx_main_v67, Fin.val_zero]; omega
  have b0 : (idx_main_v63 (idx_main_v68 i 0) 0).val = (i 0).val := by dsimp only [idx_main_v63, idx_main_v68, Fin.val_zero]; omega
  have b1 : (idx_main_v63 (idx_main_v68 i 0) 1).val = (i 1).val := by dsimp only [idx_main_v63, idx_main_v68, Fin.val_zero]; omega
  have b2 : (idx_main_v63 (idx_main_v68 i 0) 2).val = (i 2).val := by dsimp only [idx_main_v63, idx_main_v68, Fin.val_zero]; omega
  rw [a0, a1, a2, b0, b1, b2, Finset.sum_neg_distrib, neg_add_eq_sub]

/-- The same, one column per head. -/
theorem dcumh_val (h : Ins I x0 x1 x2 x3 x4) (i) : val_main_v70 (F := Ideal) x0 x1 x2 x3 x4 i
    = ((∑ s ∈ range I.L, I.wq (i 0).val s (i 1).val - ∑ l ∈ range I.L, I.wq l (i 0).val (i 1).val : ℝ) : EReal) := by
  have h1 : (i 1).val < 16 := (i 1).isLt
  rw [val_main_v70_apply, dcum_val h]
  have a0 : (idx_main_v70 i 0).val = (i 0).val := by dsimp only [idx_main_v70]; omega
  have a1 : 8 * (idx_main_v70 i 1).val + (idx_main_v70 i 2).val = (i 1).val := by dsimp only [idx_main_v70]; omega
  rw [a0, a1]

/-- The gradient of the log decays. -/
theorem du_val (h : Ins I x0 x1 x2 x3 x4) (i) : val_main_v71 (F := Ideal) x0 x1 x2 x3 x4 i = ((I.du (i 0).val (i 1).val : ℝ) : EReal) := by
  have h0 : (i 0).val < 4096 := (i 0).isLt
  rw [← I.du_eq (i 0).val (i 1).val (by rw [h.hL]; omega)]
  refine (cumsum_up _ (fun r c => ∑ s ∈ range I.L, I.wq r s c - ∑ l ∈ range I.L, I.wq l r c) (dcumh_val h) _ (fun j => by
    rw [val_main_call4_call0_v0_apply, val_main_call4_call0_cst_apply, zero_word]) _ _ i).trans ?_
  rw [h.hL]

/-- The gradient of the step sizes. -/
theorem ddt_val (h : Ins I x0 x1 x2 x3 x4) (i) : val_main_v84 (F := Ideal) x0 x1 x2 x3 x4 i = ((I.ddt (i 0).val (i 1).val : ℝ) : EReal) := by
  have h1 : (i 1).val < 16 := (i 1).isLt
  have e78 : ∀ j, val_main_v78 (F := Ideal) x0 x1 x2 x3 x4 j = ((∑ p ∈ range 64, I.dxg (j 0).val (64 * (8 * (j 1).val + (j 2).val) + p)
      * I.xc (j 0).val (64 * (8 * (j 1).val + (j 2).val) + p) : ℝ) : EReal) := fun j => by
    rw [val_main_v78_apply, val_main_cst_7_apply, zero_word, EReal.coe_zero, zero_add]
    refine (Finset.sum_congr rfl fun k _ => ?_).trans (sum_coe (fun p => I.dxg (j 0).val (64 * (8 * (j 1).val + (j 2).val) + p)
      * I.xc (j 0).val (64 * (8 * (j 1).val + (j 2).val) + p)))
    rw [val_main_v77_apply, x_val h, dxg_val h, mulf_coe, mul_comm]
  rw [val_main_v84_apply, val_main_v73_apply, val_main_v72_apply, a_val h, du_val h, val_main_v83_apply, val_main_v82_apply,
    zero_add_one _ _ (by rw [val_main_cst_8_apply, zero_word]), val_main_v79_apply, e78, mulf_coe, addf_coe, Inp.ddt]
  have a0 : (idx_main_v79 (idx_main_v82 (idx_main_v83 i) 0) 0).val = (i 0).val := by
    dsimp only [idx_main_v79, idx_main_v82, idx_main_v83, Fin.val_zero]; omega
  have a1 : 8 * (idx_main_v79 (idx_main_v82 (idx_main_v83 i) 0) 1).val + (idx_main_v79 (idx_main_v82 (idx_main_v83 i) 0) 2).val = (i 1).val := by
    dsimp only [idx_main_v79, idx_main_v82, idx_main_v83, Fin.val_zero]; omega
  rw [a0, a1]

/-- The gradient of the step sizes before the softplus. -/
theorem draw_val (h : Ins I x0 x1 x2 x3 x4) (i) : val_main_v87 (F := Ideal) x0 x1 x2 x3 x4 i = ((I.draw (i 0).val (i 1).val : ℝ) : EReal) := by
  rw [val_main_v87_apply, ddt_val h, sig_val h, mulf_coe, Inp.draw]

/-- The gradient of the input through the scaled values. -/
theorem dx_val (h : Ins I x0 x1 x2 x3 x4) (i) : val_main_v96 (F := Ideal) x0 x1 x2 x3 x4 i
    = ((I.dxg (i 0).val (i 1).val * I.dt (i 0).val ((i 1).val / 64) : ℝ) : EReal) := by
  have h1 : (i 1).val < 1024 := (i 1).isLt
  rw [val_main_v96_apply, val_main_v81_apply, dxg_val h, val_main_v80_apply, val_main_v14_apply, dtg_val h, mulf_coe]
  have a0 : (idx_main_v96 i 0).val = (i 0).val := by dsimp only [idx_main_v96]; omega
  have a1 : 8 * (idx_main_v96 i 1).val + (idx_main_v96 i 2).val = (i 1).val / 64 := by dsimp only [idx_main_v96]; omega
  have a3 : (idx_main_v96 i 3).val = (i 1).val % 64 := by dsimp only [idx_main_v96]; omega
  rw [a1, a3, a0, Nat.div_add_mod]

end Ssd.Ref
-- ==== Proof.RefOut.lean ====
module

public import proofs.«01_k».proof.Proof.RefValue

/-!
# The reference's four results on real inputs
-/

@[expose] public section

set_option maxRecDepth 16384

noncomputable section

namespace Ssd.Ref

open Idealize.ShloMosaic Idealize.ShloMosaic.Routing Cert.ReferenceIdeal Cert.ReferenceIdeal.Gen Cert.ReferenceIdeal.Read
open Finset (range)

variable {I : Inp} {x0 : (⟨S4096x1536, .f32⟩ : BufTy).Contents (Elt Ideal)} {x1 : (⟨S4096x6144, .f32⟩ : BufTy).Contents (Elt Ideal)}
  {x2 x3 : (⟨S1x16, .f32⟩ : BufTy).Contents (Elt Ideal)} {x4 : (⟨S4096x1024, .f32⟩ : BufTy).Contents (Elt Ideal)}

/-- A matrix set into a larger one of zeros. -/
theorem pad_coe {a b c d lo0 lo1 hi0 hi1 : ℕ} (x : (shape2 a b).Idx → EReal) (f : ℕ → ℕ → ℝ) (hx : ∀ i, x i = ((f (i 0).val (i 1).val : ℝ) : EReal))
    (v : shape0.Idx → EReal) (hv : ∀ i, v i = ((0 : ℝ) : EReal)) (h : (shape2 a b).Pads ![lo0, lo1] ![hi0, hi1] ![0, 0] (shape2 c d))
    (hu : 0 < shape0.numel) (i : (shape2 c d).Idx) :
    pad (shape2 c d) ![lo0, lo1] ![hi0, hi1] ![0, 0] x v h hu i
      = ((if lo0 ≤ (i 0).val ∧ (i 0).val - lo0 < a ∧ lo1 ≤ (i 1).val ∧ (i 1).val - lo1 < b
          then f ((i 0).val - lo0) ((i 1).val - lo1) else 0 : ℝ) : EReal) := by
  unfold pad
  split
  · next hin =>
    have h0 : lo0 ≤ (i 0).val ∧ ((i 0).val - lo0) % 1 = 0 ∧ ((i 0).val - lo0) / 1 < a := hin 0
    have h1 : lo1 ≤ (i 1).val ∧ ((i 1).val - lo1) % 1 = 0 ∧ ((i 1).val - lo1) / 1 < b := hin 1
    rw [hx, if_pos (by omega)]
    exact at2 f (Nat.div_one _) (Nat.div_one _)
  · next hin =>
    rw [hv, if_neg]
    intro hc
    refine hin fun k => ?_
    match k with
    | ⟨0, _⟩ =>
      show lo0 ≤ (i 0).val ∧ ((i 0).val - lo0) % 1 = 0 ∧ ((i 0).val - lo0) / 1 < a
      omega
    | ⟨1, _⟩ =>
      show lo1 ≤ (i 1).val ∧ ((i 1).val - lo1) % 1 = 0 ∧ ((i 1).val - lo1) / 1 < b
      omega

/-- The first result: the gradient of the convolution's output. -/
theorem dxc_val (h : Ins I x0 x1 x2 x3 x4) (i) : val_main_v98 (F := Ideal) x0 x1 x2 x3 x4 i = ((I.dxc (i 0).val (i 1).val : ℝ) : EReal) := by
  have h0 : (i 0).val < 4096 := (i 0).isLt
  have h1 : (i 1).val < 1536 := (i 1).isLt
  have e91 : ∀ j, val_main_v91 (F := Ideal) x0 x1 x2 x3 x4 j = ((I.dC (j 0).val ((j 1).val / 128) ((j 1).val % 128) : ℝ) : EReal) := fun j => by
    have b0 : (j 0).val < 4096 := (j 0).isLt
    have b1 : (j 1).val < 256 := (j 1).isLt
    rw [val_main_v91_apply, dC_val h]
    have a0 : (idx_main_v91 j 0).val = (j 0).val := by dsimp only [idx_main_v91]; omega
    have a1 : (idx_main_v91 j 1).val = (j 1).val / 128 := by dsimp only [idx_main_v91]; omega
    have a2 : (idx_main_v91 j 2).val = (j 1).val % 128 := by dsimp only [idx_main_v91]; omega
    rw [a0, a1, a2]
  have e93 : ∀ j, val_main_v93 (F := Ideal) x0 x1 x2 x3 x4 j = ((I.dB (j 0).val ((j 1).val / 128) ((j 1).val % 128) : ℝ) : EReal) := fun j => by
    have b0 : (j 0).val < 4096 := (j 0).isLt
    have b1 : (j 1).val < 256 := (j 1).isLt
    rw [val_main_v93_apply, dB_val h]
    have a0 : (idx_main_v93 j 0).val = (j 0).val := by dsimp only [idx_main_v93]; omega
    have a1 : (idx_main_v93 j 1).val = (j 1).val / 128 := by dsimp only [idx_main_v93]; omega
    have a2 : (idx_main_v93 j 2).val = (j 1).val % 128 := by dsimp only [idx_main_v93]; omega
    rw [a0, a1, a2]
  have p92 := pad_coe _ (fun t j => I.dC t (j / 128) (j % 128)) e91 (val_main_cst_11 (F := Ideal))
    (fun j => by rw [val_main_cst_11_apply, zero_word]) pads_S4096x256_S4096x1536_000_128000 h_S_ i
  have p94 := pad_coe _ (fun t j => I.dB t (j / 128) (j % 128)) e93 (val_main_cst_12 (F := Ideal))
    (fun j => by rw [val_main_cst_12_apply, zero_word]) pads_S4096x256_S4096x1536_000_10242560 h_S_ i
  have p97 := pad_coe _ (fun t j => I.dxg t j * I.dt t (j / 64)) (dx_val h) (val_main_cst_13 (F := Ideal))
    (fun j => by rw [val_main_cst_13_apply, zero_word]) pads_S4096x1024_S4096x1536_000_05120 h_S_ i
  have q92 : val_main_v92 (F := Ideal) x0 x1 x2 x3 x4 i = _ := p92
  have q94 : val_main_v94 (F := Ideal) x0 x1 x2 x3 x4 i = _ := p94
  have q97 : val_main_v97 (F := Ideal) x0 x1 x2 x3 x4 i = _ := p97
  rw [val_main_v98_apply, val_main_v95_apply, q92, q94, q97, addf_coe, addf_coe, Inp.dxc]
  refine congrArg (fun r : ℝ => (r : EReal)) ?_
  by_cases c1 : (i 1).val < 1024
  · rw [if_neg (by omega), if_neg (by omega), if_pos (by omega), if_pos c1, zero_add, zero_add]
    rfl
  · rw [if_neg c1]
    by_cases c2 : (i 1).val < 1280
    · rw [if_neg (by omega), if_pos (by omega), if_neg (by omega), if_pos c2, zero_add, add_zero]
      rfl
    · rw [if_pos (by omega), if_neg (by omega), if_neg (by omega), if_neg c2, add_zero, add_zero]
      rfl

/-- The second result: the gradient of the step sizes' columns. -/
theorem ddtTile_val (h : Ins I x0 x1 x2 x3 x4) (i) : val_main_v90 (F := Ideal) x0 x1 x2 x3 x4 i = ((I.ddtTile (i 0).val (i 1).val : ℝ) : EReal) := by
  have h0 : (i 0).val < 4096 := (i 0).isLt
  have p90 := pad_coe _ I.draw (draw_val h) (val_main_cst_10 (F := Ideal))
    (fun j => by rw [val_main_cst_10_apply, zero_word]) pads_S4096x16_S4096x128_000_01120 h_S_ i
  refine Eq.trans (show val_main_v90 (F := Ideal) x0 x1 x2 x3 x4 i = _ from p90) ?_
  refine congrArg (fun r : ℝ => (r : EReal)) ?_
  unfold Inp.ddtTile
  by_cases c : (i 1).val < 16
  · rw [if_pos (by omega), if_pos c]
    rfl
  · rw [if_neg (by omega), if_neg c]

/-- The row of the gradient of `a_log`. -/
theorem row0_val (h : Ins I x0 x1 x2 x3 x4) (i) : val_main_v107 (F := Ideal) x0 x1 x2 x3 x4 i = ((I.st 0 (i 1).val : ℝ) : EReal) := by
  have b0 : (i 0).val < 1 := (i 0).isLt
  have b1 : (i 1).val < 1024 := (i 1).isLt
  have e75 : ∀ j, val_main_v75 (F := Ideal) x0 x1 x2 x3 x4 j = ((∑ t ∈ range I.L, I.dt t (j 0).val * I.du t (j 0).val : ℝ) : EReal) := fun j => by
    rw [val_main_v75_apply, val_main_cst_6_apply, zero_word, EReal.coe_zero, zero_add, h.hL]
    refine (Finset.sum_congr rfl fun k _ => ?_).trans (sum_coe (n := 4096) (fun t => I.dt t (j 0).val * I.du t (j 0).val))
    rw [val_main_v74_apply, du_val h, dt_val h, mulf_coe, mul_comm]
  have e11 : ∀ j, val_main_v11 (F := Ideal) x3 j = ((Real.exp (I.al (j 1).val) : ℝ) : EReal) := fun j => by
    rw [val_main_v11_apply, h.x3, exp_coe]
  rw [val_main_v107_apply, val_main_v106_apply, val_main_v86_apply, val_main_v85_apply, val_main_v76_apply, e75, e11, negf_coe, mulf_coe]
  have a0 : (idx_main_v76 (idx_main_v106 (idx_main_v107 i)) 0).val = (i 1).val / 64 := by
    dsimp only [idx_main_v76, idx_main_v106, idx_main_v107]; omega
  have a1 : (idx_main_v106 (idx_main_v107 i) 1).val = (i 1).val / 64 := by dsimp only [idx_main_v106, idx_main_v107]; omega
  rw [a0, a1]
  refine congrArg (fun r : ℝ => (r : EReal)) ?_
  rw [Inp.st, if_pos rfl, Inp.a]
  ring

/-- The row of the gradient of `dt_bias`. -/
theorem row1_val (h : Ins I x0 x1 x2 x3 x4) (i) : val_main_v109 (F := Ideal) x0 x1 x2 x3 x4 i = ((I.st 1 (i 1).val : ℝ) : EReal) := by
  have b0 : (i 0).val < 1 := (i 0).isLt
  have b1 : (i 1).val < 1024 := (i 1).isLt
  have e88 : ∀ j, val_main_v88 (F := Ideal) x0 x1 x2 x3 x4 j = ((∑ t ∈ range I.L, I.draw t (j 0).val : ℝ) : EReal) := fun j => by
    rw [val_main_v88_apply, val_main_cst_9_apply, zero_word, EReal.coe_zero, zero_add, h.hL]
    refine (Finset.sum_congr rfl fun k _ => ?_).trans (sum_coe (n := 4096) (fun t => I.draw t (j 0).val))
    rw [draw_val h]
  rw [val_main_v109_apply, val_main_v108_apply, val_main_v89_apply, e88]
  have a0 : (idx_main_v89 (idx_main_v108 (idx_main_v109 i)) 0).val = (i 1).val / 64 := by
    dsimp only [idx_main_v89, idx_main_v108, idx_main_v109]; omega
  rw [a0, Inp.st, if_neg (by omega), if_pos rfl]

/-- The row of the gradient of the skip weight. -/
theorem row2_val (h : Ins I x0 x1 x2 x3 x4) (i) : val_main_v105 (F := Ideal) x0 x4 i = ((I.st 2 (i 1).val : ℝ) : EReal) := by
  have b0 : (i 0).val < 1 := (i 0).isLt
  have b1 : (i 1).val < 1024 := (i 1).isLt
  have e104 : ∀ j, val_main_v104 (F := Ideal) x0 x4 j = ((∑ t ∈ range I.L, I.dy t (j 0).val * I.xc t (j 0).val : ℝ) : EReal) := fun j => by
    rw [val_main_v104_apply, val_main_cst_15_apply, zero_word, EReal.coe_zero, zero_add, h.hL]
    refine (Finset.sum_congr rfl fun k _ => ?_).trans (sum_coe (n := 4096) (fun t => I.dy t (j 0).val * I.xc t (j 0).val))
    rw [val_main_v103_apply, val_main_v100_apply, h.x4, h.x0, mulf_coe]
  rw [val_main_v105_apply, e104]
  have a0 : (idx_main_v105 i 0).val = (i 1).val := by dsimp only [idx_main_v105]; omega
  rw [a0, Inp.st, if_neg (by omega), if_neg (by omega), if_pos rfl]

/-- The three rows. -/
theorem rows_val (h : Ins I x0 x1 x2 x3 x4) (i) : val_main_v110 (F := Ideal) x0 x1 x2 x3 x4 i = ((I.st (i 0).val (i 1).val : ℝ) : EReal) := by
  have h0 : (i 0).val < 3 := (i 0).isLt
  have piece : ∀ (k : ℕ) (hk : k < 3) (x : S1x1024.Idx → EReal) (hx : ([(⟨S1x1024, val_main_v107 (F := Ideal) x0 x1 x2 x3 x4⟩ : (s : Shape) × (s.Idx → EReal)),
      ⟨S1x1024, val_main_v109 (F := Ideal) x0 x1 x2 x3 x4⟩, ⟨S1x1024, val_main_v105 (F := Ideal) x0 x4⟩])[k] = ⟨S1x1024, x⟩)
      (hv : ∀ j, x j = ((I.st k (j 1).val : ℝ) : EReal)), (i 0).val = k →
      val_main_v110 (F := Ideal) x0 x1 x2 x3 x4 i = ((I.st (i 0).val (i 1).val : ℝ) : EReal) := fun k hk x hx hv hi => by
    rw [hi]
    refine (concatenate_apply_piece (t := S3x1024) 0 [(⟨S1x1024, val_main_v107 (F := Ideal) x0 x1 x2 x3 x4⟩ : (s : Shape) × (s.Idx → EReal)),
      ⟨S1x1024, val_main_v109 (F := Ideal) x0 x1 x2 x3 x4⟩, ⟨S1x1024, val_main_v105 (F := Ideal) x0 x4⟩]
      concatenates_S1x1024_S1x1024_S1x1024_S3x1024_d0 i k hk S1x1024 x hx rfl k ?_
      (ix2 0 (i 1)) ?_ ?_).trans (hv _)
    · obtain rfl | rfl | rfl : k = 0 ∨ k = 1 ∨ k = 2 := by omega
      all_goals rfl
    · intro b hb
      match b with
      | ⟨0, _⟩ => exact absurd rfl hb
      | ⟨1, _⟩ => rfl
    · show k + 0 = (i 0).val
      omega
  obtain c | c | c : (i 0).val = 0 ∨ (i 0).val = 1 ∨ (i 0).val = 2 := by omega
  · exact piece 0 (by omega) _ rfl (row0_val h) c
  · exact piece 1 (by omega) _ rfl (row1_val h) c
  · exact piece 2 (by omega) _ rfl (row2_val h) c

/-- The third result: the three rows in a tile of eight. -/
theorem st_val (h : Ins I x0 x1 x2 x3 x4) (i) : val_main_v111 (F := Ideal) x0 x1 x2 x3 x4 i = ((I.st (i 0).val (i 1).val : ℝ) : EReal) := by
  have h1 : (i 1).val < 1024 := (i 1).isLt
  have p := pad_coe _ I.st (rows_val h) (val_main_call6_v0 (F := Ideal))
    (fun j => by
      show FloatOps.sitofp (F := Ideal) .f32 (0#32) = _
      exact (sitofp_bit false).trans (by simp)) pads_S3x1024_S8x1024_050_000 h_S_ i
  refine Eq.trans (show val_main_v111 (F := Ideal) x0 x1 x2 x3 x4 i = _ from p) ?_
  refine congrArg (fun r : ℝ => (r : EReal)) ?_
  by_cases c : (i 0).val < 3
  · rw [if_pos (by omega)]
    rfl
  · rw [if_neg (by omega), Inp.st, if_neg (by omega), if_neg (by omega), if_neg (by omega)]

/-- The fourth result: the sums over each head's lanes. -/
theorem hs_val (h : Ins I x0 x1 x2 x3 x4) (i) : val_main_v115 (F := Ideal) x0 x1 x2 x3 x4 i = ((I.hs (i 0).val (i 1).val : ℝ) : EReal) := by
  have h0 : (i 0).val < 8 := (i 0).isLt
  have h1 : (i 1).val < 1024 := (i 1).isLt
  have e112 : ∀ j, val_main_v112 (F := Ideal) x0 x1 x2 x3 x4 j = ((I.st (j 0).val (64 * (j 1).val + (j 2).val) : ℝ) : EReal) := fun j => by
    have b0 : (j 0).val < 8 := (j 0).isLt
    have b1 : (j 1).val < 16 := (j 1).isLt
    have b2 : (j 2).val < 64 := (j 2).isLt
    rw [val_main_v112_apply, st_val h]
    refine at2 _ ?_ ?_ <;> dsimp only [idx_main_v112] <;> omega
  have e113 : ∀ j, val_main_v113 (F := Ideal) x0 x1 x2 x3 x4 j = ((∑ p ∈ range 64, I.st (j 0).val (64 * (j 1).val + p) : ℝ) : EReal) := fun j => by
    rw [val_main_v113_apply, val_main_cst_16_apply, zero_word, EReal.coe_zero, zero_add]
    refine (Finset.sum_congr rfl fun k _ => ?_).trans (sum_coe (fun p => I.st (j 0).val (64 * (j 1).val + p)))
    rw [e112]
  rw [val_main_v115_apply, val_main_v114_apply, e113, Inp.hs]
  have a0 : (idx_main_v114 (idx_main_v115 i) 0).val = (i 0).val := by dsimp only [idx_main_v114, idx_main_v115]; omega
  have a1 : (idx_main_v114 (idx_main_v115 i) 1).val = (i 1).val / 64 := by dsimp only [idx_main_v114, idx_main_v115]; omega
  rw [a0, a1]

end Ssd.Ref
-- ==== Proof.Host.lean ====
module

public import proofs.«01_k».proof.Proof.Grid
public import proofs.«01_k».proof.Proof.RefOut
public import Idealize.ShloMosaic.Lib.StableHlo.RunRead
public import Idealize.ShloMosaic.Lib.Pointwise

/-!
# What the kernel's host code hands to the grid
-/

@[expose] public section

set_option maxRecDepth 16384

noncomputable section

namespace Ssd

open Idealize.ShloMosaic Idealize.ShloMosaic.TcCoe Cert.KernelIdeal Cert.KernelIdeal.Gen

variable (m : (l : Loc nD τ Cert.KernelIdeal.sig) → Buf (Elt Ideal) l) (c : Dev nD)

/-- The running log decays of the steps before each block. -/
def before (a : FVec Ideal S4096x2x8 .f32) : FVec Ideal S32x2x8 .f32 :=
  concatenate S32x2x8 0 [⟨S1x2x8, broadcastInDim S1x2x8 ![] bcast_S_S1x2x8 (constant (F := Ideal) S_ .f32 0x00000000#32)⟩,
    ⟨S31x2x8, Host.slice S31x2x8 ![127, 0, 0] ![128, 1, 1] a slicesBy_S4096x2x8_S31x2x8_127s128_0s1_0s1⟩] concatenates_S1x2x8_S31x2x8_S32x2x8_d0

/-- Which steps come before each block. -/
def earlier : IVec S32x4096 1 :=
  cmpi .slt (broadcastInDim S32x4096 ![0, 1] bcast_S1x4096_S32x4096_0_1 (broadcastInDim S1x4096 ![1] bcast_S4096_S1x4096_1 (iotaInDim S4096 32 0)))
    (broadcastInDim S32x4096 ![0, 1] bcast_S32x1_S32x4096_0_1 (muli (broadcastInDim S32x1 ![] bcast_S_S32x1 (constantI S_ 32 128#32))
      (broadcastInDim S32x1 ![0] bcast_S32_S32x1_0 (iotaInDim S32 32 0))))

/-- The decays from each earlier step into each block. -/
def decayIn (a : FVec Ideal S4096x2x8 .f32) : FVec Ideal S32x4096x2x8 .f32 :=
  Host.exp (select (broadcastInDim S32x4096x2x8 ![0, 1, 2, 3] bcast_S32x4096x1x1_S32x4096x2x8_0_1_2_3
      (broadcastInDim S32x4096x1x1 ![0, 1] bcast_S32x4096_S32x4096x1x1_0_1 earlier))
    (subf (broadcastInDim S32x4096x2x8 ![0, 1, 2, 3] bcast_S32x1x2x8_S32x4096x2x8_0_1_2_3 (broadcastInDim S32x1x2x8 ![0, 2, 3] bcast_S32x2x8_S32x1x2x8_0_2_3 (before a)))
      (broadcastInDim S32x4096x2x8 ![0, 1, 2, 3] bcast_S1x4096x2x8_S32x4096x2x8_0_1_2_3 (broadcastInDim S1x4096x2x8 ![1, 2, 3] bcast_S4096x2x8_S1x4096x2x8_1_2_3 a)))
    (broadcastInDim S32x4096x2x8 ![] bcast_S_S32x4096x2x8 (id (constant (F := Ideal) S_ .f32 0xFF800000#32))))

/-- The states the blocks begin with. -/
def states (a : FVec Ideal S4096x2x8 .f32) (x : FVec Ideal S4096x2x8x64 .f32) (B : FVec Ideal S4096x2x128 .f32) : FVec Ideal S32x128x1024 .f32 :=
  shapeCast S32x128x1024 (transpose S32x128x2x8x64 [1, 4, 0, 2, 3] (Host.dotGeneral dot_S32x4096x2x8x64_S4096x2x128_S2x32x8x64x128_1_0_034_2_2_1 none
    (mulf (broadcastInDim S32x4096x2x8x64 ![0, 1, 2, 3, 4] bcast_S32x4096x2x8x1_S32x4096x2x8x64_0_1_2_3_4
        (broadcastInDim S32x4096x2x8x1 ![0, 1, 2, 3] bcast_S32x4096x2x8_S32x4096x2x8x1_0_1_2_3 (decayIn a)))
      (broadcastInDim S32x4096x2x8x64 ![0, 1, 2, 3, 4] bcast_S1x4096x2x8x64_S32x4096x2x8x64_0_1_2_3_4
        (broadcastInDim S1x4096x2x8x64 ![1, 2, 3, 4] bcast_S4096x2x8x64_S1x4096x2x8x64_1_2_3_4 x))) B)
    transposes_S2x32x8x64x128_S32x128x2x8x64_1_4_0_2_3) shapeCasts_S32x128x2x8x64_S32x128x1024

/-- The running log decays before a block, on real inputs. -/
theorem before_val {I : Inp} {a : FVec Ideal S4096x2x8 .f32} (ha : ∀ i, a i = ((I.cum ((i 0).val + 1) (8 * (i 1).val + (i 2).val) : ℝ) : EReal))
    (i : S32x2x8.Idx) : before a i = ((I.cum (128 * (i 0).val) (8 * (i 1).val + (i 2).val) : ℝ) : EReal) := by
  have e : before a i = if h : (i 0).val < 1 then 0 else a (ix3 ⟨127 + 128 * ((i 0).val - 1), by
      have h0 : (i 0).val < 32 := (i 0).isLt
      omega⟩ (i 1) (i 2)) := by
    pointwise [before]
  rw [e]
  split
  · next h =>
    rw [show (i 0).val = 0 by omega, Nat.mul_zero, Inp.cum, Finset.range_zero, Finset.sum_empty, EReal.coe_zero]
  · next h =>
    rw [ha]
    refine Ref.at2 I.cum ?_ rfl
    show 127 + 128 * ((i 0).val - 1) + 1 = 128 * (i 0).val
    omega

/-- The steps before a block. -/
theorem earlier_val (i : S32x4096.Idx) : earlier i = BitVec.ofBool (decide ((i 1).val < 128 * (i 0).val)) := by
  have h0 : (i 0).val < 32 := (i 0).isLt
  have h1 : (i 1).val < 4096 := (i 1).isLt
  have e : earlier i = IntOp.cmpi .slt (BitVec.ofNat 32 (i 1).val) (IntOp.muli (128#32) (BitVec.ofNat 32 (i 0).val)) := by
    pointwise [earlier]
  rw [e, show IntOp.muli (128#32) (BitVec.ofNat 32 (i 0).val) = BitVec.ofNat 32 (128 * (i 0).val) from (BitVec.ofNat_mul ..).symm]
  exact cmpi_slt (by omega) (by omega)

/-- The decays into a block, on real inputs. -/
theorem decayIn_val {I : Inp} {a : FVec Ideal S4096x2x8 .f32} (ha : ∀ i, a i = ((I.cum ((i 0).val + 1) (8 * (i 1).val + (i 2).val) : ℝ) : EReal))
    (i : S32x4096x2x8.Idx) : decayIn a i = ((if (i 1).val < 128 * (i 0).val then
      Real.exp (I.cum (128 * (i 0).val) (8 * (i 2).val + (i 3).val) - I.cum ((i 1).val + 1) (8 * (i 2).val + (i 3).val)) else 0 : ℝ) : EReal) := by
  have e : decayIn a i = Ideal.exp (Scalar.select (earlier (ix2 (i 0) (i 1))) (before a (ix3 (i 0) (i 2) (i 3)) - a (ix3 (i 1) (i 2) (i 3)))
        (id (constant (F := Ideal) S_ FTy.f32 0xFF800000#32) ix0)) := by
    pointwise [decayIn]
  have e0 : (id (constant (F := Ideal) S_ FTy.f32 0xFF800000#32) ix0 : EReal) = ⊥ := ofBits_bot
  have he : earlier (ix2 (i 0) (i 1)) = BitVec.ofBool (decide ((i 1).val < 128 * (i 0).val)) := earlier_val _
  rw [e, e0, he, before_val ha, ha, ← EReal.coe_sub]
  by_cases h : (i 1).val < 128 * (i 0).val
  · rw [if_pos h, decide_eq_true h]
    rfl
  · rw [if_neg h, decide_eq_false h]
    exact Ref.exp_bot

/-- The states the blocks begin with, on real inputs. -/
theorem states_val {I : Inp} {a : FVec Ideal S4096x2x8 .f32} {x : FVec Ideal S4096x2x8x64 .f32} {B : FVec Ideal S4096x2x128 .f32}
    (ha : ∀ i, a i = ((I.cum ((i 0).val + 1) (8 * (i 1).val + (i 2).val) : ℝ) : EReal))
    (hx : ∀ i, x i = ((I.xg (i 0).val (64 * (8 * (i 1).val + (i 2).val) + (i 3).val) : ℝ) : EReal))
    (hB : ∀ i, B i = ((I.B (i 0).val (i 1).val (i 2).val : ℝ) : EReal)) (i : S32x128x1024.Idx) :
    states a x B i = ((I.S (128 * (i 0).val) (i 1).val (i 2).val : ℝ) : EReal) := by
  have h0 : (i 0).val < 32 := (i 0).isLt
  have h2 : (i 2).val < 1024 := (i 2).isLt
  have e : states a x B i = ∑ s : Fin 4096, decayIn a (ix4 (i 0) s ⟨(i 2).val / 512, by omega⟩ ⟨(i 2).val / 64 % 8, by omega⟩) *
          x (ix4 s ⟨(i 2).val / 512, by omega⟩ ⟨(i 2).val / 64 % 8, by omega⟩ ⟨(i 2).val % 64, by omega⟩) *
        B (ix3 s ⟨(i 2).val / 512, by omega⟩ (i 1)) := by
    pointwise [states]
  rw [e]
  have hj : 8 * ((i 2).val / 512) + (i 2).val / 64 % 8 = (i 2).val / 64 := by omega
  have hk : 64 * ((i 2).val / 64) + (i 2).val % 64 = (i 2).val := by omega
  refine (Finset.sum_congr rfl fun s _ => ?_).trans ((sum_coe (n := 4096) (fun s => (if s < 128 * (i 0).val then
    Real.exp (I.cum (128 * (i 0).val) ((i 2).val / 64) - I.cum (s + 1) ((i 2).val / 64)) else 0) * I.xg s (i 2).val
      * I.B s ((i 2).val / 512) (i 1).val)).trans ?_)
  · rw [decayIn_val ha, hx, hB, ← EReal.coe_mul, ← EReal.coe_mul]
    refine congrArg (fun r : ℝ => (r : EReal)) ?_
    show (if s.val < 128 * (i 0).val then Real.exp (I.cum (128 * (i 0).val) (8 * ((i 2).val / 512) + (i 2).val / 64 % 8)
      - I.cum (s.val + 1) (8 * ((i 2).val / 512) + (i 2).val / 64 % 8)) else 0)
      * I.xg s.val (64 * (8 * ((i 2).val / 512) + (i 2).val / 64 % 8) + (i 2).val % 64) * I.B s.val ((i 2).val / 512) (i 1).val = _
    rw [hj, hk]
  · refine congrArg (fun r : ℝ => (r : EReal)) ?_
    rw [Inp.S, ← Finset.sum_subset (Finset.range_mono (show 128 * (i 0).val ≤ 4096 by omega))]
    · refine Finset.sum_congr rfl fun s hs => ?_
      rw [if_pos (Finset.mem_range.mp hs)]
      ring
    · intro s _ hs
      rw [if_neg (by simpa using hs), zero_mul, zero_mul]

/-- The lanes of each head, counted by the host's division rounded down. -/
def headOf : IVec S1x1024 32 :=
  let j : IVec S1x1024 32 := broadcastInDim S1x1024 ![1] bcast_S1024_S1x1024_1 (iotaInDim S1024 32 0)
  let d : IVec S1x1024 32 := broadcastInDim S1x1024 ![] bcast_S_S1x1024 (id (constantI S_ 32 64#32))
  select (andi (cmpi .ne (signi j) (broadcastInDim S1x1024 ![] bcast_S_S1x1024 (signi (id (constantI S_ 32 64#32)))))
      (cmpi .ne (Host.remsi j d) (broadcastInDim S1x1024 ![] bcast_S_S1x1024 (constantI S_ 32 0#32))))
    (subi (Host.divsi j d) (broadcastInDim S1x1024 ![] bcast_S_S1x1024 (constantI S_ 32 1#32))) (Host.divsi j d)

/-- The matrix that spreads a head's number over its lanes. -/
def spread : FVec Ideal S128x1024 .bf16 :=
  uitofp .bf16 (cmpi .eq (broadcastInDim S128x1024 ![0, 1] bcast_S128x1_S128x1024_0_1 (broadcastInDim S128x1 ![0] bcast_S128_S128x1_0 (iotaInDim S128 32 0)))
    (broadcastInDim S128x1024 ![0, 1] bcast_S1x1024_S128x1024_0_1 headOf))

/-- The lane's head is its place over 64. -/
theorem headOf_val (i : S1x1024.Idx) : headOf i = BitVec.ofNat 32 ((i 1).val / 64) := by
  have e : headOf i = Scalar.select
      (IntOp.andi
        (IntOp.cmpi .ne (if BitVec.ofNat 32 (i 1).val = 0 then (0 : BitVec 32) else if (BitVec.ofNat 32 (i 1).val).msb = true then -1 else 1)
          (if (64#32) = 0 then 0 else if (64#32).msb = true then -1 else 1))
        (IntOp.cmpi .ne (IntOp.remsi ArithUnit.host (BitVec.ofNat 32 (i 1).val) (64#32)) 0#32))
      (IntOp.subi (IntOp.divsi ArithUnit.host (BitVec.ofNat 32 (i 1).val) (64#32)) 1#32)
      (IntOp.divsi ArithUnit.host (BitVec.ofNat 32 (i 1).val) (64#32)) := by
    pointwise [headOf]
    rfl
  rw [e]
  have all : ∀ j : Fin 1024, Scalar.select
      (IntOp.andi
        (IntOp.cmpi .ne (if BitVec.ofNat 32 j.val = 0 then (0 : BitVec 32) else if (BitVec.ofNat 32 j.val).msb = true then -1 else 1)
          (if (64#32) = 0 then 0 else if (64#32).msb = true then -1 else 1))
        (IntOp.cmpi .ne (IntOp.remsi ArithUnit.host (BitVec.ofNat 32 j.val) (64#32)) 0#32))
      (IntOp.subi (IntOp.divsi ArithUnit.host (BitVec.ofNat 32 j.val) (64#32)) 1#32)
      (IntOp.divsi ArithUnit.host (BitVec.ofNat 32 j.val) (64#32)) = BitVec.ofNat 32 (j.val / 64) := by
    decide +kernel
  exact all (i 1)

/-- The spreading matrix is one at a head's own lanes. -/
theorem spread_val (i : S128x1024.Idx) : spread i = ((E (i 0).val (i 1).val : ℝ) : EReal) := by
  have h0 : (i 0).val < 128 := (i 0).isLt
  have h1 : (i 1).val < 1024 := (i 1).isLt
  have e : spread i = FloatOps.uitofp (F := Ideal) FTy.bf16 (IntOp.cmpi .eq (BitVec.ofNat 32 (i 0).val) (headOf (ix2 0 (i 1)))) := by
    pointwise [spread]
  have hh : headOf (ix2 0 (i 1)) = BitVec.ofNat 32 ((i 1).val / 64) := headOf_val _
  rw [e, hh, show IntOp.cmpi .eq (BitVec.ofNat 32 (i 0).val) (BitVec.ofNat 32 ((i 1).val / 64))
    = BitVec.ofBool (decide (BitVec.ofNat 32 (i 0).val = BitVec.ofNat 32 ((i 1).val / 64))) from rfl]
  have hd : (BitVec.ofNat 32 (i 0).val = BitVec.ofNat 32 ((i 1).val / 64)) ↔ (i 0).val = (i 1).val / 64 := by
    rw [← BitVec.toNat_inj, BitVec.toNat_ofNat, BitVec.toNat_ofNat, Nat.mod_eq_of_lt (by omega), Nat.mod_eq_of_lt (by omega)]
  by_cases h : (i 0).val = (i 1).val / 64
  · rw [decide_eq_true (hd.mpr h), E, if_pos h]
    show (((1 : ℕ) : ℝ) : EReal) = _
    rw [Nat.cast_one]
  · rw [decide_eq_false (fun q => h (hd.mp q)), E, if_neg h]
    show (((0 : ℕ) : ℝ) : EReal) = _
    rw [Nat.cast_zero]

end Ssd
-- ==== Proof.Entry.lean ====
module

public import proofs.«01_k».proof.Proof.Host

/-!
# The arrays the grid reads

The saved states, the spreading matrix, and the spread biases and decay parameters, each as the host code before the call leaves it.
-/

@[expose] public section

set_option maxRecDepth 16384

noncomputable section

namespace Ssd

open Idealize.ShloMosaic Idealize.ShloMosaic.TcCoe Cert.KernelIdeal Cert.KernelIdeal.Gen

variable (m : (l : Loc nD τ Cert.KernelIdeal.sig) → Buf (Elt Ideal) l) (c : Dev nD)

/-- What the operations up to the running log decays leave. -/
abbrev early : Valuation τ Cert.KernelIdeal.sig (Elt Ideal) :=
  StableHlo.after (hostOps0 ++ (hostOps0_1 ++ (hostOps0_2 ++ (hostOps0_3 ++ (hostOps0_4 ++ hostOps0_5))))) (fun b => m (c, b))

set_option maxHeartbeats 4000000 in
/-- The last operations make the states from the running log decays, the step inputs and the input projections. -/
theorem late_states (W : Valuation τ Cert.KernelIdeal.sig (Elt Ideal)) :
    StableHlo.after (hostOps0_6 ++ (hostOps0_7 ++ hostOps0_8)) W main_v62 =
      states (shapeCast S4096x2x8 (W main_v32) shapeCasts_S4096x16_S4096x2x8) (W main_v29) (W main_v17) := by
  after_reads_simp
  rfl

/-- The states come from what the operations before them leave. -/
theorem v62_late : V m c main_v62 = states (shapeCast S4096x2x8 (early m c main_v32) shapeCasts_S4096x16_S4096x2x8) (early m c main_v29) (early m c main_v17) := by
  rw [← late_states, early, ← StableHlo.after_append]
  rfl

set_option maxHeartbeats 4000000 in
/-- The running log decays. -/
theorem early_cum : shapeCast S4096x2x8 (early m c main_v32) shapeCasts_S4096x16_S4096x2x8 =
    Cert.ReferenceIdeal.Read.val_main_v20 (F := Ideal) (m ((c.tc : Thread nD τ).loc main_arg1)) (m ((c.tc : Thread nD τ).loc main_arg2)) (m ((c.tc : Thread nD τ).loc main_arg3)) := by
  after_reads_simp
  rfl

set_option maxHeartbeats 4000000 in
/-- The step inputs. -/
theorem early_input : early m c main_v29 =
    Cert.ReferenceIdeal.Read.val_main_v16 (F := Ideal) (m ((c.tc : Thread nD τ).loc main_arg0)) (m ((c.tc : Thread nD τ).loc main_arg1)) (m ((c.tc : Thread nD τ).loc main_arg2)) := by
  after_reads_simp
  rfl

set_option maxHeartbeats 4000000 in
/-- The input projections. -/
theorem early_proj : early m c main_v17 = Cert.ReferenceIdeal.Read.val_main_v4 (F := Ideal) (m ((c.tc : Thread nD τ).loc main_arg0)) := by
  after_reads_simp
  rfl

/-- The states that the call is handed are the closed sums over the earlier steps. -/
theorem v62_eq : V m c main_v62 = states
    (Cert.ReferenceIdeal.Read.val_main_v20 (F := Ideal) (m ((c.tc : Thread nD τ).loc main_arg1)) (m ((c.tc : Thread nD τ).loc main_arg2)) (m ((c.tc : Thread nD τ).loc main_arg3)))
    (Cert.ReferenceIdeal.Read.val_main_v16 (F := Ideal) (m ((c.tc : Thread nD τ).loc main_arg0)) (m ((c.tc : Thread nD τ).loc main_arg1)) (m ((c.tc : Thread nD τ).loc main_arg2)))
    (Cert.ReferenceIdeal.Read.val_main_v4 (F := Ideal) (m ((c.tc : Thread nD τ).loc main_arg0))) := by
  rw [v62_late, early_cum, early_input, early_proj]

set_option maxHeartbeats 4000000 in
/-- The spreading matrix as the host code leaves it. -/
theorem v12_eq : V m c main_v12 = spread := by
  show StableHlo.after (hostOps0 ++ (hostOps0_1 ++ (hostOps0_2 ++ (hostOps0_3 ++ (hostOps0_4 ++ (hostOps0_5 ++ (hostOps0_6 ++ (hostOps0_7 ++ hostOps0_8)))))))) (fun b => m (c, b)) main_v12 = _
  after_reads_simp
  rfl

/-- A row over the heads spread over the lanes. -/
def overLanes (a : FVec Ideal S1x16 .f32) : FVec Ideal S1x1024 .f32 :=
  shapeCast S1x1024 (broadcastInDim S1x16x64 ![0, 1] bcast_S1x16_S1x16x64_0_1 a) shapeCasts_S1x16x64_S1x1024

/-- A lane reads its head. -/
theorem overLanes_at (a : FVec Ideal S1x16 .f32) (i : S1x1024.Idx) : overLanes a i = a (ix2 0 ⟨(i 1).val / 64, by
    have h1 : (i 1).val < 1024 := (i 1).isLt
    omega⟩) := by
  pointwise [overLanes]

set_option maxHeartbeats 4000000 in
/-- The biases over the lanes. -/
theorem v1_eq : V m c main_v1 = overLanes (m ((c.tc : Thread nD τ).loc main_arg2)) := by
  show StableHlo.after (hostOps0 ++ (hostOps0_1 ++ (hostOps0_2 ++ (hostOps0_3 ++ (hostOps0_4 ++ (hostOps0_5 ++ (hostOps0_6 ++ (hostOps0_7 ++ hostOps0_8)))))))) (fun b => m (c, b)) main_v1 = _
  after_reads_simp
  rfl

set_option maxHeartbeats 4000000 in
/-- The decay parameters over the lanes. -/
theorem v3_eq : V m c main_v3 = overLanes (m ((c.tc : Thread nD τ).loc main_arg3)) := by
  show StableHlo.after (hostOps0 ++ (hostOps0_1 ++ (hostOps0_2 ++ (hostOps0_3 ++ (hostOps0_4 ++ (hostOps0_5 ++ (hostOps0_6 ++ (hostOps0_7 ++ hostOps0_8)))))))) (fun b => m (c, b)) main_v3 = _
  after_reads_simp
  rfl

end Ssd
-- ==== Proof.Fill.lean ====
module

public import proofs.«01_k».proof.Proof.Entry

/-!
# The blocks that the grid reads

Each block of each operand at a point of the grid, as the image of the real arrays.
-/

@[expose] public section

set_option maxRecDepth 16384

noncomputable section

namespace Ssd

open Idealize.ShloMosaic Idealize.ShloMosaic.TcCoe Cert.KernelIdeal Cert.KernelIdeal.Gen

variable (m : (l : Loc nD τ Cert.KernelIdeal.sig) → Buf (Elt Ideal) l) (c : Dev nD)

/-- Where each block of the operands begins. -/
theorem idx_in : ∀ t : Fin cfg0.N, (cfg0.win 0).index t = ![31 - t.val, 0] ∧ (cfg0.win 1).index t = ![31 - t.val, 12]
    ∧ (cfg0.win 2).index t = ![0, 0] ∧ (cfg0.win 3).index t = ![0, 0] ∧ (cfg0.win 4).index t = ![0, 0]
    ∧ (cfg0.win 5).index t = ![31 - t.val, 0] ∧ (cfg0.win 6).index t = ![31 - t.val, 0, 0] := by
  decide +kernel

/-- A place of a block of the first operand. -/
theorem in0_at (t : Fin cfg0.N) (y : S128x1536.Idx) (h : 128 * (31 - t.val) + (y 0).val < 4096) :
    iblk m c 0 t y = V m c main_arg0 (ix2 (⟨128 * (31 - t.val) + (y 0).val, h⟩ : Fin 4096) (y 1)) := by
  blk_ext [iblk, (idx_in t).1]

/-- A place of a block of the second operand: the step-size columns begin at 1536. -/
theorem in1_at (t : Fin cfg0.N) (y : S128x128.Idx) (h : 128 * (31 - t.val) + (y 0).val < 4096) (h1 : 1536 + (y 1).val < 6144) :
    iblk m c 1 t y = V m c main_arg1 (ix2 (⟨128 * (31 - t.val) + (y 0).val, h⟩ : Fin 4096) (⟨1536 + (y 1).val, h1⟩ : Fin 6144)) := by
  blk_ext [iblk, (idx_in t).2.1]

/-- The spreading matrix is one block. -/
theorem in2_at (t : Fin cfg0.N) (y : S128x1024.Idx) : iblk m c 2 t y = V m c main_v12 y := by
  blk_ext [iblk, (idx_in t).2.2.1]

/-- The biases are one block. -/
theorem in3_at (t : Fin cfg0.N) (y : S1x1024.Idx) : iblk m c 3 t y = V m c main_v1 y := by
  blk_ext [iblk, (idx_in t).2.2.2.1]

/-- The decay parameters are one block. -/
theorem in4_at (t : Fin cfg0.N) (y : S1x1024.Idx) : iblk m c 4 t y = V m c main_v3 y := by
  blk_ext [iblk, (idx_in t).2.2.2.2.1]

/-- A place of a block of the gradient. -/
theorem in5_at (t : Fin cfg0.N) (y : S128x1024.Idx) (h : 128 * (31 - t.val) + (y 0).val < 4096) :
    iblk m c 5 t y = V m c main_arg4 (ix2 (⟨128 * (31 - t.val) + (y 0).val, h⟩ : Fin 4096) (y 1)) := by
  blk_ext [iblk, (idx_in t).2.2.2.2.2.1]

/-- A place of a block's saved state. -/
theorem in6_at (t : Fin cfg0.N) (y : S1x128x1024.Idx) (h : 31 - t.val < 32) :
    iblk m c 6 t y = V m c main_v62 (ix3 (⟨31 - t.val, h⟩ : Fin 32) (y 1) (y 2)) := by
  blk_ext [iblk, (idx_in t).2.2.2.2.2.2]

/-- On real inputs every point of the grid reads the images of the real arrays. -/
theorem blocks {I : Inp} (h : Ref.Ins I (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (t : Fin cfg0.N) : Blocks I (128 * (31 - t.val)) (iblk m c 0 t) (iblk m c 1 t) (iblk m c 2 t) (iblk m c 3 t) (iblk m c 4 t) (iblk m c 5 t)
      (iblk m c 6 t) := by
  have ht : t.val < 32 := t.isLt
  constructor
  · rw [h.hL]
    omega
  · intro i j
    rw [in0_at m c t (ix2 i j) (show 128 * (31 - t.val) + i.val < 4096 by omega), V_main_arg0]
    exact h.x0 _
  · intro i j hj
    rw [in1_at m c t (ix2 i j) (show 128 * (31 - t.val) + i.val < 4096 by omega) (show 1536 + j.val < 6144 by omega), V_main_arg1]
    refine (h.x1 _ (show 1536 ≤ 1536 + j.val by omega) (show 1536 + j.val < 1552 by omega)).trans ?_
    exact congrArg (fun k : ℕ => ((I.tile (128 * (31 - t.val) + i.val) k : ℝ) : EReal)) (show 1536 + j.val - 1536 = j.val by omega)
  · intro i j
    rw [in2_at, v12_eq]
    exact spread_val _
  · intro i j
    rw [in3_at, v1_eq, overLanes_at]
    exact h.x2 _
  · intro i j
    rw [in4_at, v3_eq, overLanes_at]
    exact h.x3 _
  · intro i j
    rw [in5_at m c t (ix2 i j) (show 128 * (31 - t.val) + i.val < 4096 by omega), V_main_arg4]
    exact h.x4 _
  · intro n j
    rw [in6_at m c t (ix3 0 n j) (show 31 - t.val < 32 by omega), v62_eq]
    exact states_val (Ref.cumg_val h) (Ref.xg_val h) (Ref.B_val h) _

end Ssd
-- ==== Proof.Given.lean ====
module

public import proofs.«01_k».proof.Proof.Grid
public import proofs.«01_k».proof.Proof.RefOut
public import proofs.«01_k».proof.Defs
public import Idealize.ShloMosaic.Lib.Pointwise

/-!
# What the precondition gives

Every entry that the call reads is a number, so the operands are the images of real arrays.
-/

@[expose] public section

noncomputable section

namespace Ssd

open Idealize.ShloMosaic

/-- Both bits of a conjunction are set. -/
theorem both {a b : BitVec 1} (h : IntOp.andi a b = 1#1) : a = 1#1 ∧ b = 1#1 := by
  revert a b
  decide

/-- Every bit of a conjunction over a finite type is set. -/
theorem every {ι : Type} [Fintype ι] {f : ι → BitVec 1} (h : Finset.fold IntOp.andi (1#1) f Finset.univ = 1#1) (k : ι) : f k = 1#1 := by
  classical
  have all : ∀ s : Finset ι, Finset.fold IntOp.andi (1#1) f s = 1#1 → ∀ k ∈ s, f k = 1#1 := by
    intro s
    induction s using Finset.induction_on with
    | empty => simp
    | insert a s ha ih =>
      intro hs k hk
      rw [Finset.fold_insert ha] at hs
      obtain ⟨h1, h2⟩ := both hs
      rcases Finset.mem_insert.mp hk with rfl | hk
      · exact h1
      · exact ih h2 k hk
  exact all _ h k (Finset.mem_univ k)

/-- An entry whose absolute value is below infinity is a real number. -/
theorem real_of_bit {x : EReal} (h : BitVec.ofBool (decide (FloatOps.absf (F := Ideal) (φ := .f32) x < Ideal.ofBits .f32 2139095040#32)) = 1#1) :
    x = ((x.toReal : ℝ) : EReal) := by
  have hx : FloatOps.absf (F := Ideal) (φ := .f32) x < Ideal.ofBits .f32 2139095040#32 := by
    by_contra hn
    rw [decide_eq_false hn] at h
    exact absurd h (by decide)
  induction x with
  | coe r => rfl
  | bot => exact absurd (lt_of_lt_of_le hx le_top) (not_lt.mpr (le_of_eq rfl))
  | top => exact absurd (lt_of_lt_of_le hx le_top) (not_lt.mpr (le_of_eq rfl))

/-- The real entries of an array, zero outside it. -/
def entries {a b : ℕ} (x : FVec Ideal ⟨2, ![a, b]⟩ .f32) (i j : ℕ) : ℝ :=
  if h : i < a ∧ j < b then (x (ix2 (⟨i, h.1⟩ : Fin a) (⟨j, h.2⟩ : Fin b))).toReal else 0

/-- An array of numbers is the image of its real entries. -/
theorem entries_eq {a b : ℕ} {x : FVec Ideal ⟨2, ![a, b]⟩ .f32} (i : Fin a) (j : Fin b)
    (h : BitVec.ofBool (decide (FloatOps.absf (F := Ideal) (φ := .f32) (x (ix2 i j)) < Ideal.ofBits .f32 2139095040#32)) = 1#1) :
    x (ix2 i j) = ((entries x i.val j.val : ℝ) : EReal) := by
  rw [entries, dif_pos ⟨i.isLt, j.isLt⟩]
  exact real_of_bit h

open Cert.Pre_finite in
/-- The real arrays behind the operands. -/
def given (x0 : FVec Ideal S4096x1536 .f32) (x1 : FVec Ideal S4096x6144 .f32) (x2 x3 : FVec Ideal S1x16 .f32) (x4 : FVec Ideal S4096x1024 .f32) : Inp where
  L := 4096
  xc := entries x0
  tile i j := entries x1 i (1536 + j)
  bias := entries x2 0
  al := entries x3 0
  dy := entries x4

open Cert.Pre_finite in
/-- Under the precondition the operands are the images of their real arrays. -/
theorem given_ins [Cert.Pre_finite.Facts] {x0 : FVec Ideal S4096x1536 .f32} {x1 : FVec Ideal S4096x6144 .f32} {x2 x3 : FVec Ideal S1x16 .f32}
    {x4 : FVec Ideal S4096x1024 .f32} (h : Cert.Pre_finite.fn x0 x1 x2 x3 x4 = fun _ => 1#1) :
    Ref.Ins (given x0 x1 x2 x3 x4) x0 x1 x2 x3 x4 := by
  have h0 := congrFun h ix0
  pointwise [Cert.Pre_finite.fn, Cert.Pre_finite.fn_part1] at h0
  obtain ⟨h0, k4⟩ := both h0
  obtain ⟨h0, k3⟩ := both h0
  obtain ⟨h0, k2⟩ := both h0
  obtain ⟨k0, k1⟩ := both h0
  have r0 : R2 x0 (entries x0) := fun i j => entries_eq i j (every k0 (i, j))
  have r2 : R2 x2 (entries x2) := fun i j => entries_eq i j (every k2 (i, j))
  have r3 : R2 x3 (entries x3) := fun i j => entries_eq i j (every k3 (i, j))
  have r4 : R2 x4 (entries x4) := fun i j => entries_eq i j (every k4 (i, j))
  have one : ∀ i : S1x16.Idx, (i 0).val = 0 := fun i => by
    have : (i 0).val < 1 := (i 0).isLt
    omega
  constructor
  · rfl
  · exact fun i => r0.at i
  · intro i hi hj
    have e := entries_eq (x := x1) (i 0) (⟨1536 + ((i 1).val - 1536), by omega⟩ : Fin 6144) (every k1 (i 0, (⟨(i 1).val - 1536, by omega⟩ : Fin 16)))
    have ei : i = ix2 (i 0 : Fin 4096) (⟨1536 + ((i 1).val - 1536), by omega⟩ : Fin 6144) := by
      funext a
      refine Fin.ext ?_
      match a with
      | ⟨0, _⟩ => rfl
      | ⟨1, _⟩ => exact (by omega : (i 1).val = 1536 + ((i 1).val - 1536))
    exact (congrArg x1 ei).trans e
  · intro i
    rw [r2.at i, one i]
    rfl
  · intro i
    rw [r3.at i, one i]
    rfl
  · exact fun i => r4.at i

end Ssd
-- ==== Proof.Final.lean ====
module

public import proofs.«01_k».proof.Proof.Fill
public import proofs.«01_k».proof.Proof.Given

/-!
# The two runs end with the same arrays
-/

@[expose] public section

set_option maxRecDepth 16384

noncomputable section

namespace Ssd

open Idealize.ShloMosaic Idealize.ShloMosaic.TcCoe Cert.KernelIdeal Cert.KernelIdeal.Gen
open Cert.ReferenceIdeal.Read (val_main_v98 val_main_v90 val_main_v111 val_main_v115)

variable (m : (l : Loc nD τ Cert.KernelIdeal.sig) → Buf (Elt Ideal) l) (c : Dev nD)

/-- Two arrays that hold the same real numbers are equal. -/
theorem same {a b : ℕ} {v w : (⟨2, ![a, b]⟩ : Shape).Idx → EReal} {f : ℕ → ℕ → ℝ} (hv : R2 v f)
    (hw : ∀ i, w i = ((f (i 0).val (i 1).val : ℝ) : EReal)) : v = w :=
  funext fun i => (hv.at i).trans (hw i).symm

/-- Under the precondition each array that the kernel writes is the reference's array. -/
theorem results [Cert.Pre_finite.Facts]
    (h : Cert.Pre_finite.fn (F := Ideal) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) = fun _ => 1#1) :
    (dats m 0 c).arrAt 7 cfg0.N = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ (dats m 0 c).arrAt 8 cfg0.N = val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ (dats m 0 c).arrAt 9 cfg0.N = val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ (dats m 0 c).arrAt 10 cfg0.N = val_main_v115 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have hi := given_ins h
  have hb := blocks m c hi
  refine ⟨?_, ?_, ?_, ?_⟩
  · exact same (arr7 m c hi.hL hb) (Ref.dxc_val hi)
  · exact same (arr8 m c hi.hL hb) (Ref.ddtTile_val hi)
  · exact same (arr9 m c hi.hL hb) (Ref.st_val hi)
  · exact same (arr10 m c hi.hL hb) (Ref.hs_val hi)

end Ssd
-- ==== Proof.Blocks.lean ====
module

public import Mathlib.Algebra.BigOperators.Fin
public import Mathlib.Logic.Equiv.Fin.Basic

/-!
# Sums taken block by block

A sum over a range, split into blocks of equal length, is the sum of the blocks' sums.
-/

@[expose] public section

namespace Blockwise

/-- The sum of the sums of `J` consecutive blocks of length `B` is the sum over all places. -/
theorem sum_blocks {M : Type} [AddCommMonoid M] (J B N : ℕ) (hN : J * B = N) (term : ℕ → M) (g : Fin N → M)
    (h : ∀ s : ℕ, s < J → term s = ∑ k : Fin B, if hk : B * s + k.val < N then g ⟨B * s + k.val, hk⟩ else 0) :
    ∑ s ∈ Finset.range J, term s = ∑ k, g k := by
  subst hN
  rw [Finset.sum_range]
  have e : ∀ s : Fin J, term s.val = ∑ k : Fin B, g (finProdFinEquiv (s, k)) := by
    intro s
    rw [h s.val s.isLt]
    refine Finset.sum_congr rfl fun k _ => ?_
    have hv : (finProdFinEquiv (s, k)).val = B * s.val + k.val := by
      exact (finProdFinEquiv_apply_val (s, k)).trans (Nat.add_comm _ _)
    rw [dif_pos (hv ▸ (finProdFinEquiv (s, k)).isLt)]
    exact congrArg g (Fin.ext hv.symm)
  rw [Finset.sum_congr rfl fun s _ => e s, ← Fintype.sum_prod_type']
  exact Equiv.sum_comp finProdFinEquiv g

end Blockwise
-- ==== Proof.RowGrad.lean ====
module

public import proofs.«01_k».proof.Proof.Blocks
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

/-!
# The gradient of the rows that two weight matrices multiply

The kernel adds two products, block by block along the hidden width. The reference adds the two whole products.
-/

@[expose] public section

set_option maxRecDepth 16384

noncomputable section

namespace RowGrad

open Idealize.ShloMosaic Idealize.ShloMosaic.TcCoe Cert.Kernel3Ideal Cert.Kernel3Ideal.Gen

variable (m : (l : Loc nD τ Cert.Kernel3Ideal.sig) → Buf (Elt Ideal) l) (c : Dev nD)

/-- What one point of the grid adds at a place of its block. -/
def share (x0 : Vec Ideal S1024x1408 .bf16) (x1 : Vec Ideal S1408x1024 .bf16) (x2 : Vec Ideal S1024x1408 .bf16) (x3 : Vec Ideal S1408x1024 .bf16)
    (y : S1024x1024.Idx) : EReal :=
  ∑ k : Fin 1408, (x0 (ix2 (y 0) k) : EReal) * x1 (ix2 k (y 1)) + ∑ k : Fin 1408, (x2 (ix2 (y 0) k) : EReal) * x3 (ix2 k (y 1))

/-- The body adds its share to what the block holds. -/
theorem pay_add (acc : Vec Ideal S1024x1024 .f32) (x0 : Vec Ideal S1024x1408 .bf16) (x1 : Vec Ideal S1408x1024 .bf16) (x2 : Vec Ideal S1024x1408 .bf16)
    (x3 : Vec Ideal S1408x1024 .bf16) (y : S1024x1024.Idx) : k0_pay2 (F := Ideal) acc x0 x1 x2 x3 y = acc y + share x0 x1 x2 x3 y := by
  pointwise [k0_pay2, share]

/-- The block begins at zero. -/
theorem pay_zero (y : S1024x1024.Idx) : k0_pay1 (F := Ideal) y = 0 := by
  pointwise [k0_pay1]

/-- Where each block of the operands begins. -/
theorem idx_in : ∀ t : Fin cfg0.N, (cfg0.win 0).index t = ![t.val / 2, t.val % 2] ∧ (cfg0.win 1).index t = ![t.val % 2, 0]
    ∧ (cfg0.win 2).index t = ![t.val / 2, t.val % 2] ∧ (cfg0.win 3).index t = ![t.val % 2, 0] := by
  decide +kernel

/-- A place of a block of the first gradient. -/
theorem in0_at (t : Fin cfg0.N) (y : S1024x1408.Idx) (h0 : 1024 * (t.val / 2) + (y 0).val < 4096) (h1 : 1408 * (t.val % 2) + (y 1).val < 2816) :
    iblk m c 0 t y = V m c main_arg0 (ix2 (⟨1024 * (t.val / 2) + (y 0).val, h0⟩ : Fin 4096) (⟨1408 * (t.val % 2) + (y 1).val, h1⟩ : Fin 2816)) := by
  blk_ext [iblk, (idx_in t).1]

/-- A place of a block of the first weights. -/
theorem in1_at (t : Fin cfg0.N) (y : S1408x1024.Idx) (h0 : 1408 * (t.val % 2) + (y 0).val < 2816) :
    iblk m c 1 t y = V m c main_arg1 (ix2 (⟨1408 * (t.val % 2) + (y 0).val, h0⟩ : Fin 2816) (y 1)) := by
  blk_ext [iblk, (idx_in t).2.1]

/-- A place of a block of the second gradient. -/
theorem in2_at (t : Fin cfg0.N) (y : S1024x1408.Idx) (h0 : 1024 * (t.val / 2) + (y 0).val < 4096) (h1 : 1408 * (t.val % 2) + (y 1).val < 2816) :
    iblk m c 2 t y = V m c main_arg2 (ix2 (⟨1024 * (t.val / 2) + (y 0).val, h0⟩ : Fin 4096) (⟨1408 * (t.val % 2) + (y 1).val, h1⟩ : Fin 2816)) := by
  blk_ext [iblk, (idx_in t).2.2.1]

/-- A place of a block of the second weights. -/
theorem in3_at (t : Fin cfg0.N) (y : S1408x1024.Idx) (h0 : 1408 * (t.val % 2) + (y 0).val < 2816) :
    iblk m c 3 t y = V m c main_arg3 (ix2 (⟨1408 * (t.val % 2) + (y 0).val, h0⟩ : Fin 2816) (y 1)) := by
  blk_ext [iblk, (idx_in t).2.2.2]

/-- A product of a row of the gradient with a column of the weights. -/
def prods (a : Vec Ideal S4096x2816 .bf16) (b : Vec Ideal S2816x1024 .bf16) (i : S4096x1024.Idx) (k : Fin 2816) : EReal :=
  (a (ix2 (i 0) k) : EReal) * b (ix2 k (i 1))

/-- The reference's result is the sum of the two products. -/
theorem reference_at (x0 : Vec Ideal S4096x2816 .bf16) (x1 : Vec Ideal S2816x1024 .bf16) (x2 : Vec Ideal S4096x2816 .bf16) (x3 : Vec Ideal S2816x1024 .bf16)
    (i : S4096x1024.Idx) : Cert.Reference3Ideal.Read.val_main_v11 (F := Ideal) x0 x1 x2 x3 i = ∑ k, prods x2 x3 i k + ∑ k, prods x0 x1 i k := by
  pointwise [Cert.Reference3Ideal.Read.val_main_v11, Cert.Reference3Ideal.Read.val_main_v10, Cert.Reference3Ideal.Read.val_main_v9,
    Cert.Reference3Ideal.Read.val_main_v8, Cert.Reference3Ideal.Read.val_main_v7, Cert.Reference3Ideal.Read.val_main_v3,
    Cert.Reference3Ideal.Read.val_main_v2, Cert.Reference3Ideal.Read.val_main_v1, Cert.Reference3Ideal.Read.val_main_v0, prods]

/-- What point `n` adds, and nothing past the grid. -/
def addend (n : ℕ) (y : S1024x1024.Idx) : EReal :=
  if h : n < cfg0.N then share (iblk m c 0 ⟨n, h⟩) (iblk m c 1 ⟨n, h⟩) (iblk m c 2 ⟨n, h⟩) (iblk m c 3 ⟨n, h⟩) y else 0

/-- The two points of a row of blocks, added up. -/
theorem fold_at (b : ℕ) (h : b + 1 < cfg0.N) (y : S1024x1024.Idx) :
    Pipeline.accAt (Value.reset4 m c) (Value.step4 m c) b 1 h y = ∑ s ∈ Finset.range 2, addend m c (b + s) y := by
  refine (Pipeline.accAt_add_apply (Value.reset4 m c) (Value.step4 m c) (fun _ => (0 : EReal)) (addend m c) b 1 ?_ ?_ 1 le_rfl h y).trans (zero_add _)
  · intro h i
    unfold Value.reset4 addend
    rw [dif_pos h, pay_add, pay_zero]
  · intro n h acc i _ _
    unfold Value.step4 addend
    rw [dif_pos h, pay_add]

/-- One block of the two products along the hidden width. -/
theorem addend_at (i : S4096x1024.Idx) (s : ℕ) (hs : s < 2) :
    addend m c (2 * Value.run4Of i + s) (Value.loc4Of i)
      = (∑ k : Fin 1408, if hk : 1408 * s + k.val < 2816 then prods (V m c main_arg0) (V m c main_arg1) i ⟨1408 * s + k.val, hk⟩ else 0)
        + ∑ k : Fin 1408, if hk : 1408 * s + k.val < 2816 then prods (V m c main_arg2) (V m c main_arg3) i ⟨1408 * s + k.val, hk⟩ else 0 := by
  have h0 : (i 0).val < 4096 := (i 0).isLt
  have h1 : (i 1).val < 1024 := (i 1).isLt
  have hr : Value.run4Of i = (i 0).val / 1024 := by
    show 1 * ((i 0).val / 1024 - 0) + 1 * ((i 1).val / 1024 - 0) = _
    omega
  have hn : 2 * Value.run4Of i + s < cfg0.N := lt_of_lt_of_eq (by omega) (show 8 = cfg0.N from N_0.symm)
  have hd : (2 * Value.run4Of i + s) / 2 = (i 0).val / 1024 := by omega
  have hm : (2 * Value.run4Of i + s) % 2 = s := by omega
  unfold addend share prods
  rw [dif_pos hn]
  refine congrArg₂ (· + ·) (Finset.sum_congr rfl fun k _ => ?_) (Finset.sum_congr rfl fun k _ => ?_)
  all_goals
    have hk : 1408 * s + k.val < 2816 := by omega
    have hrow : 1024 * ((2 * Value.run4Of i + s) / 2) + (i 0).val % 1024 < 4096 := by omega
    have hcol : 1408 * ((2 * Value.run4Of i + s) % 2) + k.val < 2816 := by omega
    have ea : (ix2 (⟨1024 * ((2 * Value.run4Of i + s) / 2) + (i 0).val % 1024, hrow⟩ : Fin 4096) (⟨1408 * ((2 * Value.run4Of i + s) % 2) + k.val, hcol⟩ : Fin 2816))
        = ix2 (i 0) (⟨1408 * s + k.val, hk⟩ : Fin 2816) := by
      refine congrArg₂ ix2 (Fin.ext ?_) (Fin.ext ?_)
      · show 1024 * ((2 * Value.run4Of i + s) / 2) + (i 0).val % 1024 = (i 0).val
        omega
      · show 1408 * ((2 * Value.run4Of i + s) % 2) + k.val = 1408 * s + k.val
        omega
    have eb : (ix2 (⟨1408 * ((2 * Value.run4Of i + s) % 2) + k.val, hcol⟩ : Fin 2816) (Value.loc4Of i 1))
        = ix2 (⟨1408 * s + k.val, hk⟩ : Fin 2816) (i 1) := by
      refine congrArg₂ ix2 (Fin.ext ?_) (Fin.ext ?_)
      · show 1408 * ((2 * Value.run4Of i + s) % 2) + k.val = 1408 * s + k.val
        omega
      · show (i 1).val % 1024 = (i 1).val
        omega
    rw [dif_pos hk]
  · exact congrArg₂ (· * ·) ((in0_at m c ⟨_, hn⟩ (ix2 (Value.loc4Of i 0) k) hrow hcol).trans (congrArg _ ea))
      ((in1_at m c ⟨_, hn⟩ (ix2 k (Value.loc4Of i 1)) hcol).trans (congrArg _ eb))
  · exact congrArg₂ (· * ·) ((in2_at m c ⟨_, hn⟩ (ix2 (Value.loc4Of i 0) k) hrow hcol).trans (congrArg _ ea))
      ((in3_at m c ⟨_, hn⟩ (ix2 k (Value.loc4Of i 1)) hcol).trans (congrArg _ eb))

/-- The kernel's result is the reference's. -/
theorem result : Value.G4 (F := Ideal) m c = Cert.Reference3Ideal.Read.val_main_v11 (F := Ideal) (m ((c.tc : Thread nD τ).loc main_arg0))
    (m ((c.tc : Thread nD τ).loc main_arg1)) (m ((c.tc : Thread nD τ).loc main_arg2)) (m ((c.tc : Thread nD τ).loc main_arg3)) := by
  funext i
  have h0 : (i 0).val < 4096 := (i 0).isLt
  have h1 : (i 1).val < 1024 := (i 1).isLt
  have hr : Value.run4Of i = (i 0).val / 1024 := by
    show 1 * ((i 0).val / 1024 - 0) + 1 * ((i 1).val / 1024 - 0) = _
    omega
  have hn : 2 * Value.run4Of i + 1 < cfg0.N := lt_of_lt_of_eq (by omega) (show 8 = cfg0.N from N_0.symm)
  unfold Value.G4
  rw [dif_pos hn, fold_at, reference_at, Finset.sum_congr rfl fun s hs => addend_at m c i s (Finset.mem_range.mp hs), Finset.sum_add_distrib,
    Blockwise.sum_blocks 2 1408 2816 rfl _ (prods (V m c main_arg0) (V m c main_arg1) i) fun s _ => rfl,
    Blockwise.sum_blocks 2 1408 2816 rfl _ (prods (V m c main_arg2) (V m c main_arg3) i) fun s _ => rfl, V_main_arg0, V_main_arg1, V_main_arg2, V_main_arg3]
  exact add_comm (∑ k, prods (V m c main_arg0) (V m c main_arg1) i k) _

end RowGrad

end
-- ==== Proof.WeightGrad.lean ====
module

public import proofs.«01_k».proof.Proof.Blocks
public import proofs.«01_k».proof.Proof.Gen.Kernel2Ideal.Value
public import proofs.«01_k».proof.Proof.Gen.Reference2Ideal.Read
public import Idealize.ShloMosaic.Lib.Pointwise
public import Idealize.ShloMosaic.Lib.Pipeline.ValueKit
public import Idealize.ShloMosaic.Lib.Pipeline.ReadBack

/-!
# The gradient of a weight matrix

The kernel adds up the product of the rows, block by block along the sequence, in a scratch array. The reference takes the whole product.
-/

@[expose] public section

set_option maxRecDepth 16384

noncomputable section

namespace WeightGrad

open Idealize.ShloMosaic Idealize.ShloMosaic.TcCoe Cert.Kernel2Ideal Cert.Kernel2Ideal.Gen

variable (m : (l : Loc nD τ Cert.Kernel2Ideal.sig) → Buf (Elt Ideal) l) (c : Dev nD)

/-- What one point of the grid adds at a place of its block. -/
def share (x0 : Vec Ideal S512x1408 .bf16) (x1 : Vec Ideal S512x1024 .bf16) (y : S1408x1024.Idx) : EReal :=
  ∑ k : Fin 512, (x0 (ix2 k (y 0)) : EReal) * x1 (ix2 k (y 1))

/-- The body adds its share to what the scratch holds. -/
theorem pay_add (acc : Vec Ideal S1408x1024 .f32) (x0 : Vec Ideal S512x1408 .bf16) (x1 : Vec Ideal S512x1024 .bf16) (y : S1408x1024.Idx) :
    k0_pay2 (F := Ideal) acc x0 x1 y = acc y + share x0 x1 y := by
  pointwise [k0_pay2, share]

/-- The scratch begins at zero. -/
theorem pay_zero (y : S1408x1024.Idx) : k0_pay1 (F := Ideal) y = 0 := by
  pointwise [k0_pay1]

/-- The last point writes the scratch as it is. -/
theorem pay_out (v : Vec Ideal S1408x1024 .f32) (y : S1408x1024.Idx) : k0_pay3 (F := Ideal) v y = v y := by
  pointwise [k0_pay3]

/-- Where each block of the operands begins. -/
theorem idx_in : ∀ t : Fin cfg0.N, (cfg0.win 0).index t = ![t.val % 8, t.val / 8] ∧ (cfg0.win 1).index t = ![t.val % 8, 0] := by
  decide +kernel

/-- A place of a block of the rows that were multiplied. -/
theorem in0_at (t : Fin cfg0.N) (y : S512x1408.Idx) (h0 : 512 * (t.val % 8) + (y 0).val < 4096) (h1 : 1408 * (t.val / 8) + (y 1).val < 2816) :
    iblk m c 0 t y = V m c main_arg0 (ix2 (⟨512 * (t.val % 8) + (y 0).val, h0⟩ : Fin 4096) (⟨1408 * (t.val / 8) + (y 1).val, h1⟩ : Fin 2816)) := by
  blk_ext [iblk, (idx_in t).1]

/-- A place of a block of the gradient of the product. -/
theorem in1_at (t : Fin cfg0.N) (y : S512x1024.Idx) (h0 : 512 * (t.val % 8) + (y 0).val < 4096) :
    iblk m c 1 t y = V m c main_arg1 (ix2 (⟨512 * (t.val % 8) + (y 0).val, h0⟩ : Fin 4096) (y 1)) := by
  blk_ext [iblk, (idx_in t).2]

/-- A product of two places of one row. -/
def prods (a : Vec Ideal S4096x2816 .bf16) (b : Vec Ideal S4096x1024 .bf16) (i : S2816x1024.Idx) (k : Fin 4096) : EReal :=
  (a (ix2 k (i 0)) : EReal) * b (ix2 k (i 1))

/-- The reference's result is the whole product. -/
theorem reference_at (x0 : Vec Ideal S4096x2816 .bf16) (x1 : Vec Ideal S4096x1024 .bf16) (i : S2816x1024.Idx) :
    Cert.Reference2Ideal.Read.val_main_v6 (F := Ideal) x0 x1 i = ∑ k, prods x0 x1 i k := by
  pointwise [Cert.Reference2Ideal.Read.val_main_v6, Cert.Reference2Ideal.Read.val_main_v5, Cert.Reference2Ideal.Read.val_main_v4,
    Cert.Reference2Ideal.Read.val_main_v3, Cert.Reference2Ideal.Read.val_main_v2, Cert.Reference2Ideal.Read.val_main_v1,
    Cert.Reference2Ideal.Read.val_main_v0, prods]
  exact Finset.sum_congr rfl fun k _ => mul_comm _ _

/-- What point `n` adds, and nothing past the grid. -/
def addend (n : ℕ) (y : S1408x1024.Idx) : EReal :=
  if h : n < cfg0.N then share (iblk m c 0 ⟨n, h⟩) (iblk m c 1 ⟨n, h⟩) y else 0

/-- What the scratch holds after a point: the shares since the row of blocks began. -/
theorem scratch_at (t : Fin cfg0.N) (y : S1408x1024.Idx) :
    (outsAt0 m c t.val t.isLt).2 y = ∑ s ∈ Finset.range (t.val % 8 + 1), addend m c (8 * (t.val / 8) + s) y := by
  refine (Pipeline.eq_sum_of_reset_step_apply (fun n h => (outsAt0 m c n h).2) 8 (fun _ => (0 : EReal)) (addend m c) ?_ ?_ t y).trans (zero_add _)
  · intro t h y
    have h1 : ¬t.val % 8 = 7 := by omega
    show (outsAt0 m c t.val t.isLt).2 y = _
    rw [outsAt0_A m c t h h1]
    frame_out
    rw [pay_add, pay_zero]
    unfold addend
    rw [dif_pos t.isLt]
  · intro t h y
    show (outsAt0 m c t.val t.isLt).2 y = (outsAt0 m c (t.val - 1) _).2 y + _
    by_cases h1 : t.val % 8 = 7
    · rw [outsAt0_C m c t h h1]
      frame_out
      rw [pay_add]
      simp only [read_unread_whole]
      unfold addend
      rw [dif_pos t.isLt]
    · rw [outsAt0_B m c t h h1]
      frame_out
      rw [pay_add]
      simp only [read_unread_whole]
      unfold addend
      rw [dif_pos t.isLt]

/-- What the last point of a row of blocks writes is the scratch it leaves. -/
theorem out_at (t : Fin cfg0.N) (h : t.val % 8 = 7) (y : S1408x1024.Idx) : (outsAt0 m c t.val t.isLt).1 y = (outsAt0 m c t.val t.isLt).2 y := by
  have h0 : ¬t.val % 8 = 0 := by omega
  rw [outsAt0_C m c t h0 h]
  frame_out
  exact pay_out _ _

/-- One block of the product along the sequence. -/
theorem addend_at (i : S2816x1024.Idx) (s : ℕ) (hs : s < 8) :
    addend m c (8 * Value.run2Of i + s) (Value.loc2Of i)
      = ∑ k : Fin 512, if hk : 512 * s + k.val < 4096 then prods (V m c main_arg0) (V m c main_arg1) i ⟨512 * s + k.val, hk⟩ else 0 := by
  have h0 : (i 0).val < 2816 := (i 0).isLt
  have h1 : (i 1).val < 1024 := (i 1).isLt
  have hr : Value.run2Of i = (i 0).val / 1408 := by
    show 1 * ((i 0).val / 1408 - 0) + 1 * ((i 1).val / 1024 - 0) = _
    omega
  have hn : 8 * Value.run2Of i + s < cfg0.N := lt_of_lt_of_eq (by omega) (show 16 = cfg0.N from N_0.symm)
  unfold addend share prods
  rw [dif_pos hn]
  refine Finset.sum_congr rfl fun k _ => ?_
  have hk : 512 * s + k.val < 4096 := by omega
  have hrow : 512 * ((8 * Value.run2Of i + s) % 8) + k.val < 4096 := by omega
  have hcol : 1408 * ((8 * Value.run2Of i + s) / 8) + (i 0).val % 1408 < 2816 := by omega
  have hk' : (⟨512 * ((8 * Value.run2Of i + s) % 8) + k.val, hrow⟩ : Fin 4096) = ⟨512 * s + k.val, hk⟩ := Fin.ext (by
    show 512 * ((8 * Value.run2Of i + s) % 8) + k.val = 512 * s + k.val
    omega)
  have ea : (⟨1408 * ((8 * Value.run2Of i + s) / 8) + (i 0).val % 1408, hcol⟩ : Fin 2816) = i 0 := Fin.ext (by
    show 1408 * ((8 * Value.run2Of i + s) / 8) + (i 0).val % 1408 = (i 0).val
    omega)
  have eb : Value.loc2Of i 1 = i 1 := Fin.ext (by
    show (i 1).val % 1024 = (i 1).val
    omega)
  rw [dif_pos hk]
  exact congrArg₂ (· * ·) ((in0_at m c ⟨_, hn⟩ (ix2 k (Value.loc2Of i 0)) hrow hcol).trans (congrArg _ (congrArg₂ ix2 hk' ea)))
    ((in1_at m c ⟨_, hn⟩ (ix2 k (Value.loc2Of i 1)) hrow).trans (congrArg _ (congrArg₂ ix2 hk' eb)))

/-- The kernel's result is the reference's. -/
theorem result : Value.G2 (F := Ideal) m c = Cert.Reference2Ideal.Read.val_main_v6 (F := Ideal) (m ((c.tc : Thread nD τ).loc main_arg0))
    (m ((c.tc : Thread nD τ).loc main_arg1)) := by
  funext i
  have h0 : (i 0).val < 2816 := (i 0).isLt
  have h1 : (i 1).val < 1024 := (i 1).isLt
  have hr : Value.run2Of i = (i 0).val / 1408 := by
    show 1 * ((i 0).val / 1408 - 0) + 1 * ((i 1).val / 1024 - 0) = _
    omega
  have hn : Value.pt2Of i < cfg0.N := lt_of_lt_of_eq (show 8 * Value.run2Of i + 7 < 16 by omega) (show 16 = cfg0.N from N_0.symm)
  have hm : Value.pt2Of i % 8 = 7 := by
    show (8 * Value.run2Of i + 7) % 8 = 7
    omega
  have hd : 8 * (Value.pt2Of i / 8) = 8 * Value.run2Of i := by
    show 8 * ((8 * Value.run2Of i + 7) / 8) = _
    omega
  unfold Value.G2
  rw [dif_pos hn, ← Value.outsAt0_sweep m c (Value.pt2Of i) hn, out_at m c ⟨_, hn⟩ hm, scratch_at m c ⟨_, hn⟩, reference_at]
  show ∑ s ∈ Finset.range (Value.pt2Of i % 8 + 1), addend m c (8 * (Value.pt2Of i / 8) + s) (Value.loc2Of i) = _
  rw [hm, hd, Finset.sum_congr rfl fun s hs => addend_at m c i s (Finset.mem_range.mp hs),
    Blockwise.sum_blocks 8 512 4096 rfl _ (prods (V m c main_arg0) (V m c main_arg1) i) fun s _ => rfl, V_main_arg0, V_main_arg1]

end WeightGrad

end
-- ==== Proof.InputWeightGrad.lean ====
module

public import proofs.«01_k».proof.Proof.Blocks
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.Pipeline.ReadBack

/-!
# The gradient of one piece of the input projection's weights

The kernel adds up the product of the rows, block by block along the sequence, in a scratch array. The reference takes the whole product.
-/

@[expose] public section

set_option maxRecDepth 16384

noncomputable section

namespace InputWeightGrad

open Idealize.ShloMosaic Idealize.ShloMosaic.TcCoe Cert.Kernel4Ideal Cert.Kernel4Ideal.Gen

variable (m : (l : Loc nD τ Cert.Kernel4Ideal.sig) → Buf (Elt Ideal) l) (c : Dev nD)

/-- What one point of the grid adds at a place of its block. -/
def share (x0 : Vec Ideal S512x1024 .f32) (x1 : Vec Ideal S512x1024 .bf16) (y : S1024x1024.Idx) : EReal :=
  ∑ k : Fin 512, (x0 (ix2 k (y 0)) : EReal) * x1 (ix2 k (y 1))

/-- The body adds its share to what the scratch holds. -/
theorem pay_add (acc : Vec Ideal S1024x1024 .f32) (x0 : Vec Ideal S512x1024 .f32) (x1 : Vec Ideal S512x1024 .bf16) (y : S1024x1024.Idx) :
    k0_pay2 (F := Ideal) acc x0 x1 y = acc y + share x0 x1 y := by
  pointwise [k0_pay2, share]

/-- The scratch begins at zero. -/
theorem pay_zero (y : S1024x1024.Idx) : k0_pay1 (F := Ideal) y = 0 := by
  pointwise [k0_pay1]

/-- The last point writes the scratch as it is. -/
theorem pay_out (v : Vec Ideal S1024x1024 .f32) (y : S1024x1024.Idx) : k0_pay3 (F := Ideal) v y = v y := by
  pointwise [k0_pay3]

/-- Where each block of the operands begins. -/
theorem idx_in : ∀ t : Fin cfg0.N, (cfg0.win 0).index t = ![t.val, 0] ∧ (cfg0.win 1).index t = ![t.val, 0] := by
  decide +kernel

/-- A place of a block of the gradient of the product. -/
theorem in0_at (t : Fin cfg0.N) (y : S512x1024.Idx) (h0 : 512 * t.val + (y 0).val < 4096) :
    iblk m c 0 t y = V m c main_arg0 (ix2 (⟨512 * t.val + (y 0).val, h0⟩ : Fin 4096) (y 1)) := by
  blk_ext [iblk, (idx_in t).1]

/-- A place of a block of the rows that were multiplied. -/
theorem in1_at (t : Fin cfg0.N) (y : S512x1024.Idx) (h0 : 512 * t.val + (y 0).val < 4096) :
    iblk m c 1 t y = V m c main_arg1 (ix2 (⟨512 * t.val + (y 0).val, h0⟩ : Fin 4096) (y 1)) := by
  blk_ext [iblk, (idx_in t).2]

/-- A product of two places of one row. -/
def prods (a : Vec Ideal S4096x1024 .f32) (b : Vec Ideal S4096x1024 .bf16) (i : S1024x1024.Idx) (k : Fin 4096) : EReal :=
  (a (ix2 k (i 0)) : EReal) * b (ix2 k (i 1))

/-- The reference's result is the whole product. -/
theorem reference_at (x0 : Vec Ideal S4096x1024 .f32) (x1 : Vec Ideal S4096x1024 .bf16) (i : S1024x1024.Idx) :
    Cert.Reference4Ideal.Read.val_main_v6 (F := Ideal) x0 x1 i = ∑ k, prods x0 x1 i k := by
  pointwise [Cert.Reference4Ideal.Read.val_main_v6, Cert.Reference4Ideal.Read.val_main_v5, Cert.Reference4Ideal.Read.val_main_v4,
    Cert.Reference4Ideal.Read.val_main_v3, Cert.Reference4Ideal.Read.val_main_v1, prods]

/-- What point `n` adds, and nothing past the grid. -/
def addend (n : ℕ) (y : S1024x1024.Idx) : EReal :=
  if h : n < cfg0.N then share (iblk m c 0 ⟨n, h⟩) (iblk m c 1 ⟨n, h⟩) y else 0

/-- What the scratch holds after a point: the shares since the row of blocks began. -/
theorem scratch_at (t : Fin cfg0.N) (y : S1024x1024.Idx) :
    (outsAt0 m c t.val t.isLt).2 y = ∑ s ∈ Finset.range (t.val % 8 + 1), addend m c (8 * (t.val / 8) + s) y := by
  refine (Pipeline.eq_sum_of_reset_step_apply (fun n h => (outsAt0 m c n h).2) 8 (fun _ => (0 : EReal)) (addend m c) ?_ ?_ t y).trans (zero_add _)
  · intro t h y
    have h1 : ¬t.val % 8 = 7 := by omega
    show (outsAt0 m c t.val t.isLt).2 y = _
    rw [outsAt0_A m c t h h1]
    frame_out
    rw [pay_add, pay_zero]
    unfold addend
    rw [dif_pos t.isLt]
  · intro t h y
    show (outsAt0 m c t.val t.isLt).2 y = (outsAt0 m c (t.val - 1) _).2 y + _
    by_cases h1 : t.val % 8 = 7
    · rw [outsAt0_C m c t h h1]
      frame_out
      rw [pay_add]
      simp only [read_unread_whole]
      unfold addend
      rw [dif_pos t.isLt]
    · rw [outsAt0_B m c t h h1]
      frame_out
      rw [pay_add]
      simp only [read_unread_whole]
      unfold addend
      rw [dif_pos t.isLt]

/-- What the last point of a row of blocks writes is the scratch it leaves. -/
theorem out_at (t : Fin cfg0.N) (h : t.val % 8 = 7) (y : S1024x1024.Idx) : (outsAt0 m c t.val t.isLt).1 y = (outsAt0 m c t.val t.isLt).2 y := by
  have h0 : ¬t.val % 8 = 0 := by omega
  rw [outsAt0_C m c t h0 h]
  frame_out
  exact pay_out _ _

/-- One block of the product along the sequence. -/
theorem addend_at (i : S1024x1024.Idx) (s : ℕ) (hs : s < 8) :
    addend m c s i
      = ∑ k : Fin 512, if hk : 512 * s + k.val < 4096 then prods (V m c main_arg0) (V m c main_arg1) i ⟨512 * s + k.val, hk⟩ else 0 := by
  have hn : s < cfg0.N := lt_of_lt_of_eq hs (show 8 = cfg0.N from N_0.symm)
  unfold addend share prods
  rw [dif_pos hn]
  refine Finset.sum_congr rfl fun k _ => ?_
  have hk : 512 * s + k.val < 4096 := by omega
  rw [dif_pos hk]
  exact congrArg₂ (· * ·) (in0_at m c ⟨s, hn⟩ (ix2 k (i 0)) hk) (in1_at m c ⟨s, hn⟩ (ix2 k (i 1)) hk)

/-- The kernel's result is the reference's. -/
theorem result : Value.G2 (F := Ideal) m c = Cert.Reference4Ideal.Read.val_main_v6 (F := Ideal) (m ((c.tc : Thread nD τ).loc main_arg0))
    (m ((c.tc : Thread nD τ).loc main_arg1)) := by
  funext i
  have hn : 7 < cfg0.N := lt_of_lt_of_eq (by decide) (show 8 = cfg0.N from N_0.symm)
  rw [Value.G2_last, ← Value.outsAt0_sweep m c 7 hn, out_at m c ⟨7, hn⟩ rfl, scratch_at m c ⟨7, hn⟩, reference_at]
  have hs : ∀ s ∈ Finset.range 8, addend m c (8 * (7 / 8) + s) i
      = ∑ k : Fin 512, if hk : 512 * s + k.val < 4096 then prods (V m c main_arg0) (V m c main_arg1) i ⟨512 * s + k.val, hk⟩ else 0 := by
    intro s hs
    rw [show 8 * (7 / 8) + s = s by omega]
    exact addend_at m c i s (Finset.mem_range.mp hs)
  refine (Finset.sum_congr rfl hs).trans ?_
  rw [Blockwise.sum_blocks 8 512 4096 rfl _ (prods (V m c main_arg0) (V m c main_arg1) i) fun s _ => rfl, V_main_arg0, V_main_arg1]

end InputWeightGrad

end
-- ==== Proof.OutputRowGrad.lean ====
module

public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.Pipeline.ReadBack

/-!
# The gradient of the rows that the output projection multiplies

Each block of the result is one product of a block of the gradient's rows with a block of the weights' rows.
-/

@[expose] public section

set_option maxRecDepth 16384

noncomputable section

namespace OutputRowGrad

open Idealize.ShloMosaic Idealize.ShloMosaic.TcCoe Cert.Kernel5Ideal Cert.Kernel5Ideal.Gen

variable (m : (l : Loc nD τ Cert.Kernel5Ideal.sig) → Buf (Elt Ideal) l) (c : Dev nD)

/-- A place of the product of a block of the gradient's rows with a block of the weights' rows. -/
def share (x0 : Vec Ideal S1024x1024 .bf16) (x1 : Vec Ideal S1024x1024 .bf16) (y : S1024x1024.Idx) : EReal :=
  ∑ k : Fin 1024, (x0 (ix2 (y 0) k) : EReal) * x1 (ix2 (y 1) k)

/-- The body's product, at a place of its block. -/
theorem pay_at (x0 : Vec Ideal S1024x1024 .bf16) (x1 : Vec Ideal S1024x1024 .bf16) (y : S1024x1024.Idx) :
    k0_pay2 (F := Ideal) (k0_pay1 (F := Ideal)) x0 x1 y = share x0 x1 y := by
  pointwise [k0_pay2, k0_pay1, share]

/-- Where each block of the operands and of the result begins. -/
theorem idx_at : ∀ t : Fin cfg0.N, (cfg0.win 0).index t = ![t.val / 2, 0] ∧ (cfg0.win 1).index t = ![t.val % 2, 0]
    ∧ (cfg0.win 2).index t = ![t.val / 2, t.val % 2] := by
  decide +kernel

/-- A place of a block of the gradient. -/
theorem in0_at (t : Fin cfg0.N) (y : S1024x1024.Idx) (h0 : 1024 * (t.val / 2) + (y 0).val < 4096) :
    iblk m c 0 t y = V m c main_arg0 (ix2 (⟨1024 * (t.val / 2) + (y 0).val, h0⟩ : Fin 4096) (y 1)) := by
  blk_ext [iblk, (idx_at t).1]

/-- A place of a block of the weights. -/
theorem in1_at (t : Fin cfg0.N) (y : S1024x1024.Idx) (h0 : 1024 * (t.val % 2) + (y 0).val < 2048) :
    iblk m c 1 t y = V m c main_arg1 (ix2 (⟨1024 * (t.val % 2) + (y 0).val, h0⟩ : Fin 2048) (y 1)) := by
  blk_ext [iblk, (idx_at t).2.1]

/-- The reference's result is the whole product. -/
theorem reference_at (x0 : Vec Ideal S4096x1024 .bf16) (x1 : Vec Ideal S2048x1024 .bf16) (i : S4096x2048.Idx) :
    Cert.Reference5Ideal.Read.val_main_v4 (F := Ideal) x0 x1 i = ∑ k : Fin 1024, (x0 (ix2 (i 0) k) : EReal) * x1 (ix2 (i 1) k) := by
  pointwise [Cert.Reference5Ideal.Read.val_main_v4, Cert.Reference5Ideal.Read.val_main_v3, Cert.Reference5Ideal.Read.val_main_v1]

/-- What a point leaves at a place of its block. -/
theorem out_at (t : Fin cfg0.N) (y : S1024x1024.Idx) :
    outsAt0 m c t y = share (iblk m c 0 t) (iblk m c 1 t) y := by
  unfold outsAt0
  frame_out
  exact pay_at _ _ _

/-- What a point leaves is its block of the reference's result. -/
theorem block_at (t : Fin cfg0.N) (y : S1024x1024.Idx) (i : S4096x2048.Idx) (h0 : (i 0).val = 1024 * (t.val / 2) + (y 0).val)
    (h1 : (i 1).val = 1024 * (t.val % 2) + (y 1).val) :
    outsAt0 m c t y = Cert.Reference5Ideal.Read.val_main_v4 (F := Ideal) (V m c main_arg0) (V m c main_arg1) i := by
  have h0' : 1024 * (t.val / 2) + (y 0).val < 4096 := lt_of_eq_of_lt h0.symm (i 0).isLt
  have h1' : 1024 * (t.val % 2) + (y 1).val < 2048 := lt_of_eq_of_lt h1.symm (i 1).isLt
  have e0 : (⟨1024 * (t.val / 2) + (y 0).val, h0'⟩ : Fin 4096) = i 0 := Fin.ext h0.symm
  have e1 : (⟨1024 * (t.val % 2) + (y 1).val, h1'⟩ : Fin 2048) = i 1 := Fin.ext h1.symm
  rw [out_at, reference_at]
  unfold share
  exact Finset.sum_congr rfl fun k _ => congrArg₂ (· * ·) ((in0_at m c t (ix2 (y 0) k) h0').trans (congrArg _ (congrArg₂ ix2 e0 rfl)))
    ((in1_at m c t (ix2 (y 1) k) h1').trans (congrArg _ (congrArg₂ ix2 e1 rfl)))

/-- The kernel's result is the reference's. -/
theorem result : (dats (F := Ideal) m 0 c).arrAt 2 cfg0.N = Cert.Reference5Ideal.Read.val_main_v4 (F := Ideal)
    (m ((c.tc : Thread nD τ).loc main_arg0)) (m ((c.tc : Thread nD τ).loc main_arg1)) := by
  refine (dats m 0 c).arrAt_eq_of_covers 2 _ (by decide +kernel) fun t hf y => ?_
  have ei : win0_2.index t = ![t.val / 2, t.val % 2] := (idx_at t).2.2
  rw [← V_main_arg0 m c, ← V_main_arg1 m c]
  blk_simp
  rw [after0_2]
  refine block_at m c t y _ ?_ ?_
  · blk_simp [ei]
    omega
  · blk_simp [ei]
    omega

end OutputRowGrad

end
-- ==== Proof.ActivationGrad.lean ====
module

public import proofs.«01_k».proof.Proof.Given
public import proofs.«01_k».proof.Pre_bounded
public import proofs.«01_k».proof.Proof.Gen.Kernel6Ideal.Value
public import proofs.«01_k».proof.Proof.Gen.Reference6Ideal.Read
public import Idealize.ShloMosaic.Lib.Pointwise
public import Idealize.ShloMosaic.Lib.Pipeline.ValueKit

/-!
# The gradients of the two factors of the feed-forward layer's activation

Each block of the results is read off one product of a block of the gradient's rows with a block of the weights' rows.
-/

@[expose] public section

set_option maxRecDepth 16384

noncomputable section

namespace ActivationGrad

open Idealize.ShloMosaic Idealize.ShloMosaic.TcCoe Cert.Kernel6Ideal Cert.Kernel6Ideal.Gen

variable (m : (l : Loc nD τ Cert.Kernel6Ideal.sig) → Buf (Elt Ideal) l) (c : Dev nD)

/-- A place of the product of a block of the gradient's rows with a block of the weights' rows. -/
def share (x0 : Vec Ideal S512x1024 .bf16) (x1 : Vec Ideal S1408x1024 .bf16) (y : S512x1408.Idx) : EReal :=
  ∑ k : Fin 1024, (x0 (ix2 (y 0) k) : EReal) * x1 (ix2 (y 1) k)

/-- A place of the product of the gradient's rows with the weights' rows. -/
def whole (x0 : Vec Ideal S4096x1024 .bf16) (x1 : Vec Ideal S2816x1024 .bf16) (i : S4096x2816.Idx) : EReal :=
  ∑ k : Fin 1024, (x0 (ix2 (i 0) k) : EReal) * x1 (ix2 (i 1) k)

/-- The gradient of the gate, as the kernel forms it. -/
def dgate (x g u : EReal) : EReal :=
  x * u * (Ideal.logistic g * (1 + g * (1 - Ideal.logistic g)))

/-- The gradient of the other factor. -/
def dup (x g : EReal) : EReal :=
  x * (g * Ideal.logistic g)

/-- The body's first result. -/
theorem pay_dgate (x0 : Vec Ideal S512x1024 .bf16) (x1 : Vec Ideal S1408x1024 .bf16) (g u : Vec Ideal S512x1408 .f32) (y : S512x1408.Idx) :
    k0_pay3 (F := Ideal) x0 x1 g u y = dgate (share x0 x1 y) (g y) (u y) := by
  pointwise [k0_pay3, k0_pay2, k0_pay1, share, dgate]

/-- The body's second result. -/
theorem pay_dup (x0 : Vec Ideal S512x1024 .bf16) (x1 : Vec Ideal S1408x1024 .bf16) (g : Vec Ideal S512x1408 .f32) (y : S512x1408.Idx) :
    k0_pay4 (F := Ideal) x0 x1 g y = dup (share x0 x1 y) (g y) := by
  pointwise [k0_pay4, k0_pay2, k0_pay1, share, dup]

/-- Where each block of the operands and of the results begins. -/
theorem idx_at : ∀ t : Fin cfg0.N, (cfg0.win 0).index t = ![t.val / 2, 0] ∧ (cfg0.win 1).index t = ![t.val % 2, 0]
    ∧ (cfg0.win 2).index t = ![t.val / 2, t.val % 2] ∧ (cfg0.win 3).index t = ![t.val / 2, t.val % 2] ∧ (cfg0.win 4).index t = ![t.val / 2, t.val % 2]
    ∧ (cfg0.win 5).index t = ![t.val / 2, t.val % 2] := by
  decide +kernel

/-- A place of a block of the gradient. -/
theorem in0_at (t : Fin cfg0.N) (y : S512x1024.Idx) (h0 : 512 * (t.val / 2) + (y 0).val < 4096) :
    iblk m c 0 t y = V m c main_arg0 (ix2 (⟨512 * (t.val / 2) + (y 0).val, h0⟩ : Fin 4096) (y 1)) := by
  blk_ext [iblk, (idx_at t).1]

/-- A place of a block of the weights. -/
theorem in1_at (t : Fin cfg0.N) (y : S1408x1024.Idx) (h0 : 1408 * (t.val % 2) + (y 0).val < 2816) :
    iblk m c 1 t y = V m c main_arg1 (ix2 (⟨1408 * (t.val % 2) + (y 0).val, h0⟩ : Fin 2816) (y 1)) := by
  blk_ext [iblk, (idx_at t).2.1]

/-- A place of a block of the gate. -/
theorem in2_at (t : Fin cfg0.N) (y : S512x1408.Idx) (h0 : 512 * (t.val / 2) + (y 0).val < 4096) (h1 : 1408 * (t.val % 2) + (y 1).val < 2816) :
    iblk m c 2 t y = V m c main_arg2 (ix2 (⟨512 * (t.val / 2) + (y 0).val, h0⟩ : Fin 4096) (⟨1408 * (t.val % 2) + (y 1).val, h1⟩ : Fin 2816)) := by
  blk_ext [iblk, (idx_at t).2.2.1]

/-- A place of a block of the other factor. -/
theorem in3_at (t : Fin cfg0.N) (y : S512x1408.Idx) (h0 : 512 * (t.val / 2) + (y 0).val < 4096) (h1 : 1408 * (t.val % 2) + (y 1).val < 2816) :
    iblk m c 3 t y = V m c main_arg3 (ix2 (⟨512 * (t.val / 2) + (y 0).val, h0⟩ : Fin 4096) (⟨1408 * (t.val % 2) + (y 1).val, h1⟩ : Fin 2816)) := by
  blk_ext [iblk, (idx_at t).2.2.2.1]

/-- The reference's product. -/
theorem reference_product (x0 : Vec Ideal S4096x1024 .bf16) (x1 : Vec Ideal S2816x1024 .bf16) (i : S4096x2816.Idx) :
    Cert.Reference6Ideal.Read.val_main_v5 (F := Ideal) x0 x1 i = whole x0 x1 i := by
  pointwise [Cert.Reference6Ideal.Read.val_main_v5, Cert.Reference6Ideal.Read.val_main_v4, Cert.Reference6Ideal.Read.val_main_v2, whole]

/-- The reference's logistic function. -/
theorem reference_logistic (x2 : Vec Ideal S4096x2816 .f32) (i : S4096x2816.Idx) :
    Cert.Reference6Ideal.Read.val_main_v0_2 (F := Ideal) x2 i = Ideal.logistic (x2 i) := by
  pointwise [Cert.Reference6Ideal.Read.val_main_v0_2, Cert.Reference6Ideal.Read.val_main_call0_v4, Cert.Reference6Ideal.Read.val_main_call0_cst_0,
    Cert.Reference6Ideal.Read.val_main_call0_v3, Cert.Reference6Ideal.Read.val_main_call0_v2, Cert.Reference6Ideal.Read.val_main_call0_cst,
    Cert.Reference6Ideal.Read.val_main_call0_v1, Cert.Reference6Ideal.Read.val_main_call0_v0, Ideal.logistic]

/-- The reference's first result, by the product rule. -/
theorem reference_dgate (x0 : Vec Ideal S4096x1024 .bf16) (x1 : Vec Ideal S2816x1024 .bf16) (x2 x3 : Vec Ideal S4096x2816 .f32) (i : S4096x2816.Idx) :
    Cert.Reference6Ideal.Read.val_main_v9 (F := Ideal) x0 x1 x2 x3 i = whole x0 x1 i * x3 i * Ideal.logistic (x2 i)
      + x2 i * (whole x0 x1 i * x3 i) * (Ideal.logistic (x2 i) * (1 - Ideal.logistic (x2 i))) := by
  rw [← reference_product, ← reference_logistic]
  pointwise [Cert.Reference6Ideal.Read.val_main_v9, Cert.Reference6Ideal.Read.val_main_v8, Cert.Reference6Ideal.Read.val_main_call1_v2,
    Cert.Reference6Ideal.Read.val_main_call1_v1, Cert.Reference6Ideal.Read.val_main_call1_v0, Cert.Reference6Ideal.Read.val_main_v7,
    Cert.Reference6Ideal.Read.val_main_v0_1, Cert.Reference6Ideal.Read.val_main_call0_v7, Cert.Reference6Ideal.Read.val_main_call0_v6,
    Cert.Reference6Ideal.Read.val_main_call0_cst_1]

/-- The reference's second result. -/
theorem reference_dup (x0 : Vec Ideal S4096x1024 .bf16) (x1 : Vec Ideal S2816x1024 .bf16) (x2 : Vec Ideal S4096x2816 .f32) (i : S4096x2816.Idx) :
    Cert.Reference6Ideal.Read.val_main_v10 (F := Ideal) x0 x1 x2 i = dup (whole x0 x1 i) (x2 i) := by
  rw [← reference_product, dup, ← reference_logistic, mul_comm]
  pointwise [Cert.Reference6Ideal.Read.val_main_v10, Cert.Reference6Ideal.Read.val_main_v6, Cert.Reference6Ideal.Read.val_main_v0_0]

/-- The two forms of the gate's gradient agree for a real gradient, whatever the gate. -/
theorem two_forms (x u : ℝ) (g : EReal) : dgate x g u
    = (x : EReal) * u * Ideal.logistic g + g * ((x : EReal) * u) * (Ideal.logistic g * (1 - Ideal.logistic g)) := by
  have h11 : (1 : EReal) - 1 = 0 := by
    rw [← EReal.coe_one, ← EReal.coe_sub, sub_self, EReal.coe_zero]
  unfold dgate
  induction g with
  | bot => simp
  | top => simp [h11]
  | coe r =>
    rw [Ideal.logistic_coe, ← EReal.coe_one]
    simp only [← EReal.coe_sub, ← EReal.coe_mul, ← EReal.coe_add]
    congr 1
    ring

/-- A product of real rows is real. -/
theorem whole_real (x0 : Vec Ideal S4096x1024 .bf16) (x1 : Vec Ideal S2816x1024 .bf16) (i : S4096x2816.Idx)
    (h0 : ∀ j, ∃ r : ℝ, (x0 j : EReal) = r) (h1 : ∀ j, ∃ r : ℝ, (x1 j : EReal) = r) : ∃ r : ℝ, whole x0 x1 i = r := by
  refine Finset.sum_induction _ (fun v : EReal => ∃ r : ℝ, v = r) ?_ ⟨0, rfl⟩ fun k _ => ?_
  · rintro _ _ ⟨a, rfl⟩ ⟨b, rfl⟩
    exact ⟨a + b, (EReal.coe_add a b).symm⟩
  · obtain ⟨a, ha⟩ := h0 (ix2 (i 0) k)
    obtain ⟨b, hb⟩ := h1 (ix2 (i 1) k)
    exact ⟨a * b, by rw [ha, hb, EReal.coe_mul]⟩

/-- Under the precondition the gradient, the weights and the other factor are real. -/
theorem real_at [Cert.Pre_bounded.Facts] {x0 : Vec Ideal S4096x1024 .bf16} {x1 : Vec Ideal S2816x1024 .bf16} {x2 x3 : Vec Ideal S4096x2816 .f32}
    (h : Cert.Pre_bounded.fn (F := Ideal) x0 x1 x2 x3 = fun _ => 1#1) :
    (∀ j, ∃ r : ℝ, (x0 j : EReal) = r) ∧ (∀ j, ∃ r : ℝ, (x1 j : EReal) = r) ∧ ∀ j, ∃ r : ℝ, (x3 j : EReal) = r := by
  have h0 := congrFun h ix0
  pointwise [Cert.Pre_bounded.fn] at h0
  obtain ⟨h0, k3⟩ := Ssd.both h0
  obtain ⟨k0, k1⟩ := Ssd.both h0
  exact ⟨fun j => ⟨_, (congrArg x0 (eq_ix2 j)).trans (Ssd.real_of_bit (Ssd.every k0 (j 0, j 1)))⟩,
    fun j => ⟨_, (congrArg x1 (eq_ix2 j)).trans (Ssd.real_of_bit (Ssd.every k1 (j 0, j 1)))⟩,
    fun j => ⟨_, (congrArg x3 (eq_ix2 j)).trans (Ssd.real_of_bit (Ssd.every k3 (j 0, j 1)))⟩⟩

/-- A block of the product is its part of the whole product. -/
theorem product_at (t : Fin cfg0.N) (y : S512x1408.Idx) (i : S4096x2816.Idx) (h0 : (i 0).val = 512 * (t.val / 2) + (y 0).val)
    (h1 : (i 1).val = 1408 * (t.val % 2) + (y 1).val) : share (iblk m c 0 t) (iblk m c 1 t) y = whole (V m c main_arg0) (V m c main_arg1) i := by
  have h0' : 512 * (t.val / 2) + (y 0).val < 4096 := lt_of_eq_of_lt h0.symm (i 0).isLt
  have h1' : 1408 * (t.val % 2) + (y 1).val < 2816 := lt_of_eq_of_lt h1.symm (i 1).isLt
  have e0 : (⟨512 * (t.val / 2) + (y 0).val, h0'⟩ : Fin 4096) = i 0 := Fin.ext h0.symm
  have e1 : (⟨1408 * (t.val % 2) + (y 1).val, h1'⟩ : Fin 2816) = i 1 := Fin.ext h1.symm
  exact Finset.sum_congr rfl fun k _ => congrArg₂ (· * ·) ((in0_at m c t (ix2 (y 0) k) h0').trans (congrArg _ (congrArg₂ ix2 e0 rfl)))
    ((in1_at m c t (ix2 (y 1) k) h1').trans (congrArg _ (congrArg₂ ix2 e1 rfl)))

/-- A block's place of the gate and of the other factor, by the place in the array. -/
theorem factors_at (t : Fin cfg0.N) (y : S512x1408.Idx) (i : S4096x2816.Idx) (h0 : (i 0).val = 512 * (t.val / 2) + (y 0).val)
    (h1 : (i 1).val = 1408 * (t.val % 2) + (y 1).val) : iblk m c 2 t y = V m c main_arg2 i ∧ iblk m c 3 t y = V m c main_arg3 i := by
  have h0' : 512 * (t.val / 2) + (y 0).val < 4096 := lt_of_eq_of_lt h0.symm (i 0).isLt
  have h1' : 1408 * (t.val % 2) + (y 1).val < 2816 := lt_of_eq_of_lt h1.symm (i 1).isLt
  have e0 : (⟨512 * (t.val / 2) + (y 0).val, h0'⟩ : Fin 4096) = i 0 := Fin.ext h0.symm
  have e1 : (⟨1408 * (t.val % 2) + (y 1).val, h1'⟩ : Fin 2816) = i 1 := Fin.ext h1.symm
  have ei : ix2 (⟨512 * (t.val / 2) + (y 0).val, h0'⟩ : Fin 4096) (⟨1408 * (t.val % 2) + (y 1).val, h1'⟩ : Fin 2816) = i :=
    (congrArg₂ ix2 e0 e1).trans (eq_ix2 i).symm
  exact ⟨(in2_at m c t y h0' h1').trans (congrArg _ ei), (in3_at m c t y h0' h1').trans (congrArg _ ei)⟩

/-- What a point leaves of the second result. -/
theorem block_dup (t : Fin cfg0.N) (y : S512x1408.Idx) (i : S4096x2816.Idx) (h0 : (i 0).val = 512 * (t.val / 2) + (y 0).val)
    (h1 : (i 1).val = 1408 * (t.val % 2) + (y 1).val) : out0_5 (iblk m c 0 t) (iblk m c 1 t) (iblk m c 2 t) (iblk m c 3 t) y
      = Cert.Reference6Ideal.Read.val_main_v10 (F := Ideal) (V m c main_arg0) (V m c main_arg1) (V m c main_arg2) i := by
  frame_out
  exact (pay_dup _ _ _ y).trans ((congrArg₂ dup (product_at m c t y i h0 h1) (factors_at m c t y i h0 h1).1).trans (reference_dup _ _ _ i).symm)

/-- What a point leaves of the first result. -/
theorem block_dgate [Cert.Pre_bounded.Facts] (h : Cert.Pre_bounded.fn (F := Ideal) (V m c main_arg0) (V m c main_arg1) (V m c main_arg2) (V m c main_arg3) = fun _ => 1#1)
    (t : Fin cfg0.N) (y : S512x1408.Idx) (i : S4096x2816.Idx) (h0 : (i 0).val = 512 * (t.val / 2) + (y 0).val)
    (h1 : (i 1).val = 1408 * (t.val % 2) + (y 1).val) : out0_4 (iblk m c 0 t) (iblk m c 1 t) (iblk m c 2 t) (iblk m c 3 t) y
      = Cert.Reference6Ideal.Read.val_main_v9 (F := Ideal) (V m c main_arg0) (V m c main_arg1) (V m c main_arg2) (V m c main_arg3) i := by
  obtain ⟨r0, r1, r3⟩ := real_at h
  obtain ⟨x, hx⟩ := whole_real _ _ i r0 r1
  obtain ⟨u, hu⟩ := r3 i
  obtain ⟨eg, eu⟩ := factors_at m c t y i h0 h1
  frame_out
  refine (pay_dgate _ _ _ _ y).trans ?_
  rw [product_at m c t y i h0 h1, eg, eu, reference_dgate, hx, hu]
  exact two_forms x u _

/-- The kernel's gradient of the gate is the reference's. -/
theorem result_dgate [Cert.Pre_bounded.Facts]
    (h : Cert.Pre_bounded.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) : (dats (F := Ideal) m 0 c).arrAt 4 cfg0.N = Cert.Reference6Ideal.Read.val_main_v9 (F := Ideal)
    (m ((c.tc : Thread nD τ).loc main_arg0)) (m ((c.tc : Thread nD τ).loc main_arg1)) (m ((c.tc : Thread nD τ).loc main_arg2)) (m ((c.tc : Thread nD τ).loc main_arg3)) := by
  rw [← V_main_arg0 m c, ← V_main_arg1 m c, ← V_main_arg2 m c, ← V_main_arg3 m c] at h
  refine (dats m 0 c).arrAt_eq_of_covers 4 _ (by decide +kernel) fun t hf y => ?_
  have ei : win0_4.index t = ![t.val / 2, t.val % 2] := (idx_at t).2.2.2.2.1
  rw [← V_main_arg0 m c, ← V_main_arg1 m c, ← V_main_arg2 m c, ← V_main_arg3 m c]
  blk_simp
  rw [after0_4]
  refine block_dgate m c h t y _ ?_ ?_
  · blk_simp [ei]
    omega
  · blk_simp [ei]
    omega

/-- The kernel's gradient of the other factor is the reference's. -/
theorem result_dup : (dats (F := Ideal) m 0 c).arrAt 5 cfg0.N = Cert.Reference6Ideal.Read.val_main_v10 (F := Ideal)
    (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  have ei : win0_5.index t = ![t.val / 2, t.val % 2] := (idx_at t).2.2.2.2.2
  rw [← V_main_arg0 m c, ← V_main_arg1 m c, ← V_main_arg2 m c]
  blk_simp
  rw [after0_5]
  refine block_dup m c t y _ ?_ ?_
  · blk_simp [ei]
    omega
  · blk_simp [ei]
    omega

end ActivationGrad

end
-- ==== Proof.OutputWeightGrad.lean ====
module

public import proofs.«01_k».proof.Proof.Blocks
public import proofs.«01_k».proof.Proof.Gen.Kernel7Ideal.Value
public import proofs.«01_k».proof.Proof.Gen.Reference7Ideal.Read
public import Idealize.ShloMosaic.Lib.Pointwise
public import Idealize.ShloMosaic.Lib.Pipeline.ValueKit
public import Idealize.ShloMosaic.Lib.Pipeline.ReadBack

/-!
# The gradient of the output projection's weights

The kernel adds up the product of the rows, block by block along the sequence, in a scratch array. The reference takes the whole product.
-/

@[expose] public section

set_option maxRecDepth 16384

noncomputable section

namespace OutputWeightGrad

open Idealize.ShloMosaic Idealize.ShloMosaic.TcCoe Cert.Kernel7Ideal Cert.Kernel7Ideal.Gen

variable (m : (l : Loc nD τ Cert.Kernel7Ideal.sig) → Buf (Elt Ideal) l) (c : Dev nD)

/-- What one point of the grid adds at a place of its block. -/
def share (x0 : Vec Ideal S512x1024 .bf16) (x1 : Vec Ideal S512x1024 .bf16) (y : S1024x1024.Idx) : EReal :=
  ∑ k : Fin 512, (x0 (ix2 k (y 0)) : EReal) * x1 (ix2 k (y 1))

/-- The body adds its share to what the scratch holds. -/
theorem pay_add (acc : Vec Ideal S1024x1024 .f32) (x0 : Vec Ideal S512x1024 .bf16) (x1 : Vec Ideal S512x1024 .bf16) (y : S1024x1024.Idx) :
    k0_pay2 (F := Ideal) acc x0 x1 y = acc y + share x0 x1 y := by
  pointwise [k0_pay2, share]

/-- The scratch begins at zero. -/
theorem pay_zero (y : S1024x1024.Idx) : k0_pay1 (F := Ideal) y = 0 := by
  pointwise [k0_pay1]

/-- The last point writes the scratch as it is. -/
theorem pay_out (v : Vec Ideal S1024x1024 .f32) (y : S1024x1024.Idx) : k0_pay3 (F := Ideal) v y = v y := by
  pointwise [k0_pay3]

/-- Where each block of the operands begins. -/
theorem idx_in : ∀ t : Fin cfg0.N, (cfg0.win 0).index t = ![t.val % 8, t.val / 8] ∧ (cfg0.win 1).index t = ![t.val % 8, 0] := by
  decide +kernel

/-- A place of a block of the rows that were multiplied. -/
theorem in0_at (t : Fin cfg0.N) (y : S512x1024.Idx) (h0 : 512 * (t.val % 8) + (y 0).val < 4096) (h1 : 1024 * (t.val / 8) + (y 1).val < 2048) :
    iblk m c 0 t y = V m c main_arg0 (ix2 (⟨512 * (t.val % 8) + (y 0).val, h0⟩ : Fin 4096) (⟨1024 * (t.val / 8) + (y 1).val, h1⟩ : Fin 2048)) := by
  blk_ext [iblk, (idx_in t).1]

/-- A place of a block of the gradient of the product. -/
theorem in1_at (t : Fin cfg0.N) (y : S512x1024.Idx) (h0 : 512 * (t.val % 8) + (y 0).val < 4096) :
    iblk m c 1 t y = V m c main_arg1 (ix2 (⟨512 * (t.val % 8) + (y 0).val, h0⟩ : Fin 4096) (y 1)) := by
  blk_ext [iblk, (idx_in t).2]

/-- A product of two places of one row. -/
def prods (a : Vec Ideal S4096x2048 .bf16) (b : Vec Ideal S4096x1024 .bf16) (i : S2048x1024.Idx) (k : Fin 4096) : EReal :=
  (a (ix2 k (i 0)) : EReal) * b (ix2 k (i 1))

/-- The reference's result is the whole product. -/
theorem reference_at (x0 : Vec Ideal S4096x2048 .bf16) (x1 : Vec Ideal S4096x1024 .bf16) (i : S2048x1024.Idx) :
    Cert.Reference7Ideal.Read.val_main_v6 (F := Ideal) x0 x1 i = ∑ k, prods x0 x1 i k := by
  pointwise [Cert.Reference7Ideal.Read.val_main_v6, Cert.Reference7Ideal.Read.val_main_v5, Cert.Reference7Ideal.Read.val_main_v4,
    Cert.Reference7Ideal.Read.val_main_v3, Cert.Reference7Ideal.Read.val_main_v2, Cert.Reference7Ideal.Read.val_main_v1,
    Cert.Reference7Ideal.Read.val_main_v0, prods]
  exact Finset.sum_congr rfl fun k _ => mul_comm _ _

/-- What point `n` adds, and nothing past the grid. -/
def addend (n : ℕ) (y : S1024x1024.Idx) : EReal :=
  if h : n < cfg0.N then share (iblk m c 0 ⟨n, h⟩) (iblk m c 1 ⟨n, h⟩) y else 0

/-- What the scratch holds after a point: the shares since the row of blocks began. -/
theorem scratch_at (t : Fin cfg0.N) (y : S1024x1024.Idx) :
    (outsAt0 m c t.val t.isLt).2 y = ∑ s ∈ Finset.range (t.val % 8 + 1), addend m c (8 * (t.val / 8) + s) y := by
  refine (Pipeline.eq_sum_of_reset_step_apply (fun n h => (outsAt0 m c n h).2) 8 (fun _ => (0 : EReal)) (addend m c) ?_ ?_ t y).trans (zero_add _)
  · intro t h y
    have h1 : ¬t.val % 8 = 7 := by omega
    show (outsAt0 m c t.val t.isLt).2 y = _
    rw [outsAt0_A m c t h h1]
    frame_out
    rw [pay_add, pay_zero]
    unfold addend
    rw [dif_pos t.isLt]
  · intro t h y
    show (outsAt0 m c t.val t.isLt).2 y = (outsAt0 m c (t.val - 1) _).2 y + _
    by_cases h1 : t.val % 8 = 7
    · rw [outsAt0_C m c t h h1]
      frame_out
      rw [pay_add]
      simp only [read_unread_whole]
      unfold addend
      rw [dif_pos t.isLt]
    · rw [outsAt0_B m c t h h1]
      frame_out
      rw [pay_add]
      simp only [read_unread_whole]
      unfold addend
      rw [dif_pos t.isLt]

/-- What the last point of a row of blocks writes is the scratch it leaves. -/
theorem out_at (t : Fin cfg0.N) (h : t.val % 8 = 7) (y : S1024x1024.Idx) : (outsAt0 m c t.val t.isLt).1 y = (outsAt0 m c t.val t.isLt).2 y := by
  have h0 : ¬t.val % 8 = 0 := by omega
  rw [outsAt0_C m c t h0 h]
  frame_out
  exact pay_out _ _

/-- One block of the product along the sequence. -/
theorem addend_at (i : S2048x1024.Idx) (s : ℕ) (hs : s < 8) :
    addend m c (8 * Value.run2Of i + s) (Value.loc2Of i)
      = ∑ k : Fin 512, if hk : 512 * s + k.val < 4096 then prods (V m c main_arg0) (V m c main_arg1) i ⟨512 * s + k.val, hk⟩ else 0 := by
  have h0 : (i 0).val < 2048 := (i 0).isLt
  have h1 : (i 1).val < 1024 := (i 1).isLt
  have hr : Value.run2Of i = (i 0).val / 1024 := by
    show 1 * ((i 0).val / 1024 - 0) + 1 * ((i 1).val / 1024 - 0) = _
    omega
  have hn : 8 * Value.run2Of i + s < cfg0.N := lt_of_lt_of_eq (by omega) (show 16 = cfg0.N from N_0.symm)
  unfold addend share prods
  rw [dif_pos hn]
  refine Finset.sum_congr rfl fun k _ => ?_
  have hk : 512 * s + k.val < 4096 := by omega
  have hrow : 512 * ((8 * Value.run2Of i + s) % 8) + k.val < 4096 := by omega
  have hcol : 1024 * ((8 * Value.run2Of i + s) / 8) + (i 0).val % 1024 < 2048 := by omega
  have hk' : (⟨512 * ((8 * Value.run2Of i + s) % 8) + k.val, hrow⟩ : Fin 4096) = ⟨512 * s + k.val, hk⟩ := Fin.ext (by
    show 512 * ((8 * Value.run2Of i + s) % 8) + k.val = 512 * s + k.val
    omega)
  have ea : (⟨1024 * ((8 * Value.run2Of i + s) / 8) + (i 0).val % 1024, hcol⟩ : Fin 2048) = i 0 := Fin.ext (by
    show 1024 * ((8 * Value.run2Of i + s) / 8) + (i 0).val % 1024 = (i 0).val
    omega)
  have eb : Value.loc2Of i 1 = i 1 := Fin.ext (by
    show (i 1).val % 1024 = (i 1).val
    omega)
  rw [dif_pos hk]
  exact congrArg₂ (· * ·) ((in0_at m c ⟨_, hn⟩ (ix2 k (Value.loc2Of i 0)) hrow hcol).trans (congrArg _ (congrArg₂ ix2 hk' ea)))
    ((in1_at m c ⟨_, hn⟩ (ix2 k (Value.loc2Of i 1)) hrow).trans (congrArg _ (congrArg₂ ix2 hk' eb)))

/-- The kernel's result is the reference's. -/
theorem result : Value.G2 (F := Ideal) m c = Cert.Reference7Ideal.Read.val_main_v6 (F := Ideal) (m ((c.tc : Thread nD τ).loc main_arg0))
    (m ((c.tc : Thread nD τ).loc main_arg1)) := by
  funext i
  have h0 : (i 0).val < 2048 := (i 0).isLt
  have h1 : (i 1).val < 1024 := (i 1).isLt
  have hr : Value.run2Of i = (i 0).val / 1024 := by
    show 1 * ((i 0).val / 1024 - 0) + 1 * ((i 1).val / 1024 - 0) = _
    omega
  have hn : Value.pt2Of i < cfg0.N := lt_of_lt_of_eq (show 8 * Value.run2Of i + 7 < 16 by omega) (show 16 = cfg0.N from N_0.symm)
  have hm : Value.pt2Of i % 8 = 7 := by
    show (8 * Value.run2Of i + 7) % 8 = 7
    omega
  have hd : 8 * (Value.pt2Of i / 8) = 8 * Value.run2Of i := by
    show 8 * ((8 * Value.run2Of i + 7) / 8) = _
    omega
  unfold Value.G2
  rw [dif_pos hn, ← Value.outsAt0_sweep m c (Value.pt2Of i) hn, out_at m c ⟨_, hn⟩ hm, scratch_at m c ⟨_, hn⟩, reference_at]
  show ∑ s ∈ Finset.range (Value.pt2Of i % 8 + 1), addend m c (8 * (Value.pt2Of i / 8) + s) (Value.loc2Of i) = _
  rw [hm, hd, Finset.sum_congr rfl fun s hs => addend_at m c i s (Finset.mem_range.mp hs),
    Blockwise.sum_blocks 8 512 4096 rfl _ (prods (V m c main_arg0) (V m c main_arg1) i) fun s _ => rfl, V_main_arg0, V_main_arg1]

end OutputWeightGrad

end
-- ==== Proof.InputProjection.lean ====
module

public import proofs.«01_k».proof.Proof.Gen.Kernel8Ideal.Value
public import proofs.«01_k».proof.Proof.Gen.Reference8Ideal.Read
public import Idealize.ShloMosaic.Lib.Pointwise
public import Idealize.ShloMosaic.Lib.Pipeline.ValueKit
public import Idealize.ShloMosaic.Lib.Pipeline.ReadBack

/-!
# The input projection

Each block of the result is one product of a block of rows with a block of the weights' rows.
-/

@[expose] public section

set_option maxRecDepth 16384

noncomputable section

namespace InputProjection

open Idealize.ShloMosaic Idealize.ShloMosaic.TcCoe Cert.Kernel8Ideal Cert.Kernel8Ideal.Gen

variable (m : (l : Loc nD τ Cert.Kernel8Ideal.sig) → Buf (Elt Ideal) l) (c : Dev nD)

/-- A place of the product of a block of rows with a block of the weights' rows. -/
def share (x0 : Vec Ideal S1024x1024 .bf16) (x1 : Vec Ideal S1024x1024 .bf16) (y : S1024x1024.Idx) : EReal :=
  ∑ k : Fin 1024, (x0 (ix2 (y 0) k) : EReal) * x1 (ix2 (y 1) k)

/-- The body's product, at a place of its block. -/
theorem pay_at (x0 : Vec Ideal S1024x1024 .bf16) (x1 : Vec Ideal S1024x1024 .bf16) (y : S1024x1024.Idx) :
    k0_pay2 (F := Ideal) (k0_pay1 (F := Ideal)) x0 x1 y = share x0 x1 y := by
  pointwise [k0_pay2, k0_pay1, share]

/-- Where each block of the operands and of the result begins. -/
theorem idx_at : ∀ t : Fin cfg0.N, (cfg0.win 0).index t = ![t.val / 6, 0] ∧ (cfg0.win 1).index t = ![t.val % 6, 0]
    ∧ (cfg0.win 2).index t = ![t.val / 6, t.val % 6] := by
  decide +kernel

/-- A place of a block of the rows. -/
theorem in0_at (t : Fin cfg0.N) (y : S1024x1024.Idx) (h0 : 1024 * (t.val / 6) + (y 0).val < 4096) :
    iblk m c 0 t y = V m c main_arg0 (ix2 (⟨1024 * (t.val / 6) + (y 0).val, h0⟩ : Fin 4096) (y 1)) := by
  blk_ext [iblk, (idx_at t).1]

/-- A place of a block of the weights. -/
theorem in1_at (t : Fin cfg0.N) (y : S1024x1024.Idx) (h0 : 1024 * (t.val % 6) + (y 0).val < 6144) :
    iblk m c 1 t y = V m c main_arg1 (ix2 (⟨1024 * (t.val % 6) + (y 0).val, h0⟩ : Fin 6144) (y 1)) := by
  blk_ext [iblk, (idx_at t).2.1]

/-- The reference's result is the whole product. -/
theorem reference_at (x0 : Vec Ideal S4096x1024 .bf16) (x1 : Vec Ideal S6144x1024 .bf16) (i : S4096x6144.Idx) :
    Cert.Reference8Ideal.Read.val_main_v3 (F := Ideal) x0 x1 i = ∑ k : Fin 1024, (x0 (ix2 (i 0) k) : EReal) * x1 (ix2 (i 1) k) := by
  pointwise [Cert.Reference8Ideal.Read.val_main_v3, Cert.Reference8Ideal.Read.val_main_v2, Cert.Reference8Ideal.Read.val_main_v1, Cert.Reference8Ideal.Read.val_main_v0]

/-- What a point leaves at a place of its block. -/
theorem out_at (t : Fin cfg0.N) (y : S1024x1024.Idx) :
    outsAt0 m c t y = share (iblk m c 0 t) (iblk m c 1 t) y := by
  unfold outsAt0
  frame_out
  exact pay_at _ _ _

/-- What a point leaves is its block of the reference's result. -/
theorem block_at (t : Fin cfg0.N) (y : S1024x1024.Idx) (i : S4096x6144.Idx) (h0 : (i 0).val = 1024 * (t.val / 6) + (y 0).val)
    (h1 : (i 1).val = 1024 * (t.val % 6) + (y 1).val) :
    outsAt0 m c t y = Cert.Reference8Ideal.Read.val_main_v3 (F := Ideal) (V m c main_arg0) (V m c main_arg1) i := by
  have h0' : 1024 * (t.val / 6) + (y 0).val < 4096 := lt_of_eq_of_lt h0.symm (i 0).isLt
  have h1' : 1024 * (t.val % 6) + (y 1).val < 6144 := lt_of_eq_of_lt h1.symm (i 1).isLt
  have e0 : (⟨1024 * (t.val / 6) + (y 0).val, h0'⟩ : Fin 4096) = i 0 := Fin.ext h0.symm
  have e1 : (⟨1024 * (t.val % 6) + (y 1).val, h1'⟩ : Fin 6144) = i 1 := Fin.ext h1.symm
  rw [out_at, reference_at]
  unfold share
  exact Finset.sum_congr rfl fun k _ => congrArg₂ (· * ·) ((in0_at m c t (ix2 (y 0) k) h0').trans (congrArg _ (congrArg₂ ix2 e0 rfl)))
    ((in1_at m c t (ix2 (y 1) k) h1').trans (congrArg _ (congrArg₂ ix2 e1 rfl)))

/-- The kernel's result is the reference's. -/
theorem result : (dats (F := Ideal) m 0 c).arrAt 2 cfg0.N = Cert.Reference8Ideal.Read.val_main_v3 (F := Ideal)
    (m ((c.tc : Thread nD τ).loc main_arg0)) (m ((c.tc : Thread nD τ).loc main_arg1)) := by
  refine (dats m 0 c).arrAt_eq_of_covers 2 _ (by decide +kernel) fun t hf y => ?_
  have ei : win0_2.index t = ![t.val / 6, t.val % 6] := (idx_at t).2.2
  rw [← V_main_arg0 m c, ← V_main_arg1 m c]
  blk_simp
  rw [after0_2]
  refine block_at m c t y _ ?_ ?_
  · blk_simp [ei]
    omega
  · blk_simp [ei]
    omega

end InputProjection

end
-- ==== Proof.Activation.lean ====
module

public import proofs.«01_k».proof.Proof.Gen.Kernel9Ideal.Value
public import proofs.«01_k».proof.Proof.Gen.Reference9Ideal.Read
public import Idealize.ShloMosaic.Lib.Pointwise
public import Idealize.ShloMosaic.Lib.Pipeline.ValueKit

/-!
# The feed-forward layer's first two products and its activation

Each block of the results is read off one product of a block of rows with a block of each of the weights' rows.
-/

@[expose] public section

set_option maxRecDepth 16384

noncomputable section

namespace Activation

open Idealize.ShloMosaic Idealize.ShloMosaic.TcCoe Cert.Kernel9Ideal Cert.Kernel9Ideal.Gen

variable (m : (l : Loc nD τ Cert.Kernel9Ideal.sig) → Buf (Elt Ideal) l) (c : Dev nD)

/-- A place of the product of a block of rows with a block of the weights' rows. -/
def share (x0 : Vec Ideal S512x1024 .bf16) (x1 : Vec Ideal S1408x1024 .bf16) (y : S512x1408.Idx) : EReal :=
  ∑ k : Fin 1024, (x0 (ix2 (y 0) k) : EReal) * x1 (ix2 (y 1) k)

/-- A place of the product of the rows with the weights' rows. -/
def whole (x0 : Vec Ideal S4096x1024 .bf16) (x1 : Vec Ideal S2816x1024 .bf16) (i : S4096x2816.Idx) : EReal :=
  ∑ k : Fin 1024, (x0 (ix2 (i 0) k) : EReal) * x1 (ix2 (i 1) k)

/-- The activation of two numbers. -/
def act (g u : EReal) : EReal :=
  g * Ideal.logistic g * u

/-- The body's first product. -/
theorem pay_gate (x0 : Vec Ideal S512x1024 .bf16) (x1 : Vec Ideal S1408x1024 .bf16) (y : S512x1408.Idx) : k0_pay1 (F := Ideal) x0 x1 y = share x0 x1 y := by
  pointwise [k0_pay1, share]

/-- The body's second product. -/
theorem pay_up (x0 : Vec Ideal S512x1024 .bf16) (x1 : Vec Ideal S1408x1024 .bf16) (y : S512x1408.Idx) : k0_pay2 (F := Ideal) x0 x1 y = share x0 x1 y := by
  pointwise [k0_pay2, share]

/-- The body's activation. -/
theorem pay_act (x0 : Vec Ideal S512x1024 .bf16) (x1 x2 : Vec Ideal S1408x1024 .bf16) (y : S512x1408.Idx) :
    k0_pay3 (F := Ideal) x0 x1 x2 y = act (share x0 x1 y) (share x0 x2 y) := by
  pointwise [k0_pay3, k0_pay2, k0_pay1, share, act]

/-- Where each block of the operands and of the results begins. -/
theorem idx_at : ∀ t : Fin cfg0.N, (cfg0.win 0).index t = ![t.val % 8, 0] ∧ (cfg0.win 1).index t = ![t.val / 8, 0]
    ∧ (cfg0.win 2).index t = ![t.val / 8, 0] ∧ (cfg0.win 3).index t = ![t.val % 8, t.val / 8] ∧ (cfg0.win 4).index t = ![t.val % 8, t.val / 8]
    ∧ (cfg0.win 5).index t = ![t.val % 8, t.val / 8] := by
  decide +kernel

/-- A place of a block of the rows. -/
theorem in0_at (t : Fin cfg0.N) (y : S512x1024.Idx) (h0 : 512 * (t.val % 8) + (y 0).val < 4096) :
    iblk m c 0 t y = V m c main_arg0 (ix2 (⟨512 * (t.val % 8) + (y 0).val, h0⟩ : Fin 4096) (y 1)) := by
  blk_ext [iblk, (idx_at t).1]

/-- A place of a block of the first weights. -/
theorem in1_at (t : Fin cfg0.N) (y : S1408x1024.Idx) (h0 : 1408 * (t.val / 8) + (y 0).val < 2816) :
    iblk m c 1 t y = V m c main_arg1 (ix2 (⟨1408 * (t.val / 8) + (y 0).val, h0⟩ : Fin 2816) (y 1)) := by
  blk_ext [iblk, (idx_at t).2.1]

/-- A place of a block of the second weights. -/
theorem in2_at (t : Fin cfg0.N) (y : S1408x1024.Idx) (h0 : 1408 * (t.val / 8) + (y 0).val < 2816) :
    iblk m c 2 t y = V m c main_arg2 (ix2 (⟨1408 * (t.val / 8) + (y 0).val, h0⟩ : Fin 2816) (y 1)) := by
  blk_ext [iblk, (idx_at t).2.2.1]

/-- The reference's first product. -/
theorem reference_gate (x0 : Vec Ideal S4096x1024 .bf16) (x1 : Vec Ideal S2816x1024 .bf16) (i : S4096x2816.Idx) :
    Cert.Reference9Ideal.Read.val_main_v3 (F := Ideal) x0 x1 i = whole x0 x1 i := by
  pointwise [Cert.Reference9Ideal.Read.val_main_v3, Cert.Reference9Ideal.Read.val_main_v2, Cert.Reference9Ideal.Read.val_main_v1,
    Cert.Reference9Ideal.Read.val_main_v0, whole]

/-- The reference's second product. -/
theorem reference_up (x0 : Vec Ideal S4096x1024 .bf16) (x2 : Vec Ideal S2816x1024 .bf16) (i : S4096x2816.Idx) :
    Cert.Reference9Ideal.Read.val_main_v6 (F := Ideal) x0 x2 i = whole x0 x2 i := by
  pointwise [Cert.Reference9Ideal.Read.val_main_v6, Cert.Reference9Ideal.Read.val_main_v5, Cert.Reference9Ideal.Read.val_main_v4,
    Cert.Reference9Ideal.Read.val_main_v0, whole]

/-- The reference's activation. -/
theorem reference_act (x0 : Vec Ideal S4096x1024 .bf16) (x1 x2 : Vec Ideal S2816x1024 .bf16) (i : S4096x2816.Idx) :
    Cert.Reference9Ideal.Read.val_main_v9 (F := Ideal) x0 x1 x2 i = act (whole x0 x1 i) (whole x0 x2 i) := by
  rw [← reference_gate, ← reference_up]
  pointwise [Cert.Reference9Ideal.Read.val_main_v9, Cert.Reference9Ideal.Read.val_main_v8, Cert.Reference9Ideal.Read.val_main_v7,
    Cert.Reference9Ideal.Read.val_main_call0_v5, Cert.Reference9Ideal.Read.val_main_call0_v4, Cert.Reference9Ideal.Read.val_main_call0_cst_0,
    Cert.Reference9Ideal.Read.val_main_call0_v3, Cert.Reference9Ideal.Read.val_main_call0_v2, Cert.Reference9Ideal.Read.val_main_call0_cst,
    Cert.Reference9Ideal.Read.val_main_call0_v1, Cert.Reference9Ideal.Read.val_main_call0_v0, act, Ideal.logistic]

/-- A block of the first product is its part of the whole product. -/
theorem gate_at (t : Fin cfg0.N) (y : S512x1408.Idx) (i : S4096x2816.Idx) (h0 : (i 0).val = 512 * (t.val % 8) + (y 0).val)
    (h1 : (i 1).val = 1408 * (t.val / 8) + (y 1).val) : share (iblk m c 0 t) (iblk m c 1 t) y = whole (V m c main_arg0) (V m c main_arg1) i := by
  have h0' : 512 * (t.val % 8) + (y 0).val < 4096 := lt_of_eq_of_lt h0.symm (i 0).isLt
  have h1' : 1408 * (t.val / 8) + (y 1).val < 2816 := lt_of_eq_of_lt h1.symm (i 1).isLt
  have e0 : (⟨512 * (t.val % 8) + (y 0).val, h0'⟩ : Fin 4096) = i 0 := Fin.ext h0.symm
  have e1 : (⟨1408 * (t.val / 8) + (y 1).val, h1'⟩ : Fin 2816) = i 1 := Fin.ext h1.symm
  exact Finset.sum_congr rfl fun k _ => congrArg₂ (· * ·) ((in0_at m c t (ix2 (y 0) k) h0').trans (congrArg _ (congrArg₂ ix2 e0 rfl)))
    ((in1_at m c t (ix2 (y 1) k) h1').trans (congrArg _ (congrArg₂ ix2 e1 rfl)))

/-- A block of the second product is its part of the whole product. -/
theorem up_at (t : Fin cfg0.N) (y : S512x1408.Idx) (i : S4096x2816.Idx) (h0 : (i 0).val = 512 * (t.val % 8) + (y 0).val)
    (h1 : (i 1).val = 1408 * (t.val / 8) + (y 1).val) : share (iblk m c 0 t) (iblk m c 2 t) y = whole (V m c main_arg0) (V m c main_arg2) i := by
  have h0' : 512 * (t.val % 8) + (y 0).val < 4096 := lt_of_eq_of_lt h0.symm (i 0).isLt
  have h1' : 1408 * (t.val / 8) + (y 1).val < 2816 := lt_of_eq_of_lt h1.symm (i 1).isLt
  have e0 : (⟨512 * (t.val % 8) + (y 0).val, h0'⟩ : Fin 4096) = i 0 := Fin.ext h0.symm
  have e1 : (⟨1408 * (t.val / 8) + (y 1).val, h1'⟩ : Fin 2816) = i 1 := Fin.ext h1.symm
  exact Finset.sum_congr rfl fun k _ => congrArg₂ (· * ·) ((in0_at m c t (ix2 (y 0) k) h0').trans (congrArg _ (congrArg₂ ix2 e0 rfl)))
    ((in2_at m c t (ix2 (y 1) k) h1').trans (congrArg _ (congrArg₂ ix2 e1 rfl)))

/-- What a point leaves of the first product. -/
theorem block_gate (t : Fin cfg0.N) (y : S512x1408.Idx) (i : S4096x2816.Idx) (h0 : (i 0).val = 512 * (t.val % 8) + (y 0).val)
    (h1 : (i 1).val = 1408 * (t.val / 8) + (y 1).val) : out0_3 (iblk m c 0 t) (iblk m c 1 t) (iblk m c 2 t) y
      = Cert.Reference9Ideal.Read.val_main_v3 (F := Ideal) (V m c main_arg0) (V m c main_arg1) i := by
  frame_out
  exact (pay_gate _ _ y).trans ((gate_at m c t y i h0 h1).trans (reference_gate _ _ i).symm)

/-- What a point leaves of the second product. -/
theorem block_up (t : Fin cfg0.N) (y : S512x1408.Idx) (i : S4096x2816.Idx) (h0 : (i 0).val = 512 * (t.val % 8) + (y 0).val)
    (h1 : (i 1).val = 1408 * (t.val / 8) + (y 1).val) : out0_4 (iblk m c 0 t) (iblk m c 1 t) (iblk m c 2 t) y
      = Cert.Reference9Ideal.Read.val_main_v6 (F := Ideal) (V m c main_arg0) (V m c main_arg2) i := by
  frame_out
  exact (pay_up _ _ y).trans ((up_at m c t y i h0 h1).trans (reference_up _ _ i).symm)

/-- What a point leaves of the activation. -/
theorem block_act (t : Fin cfg0.N) (y : S512x1408.Idx) (i : S4096x2816.Idx) (h0 : (i 0).val = 512 * (t.val % 8) + (y 0).val)
    (h1 : (i 1).val = 1408 * (t.val / 8) + (y 1).val) : out0_5 (iblk m c 0 t) (iblk m c 1 t) (iblk m c 2 t) y
      = Cert.Reference9Ideal.Read.val_main_v9 (F := Ideal) (V m c main_arg0) (V m c main_arg1) (V m c main_arg2) i := by
  frame_out
  exact (pay_act _ _ _ y).trans ((congrArg₂ act (gate_at m c t y i h0 h1) (up_at m c t y i h0 h1)).trans (reference_act _ _ _ i).symm)

/-- The kernel's first product is the reference's. -/
theorem result_gate : (dats (F := Ideal) m 0 c).arrAt 3 cfg0.N = Cert.Reference9Ideal.Read.val_main_v3 (F := Ideal)
    (m ((c.tc : Thread nD τ).loc main_arg0)) (m ((c.tc : Thread nD τ).loc main_arg1)) := by
  refine (dats m 0 c).arrAt_eq_of_covers 3 _ (by decide +kernel) fun t hf y => ?_
  have ei : win0_3.index t = ![t.val % 8, t.val / 8] := (idx_at t).2.2.2.1
  rw [← V_main_arg0 m c, ← V_main_arg1 m c]
  blk_simp
  rw [after0_3]
  refine block_gate m c t y _ ?_ ?_
  · blk_simp [ei]
    omega
  · blk_simp [ei]
    omega

/-- The kernel's second product is the reference's. -/
theorem result_up : (dats (F := Ideal) m 0 c).arrAt 4 cfg0.N = Cert.Reference9Ideal.Read.val_main_v6 (F := Ideal)
    (m ((c.tc : Thread nD τ).loc main_arg0)) (m ((c.tc : Thread nD τ).loc main_arg2)) := by
  refine (dats m 0 c).arrAt_eq_of_covers 4 _ (by decide +kernel) fun t hf y => ?_
  have ei : win0_4.index t = ![t.val % 8, t.val / 8] := (idx_at t).2.2.2.2.1
  rw [← V_main_arg0 m c, ← V_main_arg2 m c]
  blk_simp
  rw [after0_4]
  refine block_up m c t y _ ?_ ?_
  · blk_simp [ei]
    omega
  · blk_simp [ei]
    omega

/-- The kernel's activation is the reference's. -/
theorem result_act : (dats (F := Ideal) m 0 c).arrAt 5 cfg0.N = Cert.Reference9Ideal.Read.val_main_v9 (F := Ideal)
    (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  have ei : win0_5.index t = ![t.val % 8, t.val / 8] := (idx_at t).2.2.2.2.2
  rw [← V_main_arg0 m c, ← V_main_arg1 m c, ← V_main_arg2 m c]
  blk_simp
  rw [after0_5]
  refine block_act m c t y _ ?_ ?_
  · blk_simp [ei]
    omega
  · blk_simp [ei]
    omega

end Activation

end
-- ==== Proof.DownProjection.lean ====
module

public import proofs.«01_k».proof.Proof.Blocks
public import proofs.«01_k».proof.Proof.Gen.Kernel10Ideal.Value
public import proofs.«01_k».proof.Proof.Gen.Reference10Ideal.Read
public import Idealize.ShloMosaic.Lib.Pointwise
public import Idealize.ShloMosaic.Lib.Pipeline.ValueKit
public import Idealize.ShloMosaic.Lib.Pipeline.ReadBack

/-!
# The feed-forward layer's last product

The kernel adds up the product, block by block along the hidden width, in a scratch array. The reference takes the whole product.
-/

@[expose] public section

set_option maxRecDepth 16384

noncomputable section

namespace DownProjection

open Idealize.ShloMosaic Idealize.ShloMosaic.TcCoe Cert.Kernel10Ideal Cert.Kernel10Ideal.Gen

variable (m : (l : Loc nD τ Cert.Kernel10Ideal.sig) → Buf (Elt Ideal) l) (c : Dev nD)

/-- What one point of the grid adds at a place of its block. -/
def share (x0 : Vec Ideal S1024x1408 .bf16) (x1 : Vec Ideal S1408x1024 .bf16) (y : S1024x1024.Idx) : EReal :=
  ∑ k : Fin 1408, (x0 (ix2 (y 0) k) : EReal) * x1 (ix2 k (y 1))

/-- The body adds its share to what the scratch holds. -/
theorem pay_add (acc : Vec Ideal S1024x1024 .f32) (x0 : Vec Ideal S1024x1408 .bf16) (x1 : Vec Ideal S1408x1024 .bf16) (y : S1024x1024.Idx) :
    k0_pay2 (F := Ideal) acc x0 x1 y = acc y + share x0 x1 y := by
  pointwise [k0_pay2, share]

/-- The scratch begins at zero. -/
theorem pay_zero (y : S1024x1024.Idx) : k0_pay1 (F := Ideal) y = 0 := by
  pointwise [k0_pay1]

/-- Where each block of the operands begins. -/
theorem idx_in : ∀ t : Fin cfg0.N, (cfg0.win 0).index t = ![t.val / 2, t.val % 2] ∧ (cfg0.win 1).index t = ![t.val % 2, 0] := by
  decide +kernel

/-- A place of a block of the rows. -/
theorem in0_at (t : Fin cfg0.N) (y : S1024x1408.Idx) (h0 : 1024 * (t.val / 2) + (y 0).val < 4096) (h1 : 1408 * (t.val % 2) + (y 1).val < 2816) :
    iblk m c 0 t y = V m c main_arg0 (ix2 (⟨1024 * (t.val / 2) + (y 0).val, h0⟩ : Fin 4096) (⟨1408 * (t.val % 2) + (y 1).val, h1⟩ : Fin 2816)) := by
  blk_ext [iblk, (idx_in t).1]

/-- A place of a block of the weights. -/
theorem in1_at (t : Fin cfg0.N) (y : S1408x1024.Idx) (h0 : 1408 * (t.val % 2) + (y 0).val < 2816) :
    iblk m c 1 t y = V m c main_arg1 (ix2 (⟨1408 * (t.val % 2) + (y 0).val, h0⟩ : Fin 2816) (y 1)) := by
  blk_ext [iblk, (idx_in t).2]

/-- A product of a place of a row with a place of a column. -/
def prods (a : Vec Ideal S4096x2816 .bf16) (b : Vec Ideal S2816x1024 .bf16) (i : S4096x1024.Idx) (k : Fin 2816) : EReal :=
  (a (ix2 (i 0) k) : EReal) * b (ix2 k (i 1))

/-- The reference's result is the whole product. -/
theorem reference_at (x0 : Vec Ideal S4096x2816 .bf16) (x1 : Vec Ideal S2816x1024 .bf16) (i : S4096x1024.Idx) :
    Cert.Reference10Ideal.Read.val_main_v2 (F := Ideal) x0 x1 i = ∑ k, prods x0 x1 i k := by
  pointwise [Cert.Reference10Ideal.Read.val_main_v2, Cert.Reference10Ideal.Read.val_main_v1, Cert.Reference10Ideal.Read.val_main_v0, prods]

/-- What point `n` adds, and nothing past the grid. -/
def addend (n : ℕ) (y : S1024x1024.Idx) : EReal :=
  if h : n < cfg0.N then share (iblk m c 0 ⟨n, h⟩) (iblk m c 1 ⟨n, h⟩) y else 0

/-- What the scratch holds after a point: the shares since the row of blocks began. -/
theorem scratch_at (t : Fin cfg0.N) (y : S1024x1024.Idx) :
    (outsAt0 m c t.val t.isLt).2 y = ∑ s ∈ Finset.range (t.val % 2 + 1), addend m c (2 * (t.val / 2) + s) y := by
  refine (Pipeline.eq_sum_of_reset_step_apply (fun n h => (outsAt0 m c n h).2) 2 (fun _ => (0 : EReal)) (addend m c) ?_ ?_ t y).trans (zero_add _)
  · intro t h y
    have h1 : ¬t.val % 2 = 1 := by omega
    show (outsAt0 m c t.val t.isLt).2 y = _
    rw [outsAt0_A m c t h h1]
    frame_out
    rw [pay_add, pay_zero]
    unfold addend
    rw [dif_pos t.isLt]
  · intro t h y
    have h1 : t.val % 2 = 1 := by omega
    show (outsAt0 m c t.val t.isLt).2 y = (outsAt0 m c (t.val - 1) _).2 y + _
    rw [outsAt0_B m c t h h1]
    frame_out
    rw [pay_add]
    simp only [read_unread_whole]
    unfold addend
    rw [dif_pos t.isLt]

/-- What the last point of a row of blocks writes is the scratch it leaves. -/
theorem out_at (t : Fin cfg0.N) (h : t.val % 2 = 1) (y : S1024x1024.Idx) : (outsAt0 m c t.val t.isLt).1 y = (outsAt0 m c t.val t.isLt).2 y := by
  have h0 : ¬t.val % 2 = 0 := by omega
  rw [outsAt0_B m c t h0 h]
  frame_out

/-- One block of the product along the hidden width. -/
theorem addend_at (i : S4096x1024.Idx) (s : ℕ) (hs : s < 2) :
    addend m c (2 * Value.run2Of i + s) (Value.loc2Of i)
      = ∑ k : Fin 1408, if hk : 1408 * s + k.val < 2816 then prods (V m c main_arg0) (V m c main_arg1) i ⟨1408 * s + k.val, hk⟩ else 0 := by
  have h0 : (i 0).val < 4096 := (i 0).isLt
  have h1 : (i 1).val < 1024 := (i 1).isLt
  have hr : Value.run2Of i = (i 0).val / 1024 := by
    show 1 * ((i 0).val / 1024 - 0) + 1 * ((i 1).val / 1024 - 0) = _
    omega
  have hn : 2 * Value.run2Of i + s < cfg0.N := lt_of_lt_of_eq (by omega) (show 8 = cfg0.N from N_0.symm)
  unfold addend share prods
  rw [dif_pos hn]
  refine Finset.sum_congr rfl fun k _ => ?_
  have hk : 1408 * s + k.val < 2816 := by omega
  have hrow : 1024 * ((2 * Value.run2Of i + s) / 2) + (i 0).val % 1024 < 4096 := by omega
  have hcol : 1408 * ((2 * Value.run2Of i + s) % 2) + k.val < 2816 := by omega
  have ea : (⟨1024 * ((2 * Value.run2Of i + s) / 2) + (i 0).val % 1024, hrow⟩ : Fin 4096) = i 0 := Fin.ext (by
    show 1024 * ((2 * Value.run2Of i + s) / 2) + (i 0).val % 1024 = (i 0).val
    omega)
  have hk' : (⟨1408 * ((2 * Value.run2Of i + s) % 2) + k.val, hcol⟩ : Fin 2816) = ⟨1408 * s + k.val, hk⟩ := Fin.ext (by
    show 1408 * ((2 * Value.run2Of i + s) % 2) + k.val = 1408 * s + k.val
    omega)
  have eb : Value.loc2Of i 1 = i 1 := Fin.ext (by
    show (i 1).val % 1024 = (i 1).val
    omega)
  rw [dif_pos hk]
  exact congrArg₂ (· * ·) ((in0_at m c ⟨_, hn⟩ (ix2 (Value.loc2Of i 0) k) hrow hcol).trans (congrArg _ (congrArg₂ ix2 ea hk')))
    ((in1_at m c ⟨_, hn⟩ (ix2 k (Value.loc2Of i 1)) hcol).trans (congrArg _ (congrArg₂ ix2 hk' eb)))

/-- The kernel's result is the reference's. -/
theorem result : Value.G2 (F := Ideal) m c = Cert.Reference10Ideal.Read.val_main_v2 (F := Ideal) (m ((c.tc : Thread nD τ).loc main_arg0))
    (m ((c.tc : Thread nD τ).loc main_arg1)) := by
  funext i
  have h0 : (i 0).val < 4096 := (i 0).isLt
  have h1 : (i 1).val < 1024 := (i 1).isLt
  have hr : Value.run2Of i = (i 0).val / 1024 := by
    show 1 * ((i 0).val / 1024 - 0) + 1 * ((i 1).val / 1024 - 0) = _
    omega
  have hn : Value.pt2Of i < cfg0.N := lt_of_lt_of_eq (show 2 * Value.run2Of i + 1 < 8 by omega) (show 8 = cfg0.N from N_0.symm)
  have hm : Value.pt2Of i % 2 = 1 := by
    show (2 * Value.run2Of i + 1) % 2 = 1
    omega
  have hd : 2 * (Value.pt2Of i / 2) = 2 * Value.run2Of i := by
    show 2 * ((2 * Value.run2Of i + 1) / 2) = _
    omega
  unfold Value.G2
  rw [dif_pos hn, ← Value.outsAt0_sweep m c (Value.pt2Of i) hn, out_at m c ⟨_, hn⟩ hm, scratch_at m c ⟨_, hn⟩, reference_at]
  show ∑ s ∈ Finset.range (Value.pt2Of i % 2 + 1), addend m c (2 * (Value.pt2Of i / 2) + s) (Value.loc2Of i) = _
  rw [hm, hd, Finset.sum_congr rfl fun s hs => addend_at m c i s (Finset.mem_range.mp hs),
    Blockwise.sum_blocks 2 1408 2816 rfl _ (prods (V m c main_arg0) (V m c main_arg1) i) fun s _ => rfl, V_main_arg0, V_main_arg1]

end DownProjection

end
-- ==== Proof.OutputProjection.lean ====
module

public import proofs.«01_k».proof.Proof.Blocks
public import proofs.«01_k».proof.Proof.Gen.Kernel11Ideal.Value
public import proofs.«01_k».proof.Proof.Gen.Reference11Ideal.Read
public import Idealize.ShloMosaic.Lib.Pointwise
public import Idealize.ShloMosaic.Lib.Pipeline.ValueKit
public import Idealize.ShloMosaic.Lib.Pipeline.ReadBack

/-!
# The output projection

The kernel adds up the product, block by block along the inner width, in a scratch array. The reference takes the whole product.
-/

@[expose] public section

set_option maxRecDepth 16384

noncomputable section

namespace OutputProjection

open Idealize.ShloMosaic Idealize.ShloMosaic.TcCoe Cert.Kernel11Ideal Cert.Kernel11Ideal.Gen

variable (m : (l : Loc nD τ Cert.Kernel11Ideal.sig) → Buf (Elt Ideal) l) (c : Dev nD)

/-- What one point of the grid adds at a place of its block. -/
def share (x0 : Vec Ideal S1024x1024 .bf16) (x1 : Vec Ideal S1024x1024 .bf16) (y : S1024x1024.Idx) : EReal :=
  ∑ k : Fin 1024, (x0 (ix2 (y 0) k) : EReal) * x1 (ix2 k (y 1))

/-- The body adds its share to what the scratch holds. -/
theorem pay_add (acc : Vec Ideal S1024x1024 .f32) (x0 : Vec Ideal S1024x1024 .bf16) (x1 : Vec Ideal S1024x1024 .bf16) (y : S1024x1024.Idx) :
    k0_pay2 (F := Ideal) acc x0 x1 y = acc y + share x0 x1 y := by
  pointwise [k0_pay2, share]

/-- The scratch begins at zero. -/
theorem pay_zero (y : S1024x1024.Idx) : k0_pay1 (F := Ideal) y = 0 := by
  pointwise [k0_pay1]

/-- Where each block of the operands begins. -/
theorem idx_in : ∀ t : Fin cfg0.N, (cfg0.win 0).index t = ![t.val / 2, t.val % 2] ∧ (cfg0.win 1).index t = ![t.val % 2, 0] := by
  decide +kernel

/-- A place of a block of the rows. -/
theorem in0_at (t : Fin cfg0.N) (y : S1024x1024.Idx) (h0 : 1024 * (t.val / 2) + (y 0).val < 4096) (h1 : 1024 * (t.val % 2) + (y 1).val < 2048) :
    iblk m c 0 t y = V m c main_arg0 (ix2 (⟨1024 * (t.val / 2) + (y 0).val, h0⟩ : Fin 4096) (⟨1024 * (t.val % 2) + (y 1).val, h1⟩ : Fin 2048)) := by
  blk_ext [iblk, (idx_in t).1]

/-- A place of a block of the weights. -/
theorem in1_at (t : Fin cfg0.N) (y : S1024x1024.Idx) (h0 : 1024 * (t.val % 2) + (y 0).val < 2048) :
    iblk m c 1 t y = V m c main_arg1 (ix2 (⟨1024 * (t.val % 2) + (y 0).val, h0⟩ : Fin 2048) (y 1)) := by
  blk_ext [iblk, (idx_in t).2]

/-- A product of a place of a row with a place of a column. -/
def prods (a : Vec Ideal S4096x2048 .bf16) (b : Vec Ideal S2048x1024 .bf16) (i : S4096x1024.Idx) (k : Fin 2048) : EReal :=
  (a (ix2 (i 0) k) : EReal) * b (ix2 k (i 1))

/-- The reference's result is the whole product. -/
theorem reference_at (x0 : Vec Ideal S4096x2048 .bf16) (x1 : Vec Ideal S2048x1024 .bf16) (i : S4096x1024.Idx) :
    Cert.Reference11Ideal.Read.val_main_v2 (F := Ideal) x0 x1 i = ∑ k, prods x0 x1 i k := by
  pointwise [Cert.Reference11Ideal.Read.val_main_v2, Cert.Reference11Ideal.Read.val_main_v1, Cert.Reference11Ideal.Read.val_main_v0, prods]

/-- What point `n` adds, and nothing past the grid. -/
def addend (n : ℕ) (y : S1024x1024.Idx) : EReal :=
  if h : n < cfg0.N then share (iblk m c 0 ⟨n, h⟩) (iblk m c 1 ⟨n, h⟩) y else 0

/-- What the scratch holds after a point: the shares since the row of blocks began. -/
theorem scratch_at (t : Fin cfg0.N) (y : S1024x1024.Idx) :
    (outsAt0 m c t.val t.isLt).2 y = ∑ s ∈ Finset.range (t.val % 2 + 1), addend m c (2 * (t.val / 2) + s) y := by
  refine (Pipeline.eq_sum_of_reset_step_apply (fun n h => (outsAt0 m c n h).2) 2 (fun _ => (0 : EReal)) (addend m c) ?_ ?_ t y).trans (zero_add _)
  · intro t h y
    have h1 : ¬t.val % 2 = 1 := by omega
    show (outsAt0 m c t.val t.isLt).2 y = _
    rw [outsAt0_A m c t h h1]
    frame_out
    rw [pay_add, pay_zero]
    unfold addend
    rw [dif_pos t.isLt]
  · intro t h y
    have h1 : t.val % 2 = 1 := by omega
    show (outsAt0 m c t.val t.isLt).2 y = (outsAt0 m c (t.val - 1) _).2 y + _
    rw [outsAt0_B m c t h h1]
    frame_out
    rw [pay_add]
    simp only [read_unread_whole]
    unfold addend
    rw [dif_pos t.isLt]

/-- What the last point of a row of blocks writes is the scratch it leaves. -/
theorem out_at (t : Fin cfg0.N) (h : t.val % 2 = 1) (y : S1024x1024.Idx) : (outsAt0 m c t.val t.isLt).1 y = (outsAt0 m c t.val t.isLt).2 y := by
  have h0 : ¬t.val % 2 = 0 := by omega
  rw [outsAt0_B m c t h0 h]
  frame_out

/-- One block of the product along the inner width. -/
theorem addend_at (i : S4096x1024.Idx) (s : ℕ) (hs : s < 2) :
    addend m c (2 * Value.run2Of i + s) (Value.loc2Of i)
      = ∑ k : Fin 1024, if hk : 1024 * s + k.val < 2048 then prods (V m c main_arg0) (V m c main_arg1) i ⟨1024 * s + k.val, hk⟩ else 0 := by
  have h0 : (i 0).val < 4096 := (i 0).isLt
  have h1 : (i 1).val < 1024 := (i 1).isLt
  have hr : Value.run2Of i = (i 0).val / 1024 := by
    show 1 * ((i 0).val / 1024 - 0) + 1 * ((i 1).val / 1024 - 0) = _
    omega
  have hn : 2 * Value.run2Of i + s < cfg0.N := lt_of_lt_of_eq (by omega) (show 8 = cfg0.N from N_0.symm)
  unfold addend share prods
  rw [dif_pos hn]
  refine Finset.sum_congr rfl fun k _ => ?_
  have hk : 1024 * s + k.val < 2048 := by omega
  have hrow : 1024 * ((2 * Value.run2Of i + s) / 2) + (i 0).val % 1024 < 4096 := by omega
  have hcol : 1024 * ((2 * Value.run2Of i + s) % 2) + k.val < 2048 := by omega
  have ea : (⟨1024 * ((2 * Value.run2Of i + s) / 2) + (i 0).val % 1024, hrow⟩ : Fin 4096) = i 0 := Fin.ext (by
    show 1024 * ((2 * Value.run2Of i + s) / 2) + (i 0).val % 1024 = (i 0).val
    omega)
  have hk' : (⟨1024 * ((2 * Value.run2Of i + s) % 2) + k.val, hcol⟩ : Fin 2048) = ⟨1024 * s + k.val, hk⟩ := Fin.ext (by
    show 1024 * ((2 * Value.run2Of i + s) % 2) + k.val = 1024 * s + k.val
    omega)
  have eb : Value.loc2Of i 1 = i 1 := Fin.ext (by
    show (i 1).val % 1024 = (i 1).val
    omega)
  rw [dif_pos hk]
  exact congrArg₂ (· * ·) ((in0_at m c ⟨_, hn⟩ (ix2 (Value.loc2Of i 0) k) hrow hcol).trans (congrArg _ (congrArg₂ ix2 ea hk')))
    ((in1_at m c ⟨_, hn⟩ (ix2 k (Value.loc2Of i 1)) hcol).trans (congrArg _ (congrArg₂ ix2 hk' eb)))

/-- The kernel's result is the reference's. -/
theorem result : Value.G2 (F := Ideal) m c = Cert.Reference11Ideal.Read.val_main_v2 (F := Ideal) (m ((c.tc : Thread nD τ).loc main_arg0))
    (m ((c.tc : Thread nD τ).loc main_arg1)) := by
  funext i
  have h0 : (i 0).val < 4096 := (i 0).isLt
  have h1 : (i 1).val < 1024 := (i 1).isLt
  have hr : Value.run2Of i = (i 0).val / 1024 := by
    show 1 * ((i 0).val / 1024 - 0) + 1 * ((i 1).val / 1024 - 0) = _
    omega
  have hn : Value.pt2Of i < cfg0.N := lt_of_lt_of_eq (show 2 * Value.run2Of i + 1 < 8 by omega) (show 8 = cfg0.N from N_0.symm)
  have hm : Value.pt2Of i % 2 = 1 := by
    show (2 * Value.run2Of i + 1) % 2 = 1
    omega
  have hd : 2 * (Value.pt2Of i / 2) = 2 * Value.run2Of i := by
    show 2 * ((2 * Value.run2Of i + 1) / 2) = _
    omega
  unfold Value.G2
  rw [dif_pos hn, ← Value.outsAt0_sweep m c (Value.pt2Of i) hn, out_at m c ⟨_, hn⟩ hm, scratch_at m c ⟨_, hn⟩, reference_at]
  show ∑ s ∈ Finset.range (Value.pt2Of i % 2 + 1), addend m c (2 * (Value.pt2Of i / 2) + s) (Value.loc2Of i) = _
  rw [hm, hd, Finset.sum_congr rfl fun s hs => addend_at m c i s (Finset.mem_range.mp hs),
    Blockwise.sum_blocks 2 1024 2048 rfl _ (prods (V m c main_arg0) (V m c main_arg1) i) fun s _ => rfl, V_main_arg0, V_main_arg1]

end OutputProjection

end
-- ==== Proof.MixerWeightGrad.lean ====
module

public import proofs.«01_k».proof.Proof.Blocks
public import proofs.«01_k».proof.Proof.Gen.Kernel12Ideal.Value
public import proofs.«01_k».proof.Proof.Gen.Reference12Ideal.Read
public import Idealize.ShloMosaic.Lib.Pointwise
public import Idealize.ShloMosaic.Lib.Pipeline.ValueKit
public import Idealize.ShloMosaic.Lib.Pipeline.ReadBack

/-!
# The gradient of the input projection's weights for the state-space mixer

The kernel adds up the product of the rows, block by block along the sequence, in a scratch array. The reference takes the whole product.
-/

@[expose] public section

set_option maxRecDepth 16384

noncomputable section

namespace MixerWeightGrad

open Idealize.ShloMosaic Idealize.ShloMosaic.TcCoe Cert.Kernel12Ideal Cert.Kernel12Ideal.Gen

variable (m : (l : Loc nD τ Cert.Kernel12Ideal.sig) → Buf (Elt Ideal) l) (c : Dev nD)

/-- What one point of the grid adds at a place of its block. -/
def share (x0 : Vec Ideal S512x768 .f32) (x1 : Vec Ideal S512x1024 .bf16) (y : S768x1024.Idx) : EReal :=
  ∑ k : Fin 512, (x0 (ix2 k (y 0)) : EReal) * x1 (ix2 k (y 1))

/-- The body adds its share to what the scratch holds. -/
theorem pay_add (acc : Vec Ideal S768x1024 .f32) (x0 : Vec Ideal S512x768 .f32) (x1 : Vec Ideal S512x1024 .bf16) (y : S768x1024.Idx) :
    k0_pay2 (F := Ideal) acc x0 x1 y = acc y + share x0 x1 y := by
  pointwise [k0_pay2, share]

/-- The scratch begins at zero. -/
theorem pay_zero (y : S768x1024.Idx) : k0_pay1 (F := Ideal) y = 0 := by
  pointwise [k0_pay1]

/-- The last point writes the scratch as it is. -/
theorem pay_out (v : Vec Ideal S768x1024 .f32) (y : S768x1024.Idx) : k0_pay3 (F := Ideal) v y = v y := by
  pointwise [k0_pay3]

/-- Where each block of the operands begins. -/
theorem idx_in : ∀ t : Fin cfg0.N, (cfg0.win 0).index t = ![t.val % 8, t.val / 8] ∧ (cfg0.win 1).index t = ![t.val % 8, 0] := by
  decide +kernel

/-- A place of a block of the gradient of the product. -/
theorem in0_at (t : Fin cfg0.N) (y : S512x768.Idx) (h0 : 512 * (t.val % 8) + (y 0).val < 4096) (h1 : 768 * (t.val / 8) + (y 1).val < 1536) :
    iblk m c 0 t y = V m c main_arg0 (ix2 (⟨512 * (t.val % 8) + (y 0).val, h0⟩ : Fin 4096) (⟨768 * (t.val / 8) + (y 1).val, h1⟩ : Fin 1536)) := by
  blk_ext [iblk, (idx_in t).1]

/-- A place of a block of the rows that were multiplied. -/
theorem in1_at (t : Fin cfg0.N) (y : S512x1024.Idx) (h0 : 512 * (t.val % 8) + (y 0).val < 4096) :
    iblk m c 1 t y = V m c main_arg1 (ix2 (⟨512 * (t.val % 8) + (y 0).val, h0⟩ : Fin 4096) (y 1)) := by
  blk_ext [iblk, (idx_in t).2]

/-- A product of two places of one row. -/
def prods (a : Vec Ideal S4096x1536 .f32) (b : Vec Ideal S4096x1024 .bf16) (i : S1536x1024.Idx) (k : Fin 4096) : EReal :=
  (a (ix2 k (i 0)) : EReal) * b (ix2 k (i 1))

/-- The reference's result is the whole product. -/
theorem reference_at (x0 : Vec Ideal S4096x1536 .f32) (x1 : Vec Ideal S4096x1024 .bf16) (i : S1536x1024.Idx) :
    Cert.Reference12Ideal.Read.val_main_v6 (F := Ideal) x0 x1 i = ∑ k, prods x0 x1 i k := by
  pointwise [Cert.Reference12Ideal.Read.val_main_v6, Cert.Reference12Ideal.Read.val_main_v5, Cert.Reference12Ideal.Read.val_main_v4,
    Cert.Reference12Ideal.Read.val_main_v3, Cert.Reference12Ideal.Read.val_main_v1, prods]

/-- What point `n` adds, and nothing past the grid. -/
def addend (n : ℕ) (y : S768x1024.Idx) : EReal :=
  if h : n < cfg0.N then share (iblk m c 0 ⟨n, h⟩) (iblk m c 1 ⟨n, h⟩) y else 0

/-- What the scratch holds after a point: the shares since the row of blocks began. -/
theorem scratch_at (t : Fin cfg0.N) (y : S768x1024.Idx) :
    (outsAt0 m c t.val t.isLt).2 y = ∑ s ∈ Finset.range (t.val % 8 + 1), addend m c (8 * (t.val / 8) + s) y := by
  refine (Pipeline.eq_sum_of_reset_step_apply (fun n h => (outsAt0 m c n h).2) 8 (fun _ => (0 : EReal)) (addend m c) ?_ ?_ t y).trans (zero_add _)
  · intro t h y
    have h1 : ¬t.val % 8 = 7 := by omega
    show (outsAt0 m c t.val t.isLt).2 y = _
    rw [outsAt0_A m c t h h1]
    frame_out
    rw [pay_add, pay_zero]
    unfold addend
    rw [dif_pos t.isLt]
  · intro t h y
    show (outsAt0 m c t.val t.isLt).2 y = (outsAt0 m c (t.val - 1) _).2 y + _
    by_cases h1 : t.val % 8 = 7
    · rw [outsAt0_C m c t h h1]
      frame_out
      rw [pay_add]
      simp only [read_unread_whole]
      unfold addend
      rw [dif_pos t.isLt]
    · rw [outsAt0_B m c t h h1]
      frame_out
      rw [pay_add]
      simp only [read_unread_whole]
      unfold addend
      rw [dif_pos t.isLt]

/-- What the last point of a row of blocks writes is the scratch it leaves. -/
theorem out_at (t : Fin cfg0.N) (h : t.val % 8 = 7) (y : S768x1024.Idx) : (outsAt0 m c t.val t.isLt).1 y = (outsAt0 m c t.val t.isLt).2 y := by
  have h0 : ¬t.val % 8 = 0 := by omega
  rw [outsAt0_C m c t h0 h]
  frame_out
  exact pay_out _ _

/-- One block of the product along the sequence. -/
theorem addend_at (i : S1536x1024.Idx) (s : ℕ) (hs : s < 8) :
    addend m c (8 * Value.run2Of i + s) (Value.loc2Of i)
      = ∑ k : Fin 512, if hk : 512 * s + k.val < 4096 then prods (V m c main_arg0) (V m c main_arg1) i ⟨512 * s + k.val, hk⟩ else 0 := by
  have h0 : (i 0).val < 1536 := (i 0).isLt
  have h1 : (i 1).val < 1024 := (i 1).isLt
  have hr : Value.run2Of i = (i 0).val / 768 := by
    show 1 * ((i 0).val / 768 - 0) + 1 * ((i 1).val / 1024 - 0) = _
    omega
  have hn : 8 * Value.run2Of i + s < cfg0.N := lt_of_lt_of_eq (by omega) (show 16 = cfg0.N from N_0.symm)
  unfold addend share prods
  rw [dif_pos hn]
  refine Finset.sum_congr rfl fun k _ => ?_
  have hk : 512 * s + k.val < 4096 := by omega
  have hrow : 512 * ((8 * Value.run2Of i + s) % 8) + k.val < 4096 := by omega
  have hcol : 768 * ((8 * Value.run2Of i + s) / 8) + (i 0).val % 768 < 1536 := by omega
  have hk' : (⟨512 * ((8 * Value.run2Of i + s) % 8) + k.val, hrow⟩ : Fin 4096) = ⟨512 * s + k.val, hk⟩ := Fin.ext (by
    show 512 * ((8 * Value.run2Of i + s) % 8) + k.val = 512 * s + k.val
    omega)
  have ea : (⟨768 * ((8 * Value.run2Of i + s) / 8) + (i 0).val % 768, hcol⟩ : Fin 1536) = i 0 := Fin.ext (by
    show 768 * ((8 * Value.run2Of i + s) / 8) + (i 0).val % 768 = (i 0).val
    omega)
  have eb : Value.loc2Of i 1 = i 1 := Fin.ext (by
    show (i 1).val % 1024 = (i 1).val
    omega)
  rw [dif_pos hk]
  exact congrArg₂ (· * ·) ((in0_at m c ⟨_, hn⟩ (ix2 k (Value.loc2Of i 0)) hrow hcol).trans (congrArg _ (congrArg₂ ix2 hk' ea)))
    ((in1_at m c ⟨_, hn⟩ (ix2 k (Value.loc2Of i 1)) hrow).trans (congrArg _ (congrArg₂ ix2 hk' eb)))

/-- The kernel's result is the reference's. -/
theorem result : Value.G2 (F := Ideal) m c = Cert.Reference12Ideal.Read.val_main_v6 (F := Ideal) (m ((c.tc : Thread nD τ).loc main_arg0))
    (m ((c.tc : Thread nD τ).loc main_arg1)) := by
  funext i
  have h0 : (i 0).val < 1536 := (i 0).isLt
  have h1 : (i 1).val < 1024 := (i 1).isLt
  have hr : Value.run2Of i = (i 0).val / 768 := by
    show 1 * ((i 0).val / 768 - 0) + 1 * ((i 1).val / 1024 - 0) = _
    omega
  have hn : Value.pt2Of i < cfg0.N := lt_of_lt_of_eq (show 8 * Value.run2Of i + 7 < 16 by omega) (show 16 = cfg0.N from N_0.symm)
  have hm : Value.pt2Of i % 8 = 7 := by
    show (8 * Value.run2Of i + 7) % 8 = 7
    omega
  have hd : 8 * (Value.pt2Of i / 8) = 8 * Value.run2Of i := by
    show 8 * ((8 * Value.run2Of i + 7) / 8) = _
    omega
  unfold Value.G2
  rw [dif_pos hn, ← Value.outsAt0_sweep m c (Value.pt2Of i) hn, out_at m c ⟨_, hn⟩ hm, scratch_at m c ⟨_, hn⟩, reference_at]
  show ∑ s ∈ Finset.range (Value.pt2Of i % 8 + 1), addend m c (8 * (Value.pt2Of i / 8) + s) (Value.loc2Of i) = _
  rw [hm, hd, Finset.sum_congr rfl fun s hs => addend_at m c i s (Finset.mem_range.mp hs),
    Blockwise.sum_blocks 8 512 4096 rfl _ (prods (V m c main_arg0) (V m c main_arg1) i) fun s _ => rfl, V_main_arg0, V_main_arg1]

end MixerWeightGrad

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Pre_bounded
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import Idealize.ShloMosaic.Adequacy
public import proofs.«01_k».proof.Proof.Final
public import proofs.«01_k».proof.Proof.RowGrad
public import proofs.«01_k».proof.Proof.WeightGrad
public import proofs.«01_k».proof.Proof.InputWeightGrad
public import proofs.«01_k».proof.Proof.OutputRowGrad
public import proofs.«01_k».proof.Proof.ActivationGrad
public import proofs.«01_k».proof.Proof.OutputWeightGrad
public import proofs.«01_k».proof.Proof.InputProjection
public import proofs.«01_k».proof.Proof.Activation
public import proofs.«01_k».proof.Proof.DownProjection
public import proofs.«01_k».proof.Proof.OutputProjection
public import proofs.«01_k».proof.Proof.MixerWeightGrad
public import Idealize.ShloMosaic.Init
public import Idealize.ShloMosaic.Lib.Quiescent

@[expose] public section

noncomputable section

namespace Cert.Proof

open Idealize.ShloMosaic Idealize.SL.Sem
open Cert.ReferenceIdeal (main_arg0 main_arg1 main_arg2 main_arg3 main_arg4 main_v90 main_v98 main_v111 main_v115)
open Cert.ReferenceIdeal.Read (val_main_v98 val_main_v90 val_main_v111 val_main_v115)

/-- Where the reference keeps an array on a device. -/
abbrev loc (c : Dev Cert.ReferenceIdeal.nD) (b : Ref Cert.ReferenceIdeal.sig .tc) : Loc Cert.ReferenceIdeal.nD Cert.ReferenceIdeal.τ Cert.ReferenceIdeal.sig :=
  (c.tc : Thread Cert.ReferenceIdeal.nD Cert.ReferenceIdeal.τ).loc b

set_option maxHeartbeats 4000000 in
/-- The reference leaves the stages' values in its results and its arguments as they were. -/
theorem reference_run (m : (l : Loc Cert.ReferenceIdeal.nD Cert.ReferenceIdeal.τ Cert.ReferenceIdeal.sig) → Buf (Elt Ideal) l)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        (r.2.mem (loc c main_v98) = val_main_v98 (F := Ideal) (m (loc c main_arg0)) (m (loc c main_arg1)) (m (loc c main_arg2)) (m (loc c main_arg3)) (m (loc c main_arg4))
        ∧ r.2.mem (loc c main_v90) = val_main_v90 (F := Ideal) (m (loc c main_arg0)) (m (loc c main_arg1)) (m (loc c main_arg2)) (m (loc c main_arg3)) (m (loc c main_arg4))
        ∧ r.2.mem (loc c main_v111) = val_main_v111 (F := Ideal) (m (loc c main_arg0)) (m (loc c main_arg1)) (m (loc c main_arg2)) (m (loc c main_arg3)) (m (loc c main_arg4))
        ∧ r.2.mem (loc c main_v115) = val_main_v115 (F := Ideal) (m (loc c main_arg0)) (m (loc c main_arg1)) (m (loc c main_arg2)) (m (loc c main_arg3)) (m (loc c main_arg4)))
        ∧ (r.2.mem (loc c main_arg0) = m (loc c main_arg0) ∧ r.2.mem (loc c main_arg1) = m (loc c main_arg1)
          ∧ r.2.mem (loc c main_arg2) = m (loc c main_arg2) ∧ r.2.mem (loc c main_arg3) = m (loc c main_arg3)
          ∧ r.2.mem (loc c main_arg4) = m (loc c main_arg4))) := by
  refine (θ_run Cert.ReferenceIdeal.defs _ _).mono ?_ (Cert.ReferenceIdeal.Value.run (F := Ideal) m g)
  intro r h c
  obtain ⟨r0, r1, r2, r3, hargs⟩ := h c
  refine And.intro ⟨?_, ?_, ?_, ?_⟩ hargs
  · exact r0.trans (Cert.ReferenceIdeal.Read.val_main_v98_eq (StableHlo.launchContents m c))
  · exact r1.trans (Cert.ReferenceIdeal.Read.val_main_v90_eq (StableHlo.launchContents m c))
  · exact r2.trans (Cert.ReferenceIdeal.Read.val_main_v111_eq (StableHlo.launchContents m c))
  · exact r3.trans (Cert.ReferenceIdeal.Read.val_main_v115_eq (StableHlo.launchContents m c))

/-- The reference runs, leaves its arguments alone and ends with every counter at zero: it declares no semaphore. -/
theorem quiescent_reference : Cert.quiescent_ReferenceIdeal := by
  intro m g _
  refine (θ_run Cert.ReferenceIdeal.defs _ _).mono ?_ (reference_run m g)
  intro r h
  exact And.intro (fun c => (h c).2) (sem_eq_zero_of_no_sems (by decide) r.2)

set_option maxHeartbeats 1000000 in
/-- The kernel and the reference end with equal results on numbers. -/
theorem algebraic : Cert.algebraic_KernelIdeal_ReferenceIdeal_pre_finite := by
  intro m g m' g' hpre hagree
  refine ⟨fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, fun c => (Cert.KernelIdeal.Gen.dats m 0 c).arrAt 10 Cert.KernelIdeal.cfg0.N,
    Cert.KernelIdeal.Value.run_blocks m g, ?_⟩
  refine (θ_run Cert.ReferenceIdeal.defs _ _).mono ?_ (reference_run m' g')
  intro r h c
  obtain ⟨⟨r0, r1, r2, r3⟩, hargs⟩ := h c
  obtain ⟨e0, e1, e2, e3, e4⟩ := hagree c
  obtain ⟨s0, s1, s2, s3⟩ := Ssd.results m c (hpre c)
  rw [e0, e1, e2, e3, e4] at r0 r1 r2 r3
  exact ⟨r0.trans s0.symm, r1.trans s1.symm, r2.trans s2.symm, r3.trans s3.symm, hargs⟩

/-- The reference of the weights' gradient runs, leaves its arguments alone and ends with every counter at zero. -/
theorem quiescent_reference2 : Cert.quiescent_Reference2Ideal := by
  intro m g _
  refine (θ_run Cert.Reference2Ideal.defs _ _).mono ?_ (Cert.Reference2Ideal.Value.run (F := Ideal) m g)
  intro r h
  exact And.intro (fun c => (h c).2) (sem_eq_zero_of_no_sems (by decide) r.2)

/-- The kernel of the weights' gradient and its reference end with equal results. -/
theorem algebraic2 : Cert.algebraic_Kernel2Ideal_Reference2Ideal := by
  intro m g m' g' _ hagree
  refine ⟨fun c => Cert.Kernel2Ideal.Value.G2 (F := Ideal) m c, Cert.Kernel2Ideal.Value.run (F := Ideal) m g, ?_⟩
  refine (θ_run Cert.Reference2Ideal.defs _ _).mono ?_ (Cert.Reference2Ideal.Value.run (F := Ideal) m' g')
  intro r h c
  obtain ⟨hv, hargs⟩ := h c
  obtain ⟨e0, e1⟩ := hagree c
  have hr := hv.trans (Cert.Reference2Ideal.Read.val_main_v6_eq (F := Ideal) _ _)
  rw [e0, e1] at hr
  exact ⟨hr.trans (WeightGrad.result m c).symm, hargs⟩

/-- The reference of the rows' gradient runs, leaves its arguments alone and ends with every counter at zero. -/
theorem quiescent_reference3 : Cert.quiescent_Reference3Ideal := by
  intro m g _
  refine (θ_run Cert.Reference3Ideal.defs _ _).mono ?_ (Cert.Reference3Ideal.Value.run (F := Ideal) m g)
  intro r h
  exact And.intro (fun c => (h c).2) (sem_eq_zero_of_no_sems (by decide) r.2)

/-- The kernel of the rows' gradient and its reference end with equal results. -/
theorem algebraic3 : Cert.algebraic_Kernel3Ideal_Reference3Ideal := by
  intro m g m' g' _ hagree
  refine ⟨fun c => Cert.Kernel3Ideal.Value.G4 (F := Ideal) m c, Cert.Kernel3Ideal.Value.run (F := Ideal) m g, ?_⟩
  refine (θ_run Cert.Reference3Ideal.defs _ _).mono ?_ (Cert.Reference3Ideal.Value.run (F := Ideal) m' g')
  intro r h c
  obtain ⟨hv, hargs⟩ := h c
  obtain ⟨e0, e1, e2, e3⟩ := hagree c
  have hr := hv.trans (Cert.Reference3Ideal.Read.val_main_v11_eq (F := Ideal) _ _ _ _)
  rw [e0, e1, e2, e3] at hr
  exact ⟨hr.trans (RowGrad.result m c).symm, hargs⟩

/-- The reference of the input projection's weights' gradient runs, leaves its arguments alone and ends with every counter at zero. -/
theorem quiescent_reference4 : Cert.quiescent_Reference4Ideal := by
  intro m g _
  refine (θ_run Cert.Reference4Ideal.defs _ _).mono ?_ (Cert.Reference4Ideal.Value.run (F := Ideal) m g)
  intro r h
  exact And.intro (fun c => (h c).2) (sem_eq_zero_of_no_sems (by decide) r.2)

/-- The kernel of the input projection's weights' gradient and its reference end with equal results. -/
theorem algebraic4 : Cert.algebraic_Kernel4Ideal_Reference4Ideal := by
  intro m g m' g' _ hagree
  refine ⟨fun c => Cert.Kernel4Ideal.Value.G2 (F := Ideal) m c, Cert.Kernel4Ideal.Value.run (F := Ideal) m g, ?_⟩
  refine (θ_run Cert.Reference4Ideal.defs _ _).mono ?_ (Cert.Reference4Ideal.Value.run (F := Ideal) m' g')
  intro r h c
  obtain ⟨r0, hargs⟩ := h c
  obtain ⟨e0, e1⟩ := hagree c
  have s0 := r0.trans (Cert.Reference4Ideal.Read.val_main_v6_eq (F := Ideal) _ _)
  rw [e0, e1] at s0
  exact ⟨s0.trans (InputWeightGrad.result m c).symm, hargs⟩

/-- The reference of the output projection's rows' gradient runs, leaves its arguments alone and ends with every counter at zero. -/
theorem quiescent_reference5 : Cert.quiescent_Reference5Ideal := by
  intro m g _
  refine (θ_run Cert.Reference5Ideal.defs _ _).mono ?_ (Cert.Reference5Ideal.Value.run (F := Ideal) m g)
  intro r h
  exact And.intro (fun c => (h c).2) (sem_eq_zero_of_no_sems (by decide) r.2)

/-- The kernel of the output projection's rows' gradient and its reference end with equal results. -/
theorem algebraic5 : Cert.algebraic_Kernel5Ideal_Reference5Ideal := by
  intro m g m' g' _ hagree
  refine ⟨fun c => (Cert.Kernel5Ideal.Gen.dats m 0 c).arrAt 2 Cert.Kernel5Ideal.cfg0.N,
    Cert.Kernel5Ideal.Value.run_blocks m g, ?_⟩
  refine (θ_run Cert.Reference5Ideal.defs _ _).mono ?_ (Cert.Reference5Ideal.Value.run (F := Ideal) m' g')
  intro r h c
  obtain ⟨r0, hargs⟩ := h c
  obtain ⟨e0, e1⟩ := hagree c
  have s0 := r0.trans (Cert.Reference5Ideal.Read.val_main_v4_eq (F := Ideal) _ _)
  rw [e0, e1] at s0
  exact ⟨s0.trans (OutputRowGrad.result m c).symm, hargs⟩

/-- The reference of the activation's gradient runs, leaves its arguments alone and ends with every counter at zero. -/
theorem quiescent_reference6 : Cert.quiescent_Reference6Ideal := by
  intro m g _
  refine (θ_run Cert.Reference6Ideal.defs _ _).mono ?_ (Cert.Reference6Ideal.Value.run (F := Ideal) m g)
  intro r h
  exact And.intro (fun c => (h c).2.2) (sem_eq_zero_of_no_sems (by decide) r.2)

/-- The kernel of the activation's gradient and its reference end with equal results where the rows, the weights and the second factor are finite. -/
theorem algebraic6 : Cert.algebraic_Kernel6Ideal_Reference6Ideal_pre_bounded := by
  intro m g m' g' hpre hagree
  refine ⟨fun c => (Cert.Kernel6Ideal.Gen.dats m 0 c).arrAt 4 Cert.Kernel6Ideal.cfg0.N,
    fun c => (Cert.Kernel6Ideal.Gen.dats m 0 c).arrAt 5 Cert.Kernel6Ideal.cfg0.N,
    Cert.Kernel6Ideal.Value.run_blocks m g, ?_⟩
  refine (θ_run Cert.Reference6Ideal.defs _ _).mono ?_ (Cert.Reference6Ideal.Value.run (F := Ideal) m' g')
  intro r h c
  obtain ⟨r0, r1, hargs⟩ := h c
  obtain ⟨e0, e1, e2, e3⟩ := hagree c
  have s0 := r0.trans (Cert.Reference6Ideal.Read.val_main_v9_eq (F := Ideal) _ _ _ _)
  have s1 := r1.trans (Cert.Reference6Ideal.Read.val_main_v10_eq (F := Ideal) _ _ _)
  rw [e0, e1, e2, e3] at s0
  rw [e0, e1, e2] at s1
  exact ⟨s0.trans (ActivationGrad.result_dgate m c (hpre c)).symm, s1.trans (ActivationGrad.result_dup m c).symm, hargs⟩

/-- The reference of the output projection's weights' gradient runs, leaves its arguments alone and ends with every counter at zero. -/
theorem quiescent_reference7 : Cert.quiescent_Reference7Ideal := by
  intro m g _
  refine (θ_run Cert.Reference7Ideal.defs _ _).mono ?_ (Cert.Reference7Ideal.Value.run (F := Ideal) m g)
  intro r h
  exact And.intro (fun c => (h c).2) (sem_eq_zero_of_no_sems (by decide) r.2)

/-- The kernel of the output projection's weights' gradient and its reference end with equal results. -/
theorem algebraic7 : Cert.algebraic_Kernel7Ideal_Reference7Ideal := by
  intro m g m' g' _ hagree
  refine ⟨fun c => Cert.Kernel7Ideal.Value.G2 (F := Ideal) m c, Cert.Kernel7Ideal.Value.run (F := Ideal) m g, ?_⟩
  refine (θ_run Cert.Reference7Ideal.defs _ _).mono ?_ (Cert.Reference7Ideal.Value.run (F := Ideal) m' g')
  intro r h c
  obtain ⟨r0, hargs⟩ := h c
  obtain ⟨e0, e1⟩ := hagree c
  have s0 := r0.trans (Cert.Reference7Ideal.Read.val_main_v6_eq (F := Ideal) _ _)
  rw [e0, e1] at s0
  exact ⟨s0.trans (OutputWeightGrad.result m c).symm, hargs⟩

/-- The reference of the input projection runs, leaves its arguments alone and ends with every counter at zero. -/
theorem quiescent_reference8 : Cert.quiescent_Reference8Ideal := by
  intro m g _
  refine (θ_run Cert.Reference8Ideal.defs _ _).mono ?_ (Cert.Reference8Ideal.Value.run (F := Ideal) m g)
  intro r h
  exact And.intro (fun c => (h c).2) (sem_eq_zero_of_no_sems (by decide) r.2)

/-- The kernel of the input projection and its reference end with equal results. -/
theorem algebraic8 : Cert.algebraic_Kernel8Ideal_Reference8Ideal := by
  intro m g m' g' _ hagree
  refine ⟨fun c => (Cert.Kernel8Ideal.Gen.dats m 0 c).arrAt 2 Cert.Kernel8Ideal.cfg0.N,
    Cert.Kernel8Ideal.Value.run_blocks m g, ?_⟩
  refine (θ_run Cert.Reference8Ideal.defs _ _).mono ?_ (Cert.Reference8Ideal.Value.run (F := Ideal) m' g')
  intro r h c
  obtain ⟨r0, hargs⟩ := h c
  obtain ⟨e0, e1⟩ := hagree c
  have s0 := r0.trans (Cert.Reference8Ideal.Read.val_main_v3_eq (F := Ideal) _ _)
  rw [e0, e1] at s0
  exact ⟨s0.trans (InputProjection.result m c).symm, hargs⟩

/-- The reference of the activation runs, leaves its arguments alone and ends with every counter at zero. -/
theorem quiescent_reference9 : Cert.quiescent_Reference9Ideal := by
  intro m g _
  refine (θ_run Cert.Reference9Ideal.defs _ _).mono ?_ (Cert.Reference9Ideal.Value.run (F := Ideal) m g)
  intro r h
  exact And.intro (fun c => (h c).2.2.2) (sem_eq_zero_of_no_sems (by decide) r.2)

/-- The kernel of the activation and its reference end with equal results. -/
theorem algebraic9 : Cert.algebraic_Kernel9Ideal_Reference9Ideal := by
  intro m g m' g' _ hagree
  refine ⟨fun c => (Cert.Kernel9Ideal.Gen.dats m 0 c).arrAt 3 Cert.Kernel9Ideal.cfg0.N,
    fun c => (Cert.Kernel9Ideal.Gen.dats m 0 c).arrAt 4 Cert.Kernel9Ideal.cfg0.N,
    fun c => (Cert.Kernel9Ideal.Gen.dats m 0 c).arrAt 5 Cert.Kernel9Ideal.cfg0.N,
    Cert.Kernel9Ideal.Value.run_blocks m g, ?_⟩
  refine (θ_run Cert.Reference9Ideal.defs _ _).mono ?_ (Cert.Reference9Ideal.Value.run (F := Ideal) m' g')
  intro r h c
  obtain ⟨r0, r1, r2, hargs⟩ := h c
  obtain ⟨e0, e1, e2⟩ := hagree c
  have s0 := r0.trans (Cert.Reference9Ideal.Read.val_main_v3_eq (F := Ideal) _ _)
  have s1 := r1.trans (Cert.Reference9Ideal.Read.val_main_v6_eq (F := Ideal) _ _)
  have s2 := r2.trans (Cert.Reference9Ideal.Read.val_main_v9_eq (F := Ideal) _ _ _)
  rw [e0, e1] at s0
  rw [e0, e2] at s1
  rw [e0, e1, e2] at s2
  exact ⟨s0.trans (Activation.result_gate m c).symm, s1.trans (Activation.result_up m c).symm, s2.trans (Activation.result_act m c).symm, hargs⟩

/-- The reference of the second product of the feed-forward layer runs, leaves its arguments alone and ends with every counter at zero. -/
theorem quiescent_reference10 : Cert.quiescent_Reference10Ideal := by
  intro m g _
  refine (θ_run Cert.Reference10Ideal.defs _ _).mono ?_ (Cert.Reference10Ideal.Value.run (F := Ideal) m g)
  intro r h
  exact And.intro (fun c => (h c).2) (sem_eq_zero_of_no_sems (by decide) r.2)

/-- The kernel of the second product of the feed-forward layer and its reference end with equal results. -/
theorem algebraic10 : Cert.algebraic_Kernel10Ideal_Reference10Ideal := by
  intro m g m' g' _ hagree
  refine ⟨fun c => Cert.Kernel10Ideal.Value.G2 (F := Ideal) m c, Cert.Kernel10Ideal.Value.run (F := Ideal) m g, ?_⟩
  refine (θ_run Cert.Reference10Ideal.defs _ _).mono ?_ (Cert.Reference10Ideal.Value.run (F := Ideal) m' g')
  intro r h c
  obtain ⟨r0, hargs⟩ := h c
  obtain ⟨e0, e1⟩ := hagree c
  have s0 := r0.trans (Cert.Reference10Ideal.Read.val_main_v2_eq (F := Ideal) _ _)
  rw [e0, e1] at s0
  exact ⟨s0.trans (DownProjection.result m c).symm, hargs⟩

/-- The reference of the output projection runs, leaves its arguments alone and ends with every counter at zero. -/
theorem quiescent_reference11 : Cert.quiescent_Reference11Ideal := by
  intro m g _
  refine (θ_run Cert.Reference11Ideal.defs _ _).mono ?_ (Cert.Reference11Ideal.Value.run (F := Ideal) m g)
  intro r h
  exact And.intro (fun c => (h c).2) (sem_eq_zero_of_no_sems (by decide) r.2)

/-- The kernel of the output projection and its reference end with equal results. -/
theorem algebraic11 : Cert.algebraic_Kernel11Ideal_Reference11Ideal := by
  intro m g m' g' _ hagree
  refine ⟨fun c => Cert.Kernel11Ideal.Value.G2 (F := Ideal) m c, Cert.Kernel11Ideal.Value.run (F := Ideal) m g, ?_⟩
  refine (θ_run Cert.Reference11Ideal.defs _ _).mono ?_ (Cert.Reference11Ideal.Value.run (F := Ideal) m' g')
  intro r h c
  obtain ⟨r0, hargs⟩ := h c
  obtain ⟨e0, e1⟩ := hagree c
  have s0 := r0.trans (Cert.Reference11Ideal.Read.val_main_v2_eq (F := Ideal) _ _)
  rw [e0, e1] at s0
  exact ⟨s0.trans (OutputProjection.result m c).symm, hargs⟩

/-- The reference of the gradient of the input projection's weights for the mixer runs, leaves its arguments alone and ends with every counter at zero. -/
theorem quiescent_reference12 : Cert.quiescent_Reference12Ideal := by
  intro m g _
  refine (θ_run Cert.Reference12Ideal.defs _ _).mono ?_ (Cert.Reference12Ideal.Value.run (F := Ideal) m g)
  intro r h
  exact And.intro (fun c => (h c).2) (sem_eq_zero_of_no_sems (by decide) r.2)

/-- The kernel of the gradient of the input projection's weights for the mixer and its reference end with equal results. -/
theorem algebraic12 : Cert.algebraic_Kernel12Ideal_Reference12Ideal := by
  intro m g m' g' _ hagree
  refine ⟨fun c => Cert.Kernel12Ideal.Value.G2 (F := Ideal) m c, Cert.Kernel12Ideal.Value.run (F := Ideal) m g, ?_⟩
  refine (θ_run Cert.Reference12Ideal.defs _ _).mono ?_ (Cert.Reference12Ideal.Value.run (F := Ideal) m' g')
  intro r h c
  obtain ⟨r0, hargs⟩ := h c
  obtain ⟨e0, e1⟩ := hagree c
  have s0 := r0.trans (Cert.Reference12Ideal.Read.val_main_v6_eq (F := Ideal) _ _)
  rw [e0, e1] at s0
  exact ⟨s0.trans (MixerWeightGrad.result m c).symm, hargs⟩

/-- Every claim about the kernels, their exact readings and the references. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts, Cert.Kernel12Ideal.Gen.facts, Cert.Reference12Ideal.Gen.facts,
    Cert.Pre_finite.Gen.facts, Cert.Pre_bounded.Gen.facts,
    fun m g _ => Cert.Kernel.Gen.frame m g, fun m g _ => Cert.KernelIdeal.Gen.frame m g, fun m g _ => Cert.KernelIdeal.Gen.frame m g,
    quiescent_reference, fun m g _ => quiescent_reference m g trivial,
    fun m g _ => Cert.Kernel2.Gen.frame m g, fun m g _ => Cert.Kernel2Ideal.Gen.frame m g, quiescent_reference2,
    fun m g _ => Cert.Kernel3.Gen.frame m g, fun m g _ => Cert.Kernel3Ideal.Gen.frame m g, quiescent_reference3,
    fun m g _ => Cert.Kernel4.Gen.frame m g, fun m g _ => Cert.Kernel4Ideal.Gen.frame m g, quiescent_reference4,
    fun m g _ => Cert.Kernel5.Gen.frame m g, fun m g _ => Cert.Kernel5Ideal.Gen.frame m g, quiescent_reference5,
    fun m g _ => Cert.Kernel6.Gen.frame m g, fun m g _ => Cert.Kernel6Ideal.Gen.frame m g, fun m g _ => Cert.Kernel6Ideal.Gen.frame m g,
    quiescent_reference6, fun m g _ => quiescent_reference6 m g trivial,
    fun m g _ => Cert.Kernel7.Gen.frame m g, fun m g _ => Cert.Kernel7Ideal.Gen.frame m g, quiescent_reference7,
    fun m g _ => Cert.Kernel8.Gen.frame m g, fun m g _ => Cert.Kernel8Ideal.Gen.frame m g, quiescent_reference8,
    fun m g _ => Cert.Kernel9.Gen.frame m g, fun m g _ => Cert.Kernel9Ideal.Gen.frame m g, quiescent_reference9,
    fun m g _ => Cert.Kernel10.Gen.frame m g, fun m g _ => Cert.Kernel10Ideal.Gen.frame m g, quiescent_reference10,
    fun m g _ => Cert.Kernel11.Gen.frame m g, fun m g _ => Cert.Kernel11Ideal.Gen.frame m g, quiescent_reference11,
    fun m g _ => Cert.Kernel12.Gen.frame m g, fun m g _ => Cert.Kernel12Ideal.Gen.frame m g, quiescent_reference12,
    trivial, algebraic, trivial, algebraic2, trivial, algebraic3, trivial, algebraic4,
    trivial, algebraic5, trivial, algebraic6, trivial, algebraic7, trivial, algebraic8,
    trivial, algebraic9, trivial, algebraic10, trivial, algebraic11, trivial, algebraic12⟩

end Cert.Proof

end
